-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x64 : Shape := ⟨3, ![4, 1024, 64]⟩
abbrev S4x1024x3 : Shape := ⟨3, ![4, 1024, 3]⟩
abbrev S129x258 : Shape := ⟨2, ![129, 258]⟩
abbrev S258 : Shape := ⟨1, ![258]⟩
abbrev S258x16 : Shape := ⟨2, ![258, 16]⟩
abbrev S16 : Shape := ⟨1, ![16]⟩
abbrev S80x128 : Shape := ⟨2, ![80, 128]⟩
abbrev S128 : Shape := ⟨1, ![128]⟩
abbrev S128x64 : Shape := ⟨2, ![128, 64]⟩
abbrev S64 : Shape := ⟨1, ![64]⟩
abbrev S16x64 : Shape := ⟨2, ![16, 64]⟩
abbrev S64x1 : Shape := ⟨2, ![64, 1]⟩
abbrev S1 : Shape := ⟨1, ![1]⟩
abbrev S4x3x1024 : Shape := ⟨3, ![4, 3, 1024]⟩
abbrev S8192 : Shape := ⟨1, ![8192]⟩
abbrev S1x8192 : Shape := ⟨2, ![1, 8192]⟩
abbrev S_ : Shape := ⟨0, ![]⟩
abbrev S256 : Shape := ⟨1, ![256]⟩
abbrev S256x1 : Shape := ⟨2, ![256, 1]⟩
abbrev S256x8192 : Shape := ⟨2, ![256, 8192]⟩
abbrev S64x258 : Shape := ⟨2, ![64, 258]⟩
abbrev S1x258 : Shape := ⟨2, ![1, 258]⟩
abbrev S1x16 : Shape := ⟨2, ![1, 16]⟩
abbrev S64x128 : Shape := ⟨2, ![64, 128]⟩
abbrev S16x128 : Shape := ⟨2, ![16, 128]⟩
abbrev S1x128 : Shape := ⟨2, ![1, 128]⟩
abbrev S1x64 : Shape := ⟨2, ![1, 64]⟩
abbrev S64x2 : Shape := ⟨2, ![64, 2]⟩
abbrev S128x2 : Shape := ⟨2, ![128, 2]⟩
abbrev S2 : Shape := ⟨1, ![2]⟩
abbrev S1x2 : Shape := ⟨2, ![1, 2]⟩
abbrev S16x256x128 : Shape := ⟨3, ![16, 256, 128]⟩
abbrev S16x32x256 : Shape := ⟨3, ![16, 32, 256]⟩
abbrev S1x1024x64 : Shape := ⟨3, ![1, 1024, 64]⟩
abbrev S1x1024x3 : Shape := ⟨3, ![1, 1024, 3]⟩
abbrev S1x3x1024 : Shape := ⟨3, ![1, 3, 1024]⟩
abbrev S1x256x128 : Shape := ⟨3, ![1, 256, 128]⟩
abbrev S1x32x256 : Shape := ⟨3, ![1, 32, 256]⟩
abbrev S1024x3 : Shape := ⟨2, ![1024, 3]⟩
abbrev S1x256x64 : Shape := ⟨3, ![1, 256, 64]⟩
abbrev S256x64 : Shape := ⟨2, ![256, 64]⟩
abbrev S1x256x3 : Shape := ⟨3, ![1, 256, 3]⟩
abbrev S256x3 : Shape := ⟨2, ![256, 3]⟩
abbrev S1x1x256 : Shape := ⟨3, ![1, 1, 256]⟩
abbrev S1x256 : Shape := ⟨2, ![1, 256]⟩
abbrev S1024x1 : Shape := ⟨2, ![1024, 1]⟩
abbrev S1024x256 : Shape := ⟨2, ![1024, 256]⟩
abbrev S32x256 : Shape := ⟨2, ![32, 256]⟩
abbrev S3 : Shape := ⟨1, ![3]⟩
abbrev S1x3 : Shape := ⟨2, ![1, 3]⟩
abbrev S256x58 : Shape := ⟨2, ![256, 58]⟩
abbrev S256x128 : Shape := ⟨2, ![256, 128]⟩
abbrev S4096x128 : Shape := ⟨2, ![4096, 128]⟩
abbrev S1x131072 : Shape := ⟨2, ![1, 131072]⟩
abbrev S16x8192x1 : Shape := ⟨3, ![16, 8192, 1]⟩
abbrev S131072x128 : Shape := ⟨2, ![131072, 128]⟩
abbrev S2x1x128 : Shape := ⟨3, ![2, 1, 128]⟩
abbrev S2x128x128 : Shape := ⟨3, ![2, 128, 128]⟩
abbrev S1x1x128 : Shape := ⟨3, ![1, 1, 128]⟩
abbrev S1x128x128 : Shape := ⟨3, ![1, 128, 128]⟩
abbrev S128x128 : Shape := ⟨2, ![128, 128]⟩
abbrev S16x8192x128 : Shape := ⟨3, ![16, 8192, 128]⟩
abbrev S16x256x64 : Shape := ⟨3, ![16, 256, 64]⟩
abbrev S16x256x3 : Shape := ⟨3, ![16, 256, 3]⟩
abbrev S1x8192x128 : Shape := ⟨3, ![1, 8192, 128]⟩
abbrev S1x8192x1 : Shape := ⟨3, ![1, 8192, 1]⟩
abbrev S8192x1 : Shape := ⟨2, ![8192, 1]⟩
abbrev S256x258 : Shape := ⟨2, ![256, 258]⟩
abbrev S1x8192x64 : Shape := ⟨3, ![1, 8192, 64]⟩
abbrev S8192x64 : Shape := ⟨2, ![8192, 64]⟩
abbrev S8192x258 : Shape := ⟨2, ![8192, 258]⟩
abbrev S8192x16 : Shape := ⟨2, ![8192, 16]⟩
abbrev S8192x128 : Shape := ⟨2, ![8192, 128]⟩
abbrev S8192x2 : Shape := ⟨2, ![8192, 2]⟩
abbrev S8192x3 : Shape := ⟨2, ![8192, 3]⟩
abbrev S1x8192x3 : Shape := ⟨3, ![1, 8192, 3]⟩
abbrev S8192x19 : Shape := ⟨2, ![8192, 19]⟩
abbrev S256x19 : Shape := ⟨2, ![256, 19]⟩
abbrev S256x16 : Shape := ⟨2, ![256, 16]⟩

abbrev nBuf : Table → Nat
  | .hbm => 91
  | .local .tc .vmem => 42
  | .local .scVector .vmem => 2
  | _ => 0

abbrev bufTy : (tb : Table) → Fin (nBuf tb) → BufTy
  | .hbm, ⟨0, _⟩ => ⟨S4x1024x64, .f32⟩
  | .hbm, ⟨1, _⟩ => ⟨S4x1024x3, .f32⟩
  | .hbm, ⟨2, _⟩ => ⟨S129x258, .f32⟩
  | .hbm, ⟨3, _⟩ => ⟨S258, .f32⟩
  | .hbm, ⟨4, _⟩ => ⟨S258x16, .f32⟩
  | .hbm, ⟨5, _⟩ => ⟨S16, .f32⟩
  | .hbm, ⟨6, _⟩ => ⟨S80x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S16x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S16x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S4x3x1024, .f32⟩
  | .hbm, ⟨19, _⟩ => ⟨S8192, .i32⟩
  | .hbm, ⟨20, _⟩ => ⟨S1x8192, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S1x8192, .i32⟩
  | .hbm, ⟨28, _⟩ => ⟨S1x8192, .i32⟩
  | .hbm, ⟨29, _⟩ => ⟨S_, .i32⟩
  | .hbm, ⟨30, _⟩ => ⟨S1x8192, .i32⟩
  | .hbm, ⟨31, _⟩ => ⟨S1x8192, .i1⟩
  | .hbm, ⟨32, _⟩ => ⟨S_, .i32⟩
  | .hbm, ⟨33, _⟩ => ⟨S1x8192, .i32⟩
  | .hbm, ⟨34, _⟩ => ⟨S1x8192, .i1⟩
  | .hbm, ⟨35, _⟩ => ⟨S_, .i32⟩
  | .hbm, ⟨36, _⟩ => ⟨S_, .i1⟩
  | .hbm, ⟨37, _⟩ => ⟨S1x8192, .i1⟩
  | .hbm, ⟨38, _⟩ => ⟨S1x8192, .i1⟩
  | .hbm, ⟨39, _⟩ => ⟨S1x8192, .i1⟩
  | .hbm, ⟨40, _⟩ => ⟨S1x8192, .i32⟩
  | .hbm, ⟨41, _⟩ => ⟨S1x8192, .i32⟩
  | .hbm, ⟨42, _⟩ => ⟨S1x8192, .i32⟩
  | .hbm, ⟨43, _⟩ => ⟨S256, .i32⟩
  | .hbm, ⟨44, _⟩ => ⟨S256x1, .i32⟩
  | .hbm, ⟨45, _⟩ => ⟨S256x8192, .i32⟩
  | .hbm, ⟨46, _⟩ => ⟨S256x8192, .i32⟩
  | .hbm, ⟨47, _⟩ => ⟨S256x8192, .i1⟩
  | .hbm, ⟨48, _⟩ => ⟨S256x8192, .bf16⟩
  | .hbm, ⟨49, _⟩ => ⟨S64x258, .f32⟩
  | .hbm, ⟨50, _⟩ => ⟨S64x258, .bf16⟩
  | .hbm, ⟨51, _⟩ => ⟨S64x258, .f32⟩
  | .hbm, ⟨52, _⟩ => ⟨S64x258, .bf16⟩
  | .hbm, ⟨53, _⟩ => ⟨S1x258, .f32⟩
  | .hbm, ⟨54, _⟩ => ⟨S1x258, .bf16⟩
  | .hbm, ⟨55, _⟩ => ⟨S1x258, .f32⟩
  | .hbm, ⟨56, _⟩ => ⟨S258x16, .bf16⟩
  | .hbm, ⟨57, _⟩ => ⟨S1x16, .f32⟩
  | .hbm, ⟨58, _⟩ => ⟨S64x128, .f32⟩
  | .hbm, ⟨59, _⟩ => ⟨S64x128, .bf16⟩
  | .hbm, ⟨60, _⟩ => ⟨S16x128, .f32⟩
  | .hbm, ⟨61, _⟩ => ⟨S16x128, .bf16⟩
  | .hbm, ⟨62, _⟩ => ⟨S1x128, .f32⟩
  | .hbm, ⟨63, _⟩ => ⟨S128x64, .bf16⟩
  | .hbm, ⟨64, _⟩ => ⟨S1x64, .f32⟩
  | .hbm, ⟨65, _⟩ => ⟨S16x128, .f32⟩
  | .hbm, ⟨66, _⟩ => ⟨S16x128, .bf16⟩
  | .hbm, ⟨67, _⟩ => ⟨S128, .f32⟩
  | .hbm, ⟨68, _⟩ => ⟨S1x128, .f32⟩
  | .hbm, ⟨69, _⟩ => ⟨S_, .f32⟩
  | .hbm, ⟨70, _⟩ => ⟨S64x1, .f32⟩
  | .hbm, ⟨71, _⟩ => ⟨S64x2, .f32⟩
  | .hbm, ⟨72, _⟩ => ⟨S64x2, .f32⟩
  | .hbm, ⟨73, _⟩ => ⟨S128x2, .f32⟩
  | .hbm, ⟨74, _⟩ => ⟨S128x2, .bf16⟩
  | .hbm, ⟨75, _⟩ => ⟨S2, .f32⟩
  | .hbm, ⟨76, _⟩ => ⟨S1x2, .f32⟩
  | .hbm, ⟨77, _⟩ => ⟨S16x256x128, .f32⟩
  | .hbm, ⟨78, _⟩ => ⟨S16x32x256, .i32⟩
  | .hbm, ⟨79, _⟩ => ⟨S16x32x256, .f32⟩
  | .hbm, ⟨80, _⟩ => ⟨S4096x128, .f32⟩
  | .hbm, ⟨81, _⟩ => ⟨S1x131072, .i32⟩
  | .hbm, ⟨82, _⟩ => ⟨S16x8192x1, .f32⟩
  | .hbm, ⟨83, _⟩ => ⟨S131072x128, .f32⟩
  | .hbm, ⟨84, _⟩ => ⟨S16x8192x128, .f32⟩
  | .hbm, ⟨85, _⟩ => ⟨S16x256x64, .f32⟩
  | .hbm, ⟨86, _⟩ => ⟨S16x256x3, .f32⟩
  | .hbm, ⟨87, _⟩ => ⟨S16x256x64, .f32⟩
  | .hbm, ⟨88, _⟩ => ⟨S16x256x3, .f32⟩
  | .hbm, ⟨89, _⟩ => ⟨S4x1024x64, .f32⟩
  | .hbm, ⟨90, _⟩ => ⟨S4x1024x3, .f32⟩
  | .local .tc .vmem, ⟨0, _⟩ => ⟨S1x1024x64, .f32⟩
  | .local .tc .vmem, ⟨1, _⟩ => ⟨S1x1024x64, .f32⟩
  | .local .tc .vmem, ⟨2, _⟩ => ⟨S1x1024x3, .f32⟩
  | .local .tc .vmem, ⟨3, _⟩ => ⟨S1x1024x3, .f32⟩
  | .local .tc .vmem, ⟨4, _⟩ => ⟨S1x3x1024, .f32⟩
  | .local .tc .vmem, ⟨5, _⟩ => ⟨S1x3x1024, .f32⟩
  | .local .tc .vmem, ⟨6, _⟩ => ⟨S1x256x128, .f32⟩
  | .local .tc .vmem, ⟨7, _⟩ => ⟨S1x256x128, .f32⟩
  | .local .tc .vmem, ⟨8, _⟩ => ⟨S1x32x256, .i32⟩
  | .local .tc .vmem, ⟨9, _⟩ => ⟨S1x32x256, .i32⟩
  | .local .tc .vmem, ⟨10, _⟩ => ⟨S1x32x256, .f32⟩
  | .local .tc .vmem, ⟨11, _⟩ => ⟨S1x32x256, .f32⟩
  | .local .tc .vmem, ⟨12, _⟩ => ⟨S1x8192x128, .f32⟩
  | .local .tc .vmem, ⟨13, _⟩ => ⟨S1x8192x128, .f32⟩
  | .local .tc .vmem, ⟨14, _⟩ => ⟨S1x8192x1, .f32⟩
  | .local .tc .vmem, ⟨15, _⟩ => ⟨S1x8192x1, .f32⟩
  | .local .tc .vmem, ⟨16, _⟩ => ⟨S1x256x128, .f32⟩
  | .local .tc .vmem, ⟨17, _⟩ => ⟨S1x256x128, .f32⟩
  | .local .tc .vmem, ⟨18, _⟩ => ⟨S1x256x64, .f32⟩
  | .local .tc .vmem, ⟨19, _⟩ => ⟨S1x256x64, .f32⟩
  | .local .tc .vmem, ⟨20, _⟩ => ⟨S1x256x3, .f32⟩
  | .local .tc .vmem, ⟨21, _⟩ => ⟨S1x256x3, .f32⟩
  | .local .tc .vmem, ⟨22, _⟩ => ⟨S256x8192, .bf16⟩
  | .local .tc .vmem, ⟨23, _⟩ => ⟨S64x258, .bf16⟩
  | .local .tc .vmem, ⟨24, _⟩ => ⟨S64x258, .bf16⟩
  | .local .tc .vmem, ⟨25, _⟩ => ⟨S1x258, .bf16⟩
  | .local .tc .vmem, ⟨26, _⟩ => ⟨S1x258, .f32⟩
  | .local .tc .vmem, ⟨27, _⟩ => ⟨S258x16, .bf16⟩
  | .local .tc .vmem, ⟨28, _⟩ => ⟨S1x16, .f32⟩
  | .local .tc .vmem, ⟨29, _⟩ => ⟨S64x128, .bf16⟩
  | .local .tc .vmem, ⟨30, _⟩ => ⟨S16x128, .bf16⟩
  | .local .tc .vmem, ⟨31, _⟩ => ⟨S1x128, .f32⟩
  | .local .tc .vmem, ⟨32, _⟩ => ⟨S128x64, .bf16⟩
  | .local .tc .vmem, ⟨33, _⟩ => ⟨S1x64, .f32⟩
  | .local .tc .vmem, ⟨34, _⟩ => ⟨S16x128, .bf16⟩
  | .local .tc .vmem, ⟨35, _⟩ => ⟨S1x128, .f32⟩
  | .local .tc .vmem, ⟨36, _⟩ => ⟨S128x2, .bf16⟩
  | .local .tc .vmem, ⟨37, _⟩ => ⟨S1x2, .f32⟩
  | .local .tc .vmem, ⟨38, _⟩ => ⟨S1x256x64, .f32⟩
  | .local .tc .vmem, ⟨39, _⟩ => ⟨S1x256x64, .f32⟩
  | .local .tc .vmem, ⟨40, _⟩ => ⟨S1x256x3, .f32⟩
  | .local .tc .vmem, ⟨41, _⟩ => ⟨S1x256x3, .f32⟩
  | .local .scVector .vmem, ⟨0, _⟩ => ⟨S2x1x128, .i32⟩
  | .local .scVector .vmem, ⟨1, _⟩ => ⟨S2x128x128, .f32⟩
  | _, _ => ⟨S4x1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTables nBuf rfl bufTy 4 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37_0 : Ref sig .tc := ⟨.hbm, 77, rfl⟩
abbrev main_v37_1 : Ref sig .tc := ⟨.hbm, 78, rfl⟩
abbrev main_v37_2 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45_0 : Ref sig .tc := ⟨.hbm, 87, rfl⟩
abbrev main_v45_1 : Ref sig .tc := ⟨.hbm, 88, rfl⟩
abbrev main_v46 : Ref sig .tc := ⟨.hbm, 89, rfl⟩
abbrev main_v47 : Ref sig .tc := ⟨.hbm, 90, rfl⟩
abbrev main_v38_scv : Ref sig .scVector := ⟨.hbm, 80, rfl⟩
abbrev main_v39_scv : Ref sig .scVector := ⟨.hbm, 81, rfl⟩
abbrev main_v41_scv : Ref sig .scVector := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg13_0 : Ref sig .tc := ⟨.vmem, 30, rfl⟩
abbrev cc2_stg14_0 : Ref sig .tc := ⟨.vmem, 31, rfl⟩
abbrev cc2_stg15_0 : Ref sig .tc := ⟨.vmem, 32, rfl⟩
abbrev cc2_stg16_0 : Ref sig .tc := ⟨.vmem, 33, rfl⟩
abbrev cc2_stg17_0 : Ref sig .tc := ⟨.vmem, 34, rfl⟩
abbrev cc2_stg18_0 : Ref sig .tc := ⟨.vmem, 35, rfl⟩
abbrev cc2_stg19_0 : Ref sig .tc := ⟨.vmem, 36, rfl⟩
abbrev cc2_stg20_0 : Ref sig .tc := ⟨.vmem, 37, rfl⟩
abbrev cc2_stg21_0 : Ref sig .tc := ⟨.vmem, 38, rfl⟩
abbrev cc2_stg21_1 : Ref sig .tc := ⟨.vmem, 39, rfl⟩
abbrev cc2_stg22_0 : Ref sig .tc := ⟨.vmem, 40, rfl⟩
abbrev cc2_stg22_1 : Ref sig .tc := ⟨.vmem, 41, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem11_0 : DmaSem sig := 33
abbrev cc2_sem12_0 : DmaSem sig := 34
abbrev cc2_sem13_0 : DmaSem sig := 35
abbrev cc2_sem14_0 : DmaSem sig := 36
abbrev cc2_sem15_0 : DmaSem sig := 37
abbrev cc2_sem16_0 : DmaSem sig := 38
abbrev cc2_sem17_0 : DmaSem sig := 39
abbrev cc2_sem18_0 : DmaSem sig := 40
abbrev cc2_sem19_0 : DmaSem sig := 41
abbrev cc2_sem20_0 : DmaSem sig := 42
abbrev cc2_sem21_0 : DmaSem sig := 43
abbrev cc2_sem21_1 : DmaSem sig := 44
abbrev cc2_sem22_0 : DmaSem sig := 45
abbrev cc2_sem22_1 : DmaSem sig := 46
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_2 : Index := 0#32
  let arg1 : BitVec 32 := BitVec.ofNat 32 (i 1).val
  let c256_i32 : BitVec 32 := 256#32
  let v0 : BitVec 32 := Scalar.muli arg1 c256_i32
  let v3 : Index := Scalar.indexCast v0
  let c0_3 : Index := 0#32
  ![0, v3.toNat, 0]
def k0_off2 (i : grid0.Coords) : Fin 3 → Nat :=
  let c0_4 : Index := 0#32
  let arg1 : BitVec 32 := BitVec.ofNat 32 (i 1).val
  let c256_i32 : BitVec 32 := 256#32
  let v0 : BitVec 32 := Scalar.muli arg1 c256_i32
  let v6 : Index := Scalar.indexCast v0
  let c0_5 : Index := 0#32
  ![0, v6.toNat, 0]
def k0_off3 (i : grid0.Coords) : Fin 3 → Nat :=
  let c0_6 : Index := 0#32
  let c0_7 : Index := 0#32
  let arg1 : BitVec 32 := BitVec.ofNat 32 (i 1).val
  let c256_i32 : BitVec 32 := 256#32
  let v0 : BitVec 32 := Scalar.muli arg1 c256_i32
  let v9 : Index := Scalar.indexCast v0
  ![0, 0, v9.toNat]
def k0_off4 (i : grid0.Coords) : Fin 3 → Nat :=
  let c0_8 : Index := 0#32
  let c1 : Index := 1#32
  let arg1 : BitVec 32 := BitVec.ofNat 32 (i 1).val
  let c256_i32 : BitVec 32 := 256#32
  let v0 : BitVec 32 := Scalar.muli arg1 c256_i32
  let v12 : Index := Scalar.indexCast v0
  ![0, 1, v12.toNat]
def k0_off5 (i : grid0.Coords) : Fin 3 → Nat :=
  let c0_9 : Index := 0#32
  let c2 : Index := 2#32
  let arg1 : BitVec 32 := BitVec.ofNat 32 (i 1).val
  let c256_i32 : BitVec 32 := 256#32
  let v0 : BitVec 32 := Scalar.muli arg1 c256_i32
  let v15 : Index := Scalar.indexCast v0
  ![0, 2, v15.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x131072.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x131072.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S131072x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S131072x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x131072.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x131072.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S131072x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S131072x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S131072x128.size a)
theorem k1_off19_inb : ∀ (i : grid1.Coords) (v33_4_r0 : BitVec 32) (k1_hw5 : k1_chk5 i v33_4_r0), ∀ a, (k1_off19 i v33_4_r0) a + S128x128.size a ≤ S131072x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_22 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x8192x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x3 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x8192 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x258 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x258 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x258 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x258 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S258x16 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x16 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x128 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S16x128 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x64 .bf16 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S16x128 .bf16 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S128x2 .bf16 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S1x2 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 2 → Memref sig .tc .vmem S1x256x64 .f32 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

abbrev stage2_22 : Fin 2 → Memref sig .tc .vmem S1x256x3 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x64 : Shape := ⟨3, ![4, 1024, 64]⟩
abbrev S4x1024x3 : Shape := ⟨3, ![4, 1024, 3]⟩
abbrev S129x258 : Shape := ⟨2, ![129, 258]⟩
abbrev S258 : Shape := ⟨1, ![258]⟩
abbrev S258x16 : Shape := ⟨2, ![258, 16]⟩
abbrev S16 : Shape := ⟨1, ![16]⟩
abbrev S80x128 : Shape := ⟨2, ![80, 128]⟩
abbrev S128 : Shape := ⟨1, ![128]⟩
abbrev S128x64 : Shape := ⟨2, ![128, 64]⟩
abbrev S64 : Shape := ⟨1, ![64]⟩
abbrev S16x64 : Shape := ⟨2, ![16, 64]⟩
abbrev S64x1 : Shape := ⟨2, ![64, 1]⟩
abbrev S1 : Shape := ⟨1, ![1]⟩
abbrev S4x1024x1x3 : Shape := ⟨4, ![4, 1024, 1, 3]⟩
abbrev S4x1x1024x3 : Shape := ⟨4, ![4, 1, 1024, 3]⟩
abbrev S4x1024x1024x3 : Shape := ⟨4, ![4, 1024, 1024, 3]⟩
abbrev S_ : Shape := ⟨0, ![]⟩
abbrev S4x1024x1024 : Shape := ⟨3, ![4, 1024, 1024]⟩
abbrev S4x1024x32 : Shape := ⟨3, ![4, 1024, 32]⟩
abbrev S4x1024x32x1 : Shape := ⟨4, ![4, 1024, 32, 1]⟩
abbrev S4x1024x32x3 : Shape := ⟨4, ![4, 1024, 32, 3]⟩
abbrev S4x3 : Shape := ⟨2, ![4, 3]⟩
abbrev S4x1x3 : Shape := ⟨3, ![4, 1, 3]⟩
abbrev S4x1024x1x1 : Shape := ⟨4, ![4, 1024, 1, 1]⟩
abbrev S4x1024x32x64 : Shape := ⟨4, ![4, 1024, 32, 64]⟩
abbrev S4x1024x1x64 : Shape := ⟨4, ![4, 1024, 1, 64]⟩
abbrev S4x1024x32x129 : Shape := ⟨4, ![4, 1024, 32, 129]⟩
abbrev S4x1024x32x258 : Shape := ⟨4, ![4, 1024, 32, 258]⟩
abbrev S1x1x1x258 : Shape := ⟨4, ![1, 1, 1, 258]⟩
abbrev S4x1024x32x16 : Shape := ⟨4, ![4, 1024, 32, 16]⟩
abbrev S1x1x1x16 : Shape := ⟨4, ![1, 1, 1, 16]⟩
abbrev S1x1x1x64 : Shape := ⟨4, ![1, 1, 1, 64]⟩
abbrev S1x1x1x1 : Shape := ⟨4, ![1, 1, 1, 1]⟩
abbrev S4x1024x16 : Shape := ⟨3, ![4, 1024, 16]⟩
abbrev S4x1024x80 : Shape := ⟨3, ![4, 1024, 80]⟩
abbrev S4x1024x128 : Shape := ⟨3, ![4, 1024, 128]⟩
abbrev S1x1x128 : Shape := ⟨3, ![1, 1, 128]⟩
abbrev S1x1x64 : Shape := ⟨3, ![1, 1, 64]⟩

abbrev nBuf : Space → Nat
  | .hbm => 188
  | .vmem => 0
  | .smem => 0
  | _ => 0

abbrev hbmTy0_0 (i : Nat) : BufTy := match i % 128 with
  | 0 => ⟨S4x1024x64, .f32⟩
  | 1 => ⟨S4x1024x3, .f32⟩
  | 2 => ⟨S129x258, .f32⟩
  | 3 => ⟨S258, .f32⟩
  | 4 => ⟨S258x16, .f32⟩
  | 5 => ⟨S16, .f32⟩
  | 6 => ⟨S80x128, .f32⟩
  | 7 => ⟨S128, .f32⟩
  | 8 => ⟨S128x64, .f32⟩
  | 9 => ⟨S64, .f32⟩
  | 10 => ⟨S16x64, .f32⟩
  | 11 => ⟨S64, .f32⟩
  | 12 => ⟨S64x1, .f32⟩
  | 13 => ⟨S1, .f32⟩
  | 14 => ⟨S16x64, .f32⟩
  | 15 => ⟨S64, .f32⟩
  | 16 => ⟨S64x1, .f32⟩
  | 17 => ⟨S1, .f32⟩
  | 18 => ⟨S4x1024x1x3, .f32⟩
  | 19 => ⟨S4x1x1024x3, .f32⟩
  | 20 => ⟨S4x1024x1024x3, .f32⟩
  | 21 => ⟨S4x1024x1024x3, .f32⟩
  | 22 => ⟨S4x1024x1024x3, .f32⟩
  | 23 => ⟨S4x1024x1024x3, .f32⟩
  | 24 => ⟨S_, .f32⟩
  | 25 => ⟨S4x1024x1024, .f32⟩
  | 26 => ⟨S4x1024x1024, .f32⟩
  | 27 => ⟨S4x1024x32, .f32⟩
  | 28 => ⟨S4x1024x32, .i32⟩
  | 29 => ⟨S4x1024x1x3, .f32⟩
  | 30 => ⟨S_, .i32⟩
  | 31 => ⟨S4x1024x32, .i32⟩
  | 32 => ⟨S4x1024x32, .i1⟩
  | 33 => ⟨S_, .i32⟩
  | 34 => ⟨S4x1024x32, .i32⟩
  | 35 => ⟨S4x1024x32, .i32⟩
  | 36 => ⟨S4x1024x32, .i32⟩
  | 37 => ⟨S4x1024x32x1, .i32⟩
  | 38 => ⟨S4x1024x32x3, .f32⟩
  | 39 => ⟨S4x1024x32x3, .f32⟩
  | 40 => ⟨S4x1024x32x3, .f32⟩
  | 41 => ⟨S4x1024x32x3, .f32⟩
  | 42 => ⟨S_, .f32⟩
  | 43 => ⟨S4x1024x32, .f32⟩
  | 44 => ⟨S4x1024x32x1, .f32⟩
  | 45 => ⟨S_, .f32⟩
  | 46 => ⟨S4x3, .f32⟩
  | 47 => ⟨S4x1x3, .f32⟩
  | 48 => ⟨S_, .f32⟩
  | 49 => ⟨S4x1x3, .f32⟩
  | 50 => ⟨S4x1x3, .f32⟩
  | 51 => ⟨S4x1024x3, .f32⟩
  | 52 => ⟨S4x1024x3, .f32⟩
  | 53 => ⟨S4x1024x1x3, .f32⟩
  | 54 => ⟨S_, .i32⟩
  | 55 => ⟨S4x1024x32, .i32⟩
  | 56 => ⟨S4x1024x32, .i1⟩
  | 57 => ⟨S_, .i32⟩
  | 58 => ⟨S4x1024x32, .i32⟩
  | 59 => ⟨S4x1024x32, .i32⟩
  | 60 => ⟨S4x1024x32, .i32⟩
  | 61 => ⟨S4x1024x32x1, .i32⟩
  | 62 => ⟨S4x1024x32x3, .f32⟩
  | 63 => ⟨S4x1024x1x1, .f32⟩
  | 64 => ⟨S4x1024x1x1, .f32⟩
  | 65 => ⟨S4x1024x1x1, .f32⟩
  | 66 => ⟨S4x1024x32x1, .f32⟩
  | 67 => ⟨S4x1024x32x1, .f32⟩
  | 68 => ⟨S4x1024x32x1, .f32⟩
  | 69 => ⟨S4x1024x32x1, .f32⟩
  | 70 => ⟨S4x1024x32x1, .f32⟩
  | 71 => ⟨S4x1024x32x1, .f32⟩
  | 72 => ⟨S4x1024x32x1, .f32⟩
  | 73 => ⟨S4x1024x32x1, .f32⟩
  | 74 => ⟨S4x1024x32x1, .f32⟩
  | 75 => ⟨S4x1024x32x1, .f32⟩
  | 76 => ⟨S4x1024x32x1, .f32⟩
  | 77 => ⟨S4x1024x32x1, .f32⟩
  | 78 => ⟨S4x1024x32x1, .f32⟩
  | 79 => ⟨S4x1024x32x1, .f32⟩
  | 80 => ⟨S4x1024x32x1, .f32⟩
  | 81 => ⟨S4x1024x32x1, .f32⟩
  | 82 => ⟨S4x1024x32x1, .f32⟩
  | 83 => ⟨S4x1024x32x1, .f32⟩
  | 84 => ⟨S4x1024x32x3, .f32⟩
  | 85 => ⟨S_, .i32⟩
  | 86 => ⟨S4x1024x32, .i32⟩
  | 87 => ⟨S4x1024x32, .i1⟩
  | 88 => ⟨S_, .i32⟩
  | 89 => ⟨S4x1024x32, .i32⟩
  | 90 => ⟨S4x1024x32, .i32⟩
  | 91 => ⟨S4x1024x32, .i32⟩
  | 92 => ⟨S4x1024x32x1, .i32⟩
  | 93 => ⟨S4x1024x32x64, .f32⟩
  | 94 => ⟨S4x1024x1x64, .f32⟩
  | 95 => ⟨S4x1024x32x64, .f32⟩
  | 96 => ⟨S4x1024x32x129, .f32⟩
  | 97 => ⟨S4x1024x32x258, .f32⟩
  | 98 => ⟨S1x1x1x258, .f32⟩
  | 99 => ⟨S4x1024x32x258, .f32⟩
  | 100 => ⟨S4x1024x32x258, .f32⟩
  | 101 => ⟨S4x1024x32x258, .f32⟩
  | 102 => ⟨S4x1024x32x258, .f32⟩
  | 103 => ⟨S_, .f32⟩
  | 104 => ⟨S4x1024x32x258, .f32⟩
  | 105 => ⟨S4x1024x32x258, .f32⟩
  | 106 => ⟨S_, .f32⟩
  | 107 => ⟨S4x1024x32x258, .f32⟩
  | 108 => ⟨S4x1024x32x258, .f32⟩
  | 109 => ⟨S4x1024x32x258, .f32⟩
  | 110 => ⟨S4x1024x32x16, .f32⟩
  | 111 => ⟨S1x1x1x16, .f32⟩
  | 112 => ⟨S4x1024x32x16, .f32⟩
  | 113 => ⟨S4x1024x32x16, .f32⟩
  | 114 => ⟨S4x1024x32x16, .f32⟩
  | 115 => ⟨S4x1024x32x16, .f32⟩
  | 116 => ⟨S_, .f32⟩
  | 117 => ⟨S4x1024x32x16, .f32⟩
  | 118 => ⟨S4x1024x32x16, .f32⟩
  | 119 => ⟨S_, .f32⟩
  | 120 => ⟨S4x1024x32x16, .f32⟩
  | 121 => ⟨S4x1024x32x16, .f32⟩
  | 122 => ⟨S4x1024x32x16, .f32⟩
  | 123 => ⟨S4x1024x32x64, .f32⟩
  | 124 => ⟨S1x1x1x64, .f32⟩
  | 125 => ⟨S4x1024x32x64, .f32⟩
  | 126 => ⟨S4x1024x32x64, .f32⟩
  | 127 => ⟨S4x1024x32x64, .f32⟩
  | _ => ⟨S4x1024x64, .f32⟩

abbrev hbmTy0_1 (i : Nat) : BufTy := match i % 128 with
  | 0 => ⟨S4x1024x32x64, .f32⟩
  | 1 => ⟨S_, .f32⟩
  | 2 => ⟨S4x1024x32x64, .f32⟩
  | 3 => ⟨S4x1024x32x64, .f32⟩
  | 4 => ⟨S_, .f32⟩
  | 5 => ⟨S4x1024x32x64, .f32⟩
  | 6 => ⟨S4x1024x32x64, .f32⟩
  | 7 => ⟨S4x1024x32x64, .f32⟩
  | 8 => ⟨S4x1024x32x1, .f32⟩
  | 9 => ⟨S1x1x1x1, .f32⟩
  | 10 => ⟨S4x1024x32x1, .f32⟩
  | 11 => ⟨S4x1024x32x1, .f32⟩
  | 12 => ⟨S4x1024x32x64, .f32⟩
  | 13 => ⟨S1x1x1x64, .f32⟩
  | 14 => ⟨S4x1024x32x64, .f32⟩
  | 15 => ⟨S4x1024x32x64, .f32⟩
  | 16 => ⟨S4x1024x32x64, .f32⟩
  | 17 => ⟨S4x1024x32x64, .f32⟩
  | 18 => ⟨S_, .f32⟩
  | 19 => ⟨S4x1024x32x64, .f32⟩
  | 20 => ⟨S4x1024x32x64, .f32⟩
  | 21 => ⟨S_, .f32⟩
  | 22 => ⟨S4x1024x32x64, .f32⟩
  | 23 => ⟨S4x1024x32x64, .f32⟩
  | 24 => ⟨S4x1024x32x64, .f32⟩
  | 25 => ⟨S4x1024x32x1, .f32⟩
  | 26 => ⟨S1x1x1x1, .f32⟩
  | 27 => ⟨S4x1024x32x1, .f32⟩
  | 28 => ⟨S4x1024x32x1, .f32⟩
  | 29 => ⟨S4x1024x32x3, .f32⟩
  | 30 => ⟨S4x1024x32x3, .f32⟩
  | 31 => ⟨S_, .f32⟩
  | 32 => ⟨S4x1024x3, .f32⟩
  | 33 => ⟨S4x1024x32x3, .f32⟩
  | 34 => ⟨S4x1024x32x3, .f32⟩
  | 35 => ⟨S_, .f32⟩
  | 36 => ⟨S4x1024x3, .f32⟩
  | 37 => ⟨S4x1024x3, .f32⟩
  | 38 => ⟨S4x1024x3, .f32⟩
  | 39 => ⟨S_, .f32⟩
  | 40 => ⟨S4x1024x16, .f32⟩
  | 41 => ⟨S4x1024x80, .f32⟩
  | 42 => ⟨S4x1024x128, .f32⟩
  | 43 => ⟨S1x1x128, .f32⟩
  | 44 => ⟨S4x1024x128, .f32⟩
  | 45 => ⟨S4x1024x128, .f32⟩
  | 46 => ⟨S4x1024x128, .f32⟩
  | 47 => ⟨S4x1024x128, .f32⟩
  | 48 => ⟨S_, .f32⟩
  | 49 => ⟨S4x1024x128, .f32⟩
  | 50 => ⟨S4x1024x128, .f32⟩
  | 51 => ⟨S_, .f32⟩
  | 52 => ⟨S4x1024x128, .f32⟩
  | 53 => ⟨S4x1024x128, .f32⟩
  | 54 => ⟨S4x1024x128, .f32⟩
  | 55 => ⟨S4x1024x64, .f32⟩
  | 56 => ⟨S1x1x64, .f32⟩
  | 57 => ⟨S4x1024x64, .f32⟩
  | 58 => ⟨S4x1024x64, .f32⟩
  | 59 => ⟨S4x1024x64, .f32⟩
  | _ => ⟨S4x1024x64, .f32⟩

abbrev hbmTy (i : Nat) : BufTy := match i / 128 with
  | 0 => hbmTy0_0 i
  | 1 => hbmTy0_1 i
  | _ => ⟨S4x1024x64, .f32⟩

abbrev bufTy : (tb : Table) → Fin (tcTables nBuf tb) → BufTy
  | .hbm, ⟨i, _⟩ => hbmTy i
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_values : Ref sig .tc := ⟨.hbm, 27, rfl⟩
abbrev main_indices : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_6 : Ref sig .tc := ⟨.hbm, 85, rfl⟩
abbrev main_v57 : Ref sig .tc := ⟨.hbm, 86, rfl⟩
abbrev main_v58 : Ref sig .tc := ⟨.hbm, 87, rfl⟩
abbrev main_c_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_8 : Ref sig .tc := ⟨.hbm, 103, rfl⟩
abbrev main_v73 : Ref sig .tc := ⟨.hbm, 104, rfl⟩
abbrev main_v74 : Ref sig .tc := ⟨.hbm, 105, rfl⟩
abbrev main_cst_9 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_10 : Ref sig .tc := ⟨.hbm, 116, rfl⟩
abbrev main_v84 : Ref sig .tc := ⟨.hbm, 117, rfl⟩
abbrev main_v85 : Ref sig .tc := ⟨.hbm, 118, rfl⟩
abbrev main_cst_11 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_12 : Ref sig .tc := ⟨.hbm, 129, rfl⟩
abbrev main_v95 : Ref sig .tc := ⟨.hbm, 130, rfl⟩
abbrev main_v96 : Ref sig .tc := ⟨.hbm, 131, rfl⟩
abbrev main_cst_13 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_14 : Ref sig .tc := ⟨.hbm, 146, rfl⟩
abbrev main_v110 : Ref sig .tc := ⟨.hbm, 147, rfl⟩
abbrev main_v111 : Ref sig .tc := ⟨.hbm, 148, rfl⟩
abbrev main_cst_15 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_16 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_17 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_18 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_19 : Ref sig .tc := ⟨.hbm, 176, rfl⟩
abbrev main_v135 : Ref sig .tc := ⟨.hbm, 177, rfl⟩
abbrev main_v136 : Ref sig .tc := ⟨.hbm, 178, rfl⟩
abbrev main_cst_20 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩

abbrev nD : Nat := 1
abbrev τ : Topo := Topo.v7x

variable {F : FTy → Type} [FloatOps F]
-- ==== Proof.Words.lean ====
module

public import proofs.«01_k».proof.Proof.Gen.KernelIdeal.Skeleton

/-! The words that the gather's loop carries, and the slots, windows and tests computed from them. -/

@[expose] public section

open Idealize.ShloMosaic

namespace Cert.Own

open Cert.KernelIdeal Cert.KernelIdeal.Gen

/-- A vector subcore's first output row. -/
def base (i : grid1.Coords) : ℕ := 4096 * (i 1).val + 65536 * (i 0).val

/-- The loop's five carried words on entering trip `t`. -/
def accAt (t : ℕ) : BitVec 32 × BitVec 32 × BitVec 32 × BitVec 32 × BitVec 32 :=
  (BitVec.ofNat 32 (min (t + 1) 32), BitVec.ofNat 32 t, BitVec.ofNat 32 t, BitVec.ofNat 32 (t - 1), BitVec.ofNat 32 (t % 32))

abbrev w6 (t : ℕ) : BitVec 32 := BitVec.ofNat 32 (min (t + 1) 32)
abbrev w7 (t : ℕ) : BitVec 32 := BitVec.ofNat 32 t
abbrev w9 (t : ℕ) : BitVec 32 := BitVec.ofNat 32 (t - 1)
abbrev w10 (t : ℕ) : BitVec 32 := BitVec.ofNat 32 (t % 32)

/-- A trip fetches the next window of indices exactly when there is one. -/
theorem cond1_iff : ∀ (i : grid1.Coords) (k : Fin k1_t1_loop.trips), k1_cond1 i k (w10 k) = 1#1 ↔ k.val + 1 < 32 := by
  decide +kernel
theorem cond2_eq : ∀ (i : grid1.Coords) (k : Fin k1_t1_loop.trips), k1_cond2 i k (w10 k) = 1#1 := by decide +kernel
theorem cond5_eq : ∀ (i : grid1.Coords) (k : Fin k1_t1_loop.trips), k1_cond5 i k (w10 k) = 1#1 := by decide +kernel
theorem cond7_iff : ∀ (i : grid1.Coords) (k : Fin k1_t1_loop.trips), k1_cond7 i k (w10 k) = 1#1 ↔ 0 < k.val := by
  decide +kernel

theorem off4_eq : ∀ k : Fin k1_t1_loop.trips, k.val + 1 < 32 → k1_off4 (w6 k) = ![(k.val + 1) % 2, 0, 0] := by decide +kernel
theorem off5_eq : ∀ (i : grid1.Coords) (k : Fin k1_t1_loop.trips), k.val + 1 < 32 →
    k1_off5 i (w10 k) = ![0, base i + 128 * (k.val + 1)] := by decide +kernel
theorem off6_eq : ∀ k : Fin k1_t1_loop.trips, k.val + 1 < 32 → k1_off6 (w6 k) = ![(k.val + 1) % 2] := by decide +kernel
theorem off7_eq : ∀ k : Fin k1_t1_loop.trips, k1_off7 (w7 k) = ![k.val % 2, 0, 0] := by decide +kernel
theorem off8_eq : ∀ (i : grid1.Coords) (k : Fin k1_t1_loop.trips), k1_off8 i (w10 k) = ![0, base i + 128 * k.val] := by
  decide +kernel
theorem off9_eq : ∀ k : Fin k1_t1_loop.trips, k1_off9 (w7 k) = ![k.val % 2] := by decide +kernel
theorem off10_eq : ∀ k : Fin k1_t1_loop.trips, k1_off10 (w7 k) = ![k.val % 2, 0, 0] := by decide +kernel
theorem off11_eq : ∀ k : Fin k1_t1_loop.trips, k1_off11 (w7 k) = ![k.val % 2, 0, 0] := by decide +kernel
theorem off12_eq : ∀ k : Fin k1_t1_loop.trips, k1_off12 (w7 k) = ![k.val % 2, 0, 0] := by decide +kernel
theorem off13_eq : ∀ (i : grid1.Coords) (k : Fin k1_t1_loop.trips), k1_off13 i (w10 k) = ![base i + 128 * k.val, 0] := by
  decide +kernel
theorem off14_eq : ∀ k : Fin k1_t1_loop.trips, k1_off14 (w7 k) = ![k.val % 2] := by decide +kernel
theorem off15_eq : ∀ k : Fin k1_t1_loop.trips, k1_off15 (w9 k) = ![(k.val - 1) % 2, 0, 0] := by decide +kernel
theorem off16_eq : ∀ (i : grid1.Coords) (k : Fin k1_t1_loop.trips), 0 < k.val →
    k1_off16 i (w10 k) = ![base i + 128 * (k.val - 1), 0] := by decide +kernel
theorem off17_eq : ∀ k : Fin k1_t1_loop.trips, k1_off17 (w9 k) = ![(k.val - 1) % 2] := by decide +kernel
theorem off19_eq : ∀ i : grid1.Coords, k1_off19 i (w10 32) = ![base i + 128 * 31, 0] := by decide +kernel
theorem off20_eq : k1_off20 (w9 32) = ![1] := by decide +kernel
theorem off21_eq : k1_off21 (w9 32) = ![1, 0, 0] := by decide +kernel

theorem off1_eq : k1_off1 = ![0, 0, 0] := by decide +kernel
theorem off2_eq : ∀ i : grid1.Coords, k1_off2 i = ![0, base i + 128 * 0] := by decide +kernel
theorem off3_eq : k1_off3 = ![0] := by decide +kernel

theorem chk1 : ∀ (i : grid1.Coords) (k : Fin k1_t1_loop.trips), k1_chk1 i k (w6 k) (w7 k) (w7 k) (w9 k) (w10 k) := by
  decide +kernel
theorem chk2 : ∀ k : Fin k1_t1_loop.trips, k1_chk2 (w7 k) := by decide +kernel
theorem chk3 : ∀ k : Fin k1_t1_loop.trips, k1_chk3 (w7 k) := by decide +kernel
theorem chk4 : k1_chk4 (w9 32) := by decide +kernel
theorem chk5 : ∀ i : grid1.Coords, k1_chk5 i (w10 32) := by decide +kernel

end Cert.Own
-- ==== Proof.Setup.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal
public import proofs.«01_k».proof.Proof.Gen.KernelIdeal.Skeleton
public import proofs.«01_k».proof.Proof.Words

/-! The gather's buffers, slots and windows as a vector subcore addresses them, and which elements each is. -/

@[expose] public section

noncomputable section

namespace Cert.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

abbrev cV (L : grid1.Coords) : Fin τ.nSC := (L 0).castLE hcore1
abbrev jV (L : grid1.Coords) : Fin τ.nSub := (L 1).castLE hsub1

/-! ## Slots and windows -/

abbrev tabM : Memref sig .scVector .hbm S4096x128 .f32 := Memref.whole main_v38_scv
abbrev idxM : Memref sig .scVector .hbm S1x131072 .i32 := Memref.whole main_v39_scv
abbrev outM : Memref sig .scVector .hbm S131072x128 .f32 := Memref.whole main_v41_scv
abbrev ibufM : Memref sig .scVector .vmem S2x1x128 .i32 := Memref.whole cc1_scoped0
abbrev rbufM : Memref sig .scVector .vmem S2x128x128 .f32 := Memref.whole cc1_scoped2

/-- The slot that window `t` uses. -/
def slot (t : ℕ) : Fin 2 := ⟨t % 2, Nat.mod_lt _ (by decide)⟩

theorem inbI : ∀ b : Fin 2, ∀ a, (![b.val, 0, 0] : Fin 3 → ℕ) a + S1x1x128.size a ≤ S2x1x128.size a := by decide
theorem inbR : ∀ b : Fin 2, ∀ a, (![b.val, 0, 0] : Fin 3 → ℕ) a + S1x128x128.size a ≤ S2x128x128.size a := by decide
theorem inbS : ∀ b : Fin 2, ∀ a, (![b.val] : Fin 1 → ℕ) a + S1.size a ≤ S2.size a := by decide

theorem base_le : ∀ L : grid1.Coords, base L + 4096 ≤ 131072 := by decide +kernel

theorem inbW (L : grid1.Coords) (t : ℕ) (ht : t < 32) :
    ∀ a, (![0, base L + 128 * t] : Fin 2 → ℕ) a + S1x128.size a ≤ S1x131072.size a := by
  have := base_le L
  refine Fin.forall_fin_two.mpr ⟨show 0 + 1 ≤ 1 by decide, ?_⟩
  show base L + 128 * t + 128 ≤ 131072
  omega

theorem inbO (L : grid1.Coords) (t : ℕ) (ht : t < 32) :
    ∀ a, (![base L + 128 * t, 0] : Fin 2 → ℕ) a + S128x128.size a ≤ S131072x128.size a := by
  have := base_le L
  refine Fin.forall_fin_two.mpr ⟨?_, show 0 + 128 ≤ 128 by decide⟩
  show base L + 128 * t + 128 ≤ 131072
  omega

/-- Index slot `b`; the offsets the gather reads in it; row slot `b`; their semaphores. -/
abbrev iSlot (b : Fin 2) : Memref sig .scVector .vmem S1x128 .i32 :=
  ((ibufM).slice (Rect.unit (s := S2x1x128) ![b.val, 0, 0] S1x1x128.size (inbI b)) (fun _ => rfl)).squeeze S1x128 squeezes_S1x1x128_S1x128
abbrev offsM (b : Fin 2) : Memref sig .scVector .vmem S128 .i32 :=
  ((iSlot b).slice (Rect.unit (s := S1x128) ![0, 0] S1x128.size inb_S1x128_S1x128_0_0) (fun _ => rfl)).squeeze S128 squeezes_S1x128_S128
abbrev rSlot (b : Fin 2) : Memref sig .scVector .vmem S128x128 .f32 :=
  ((rbufM).slice (Rect.unit (s := S2x128x128) ![b.val, 0, 0] S1x128x128.size (inbR b)) (fun _ => rfl)).squeeze S128x128 squeezes_S1x128x128_S128x128
abbrev iSem (b : Fin 2) : DmaSem sig :=
  ((cc1_scoped1.slice (Rect.unit (s := S2) ![b.val] S1.size (inbS b))).squeeze S_ squeezes_S1_S_).sem
abbrev oSem (b : Fin 2) : DmaSem sig :=
  ((cc1_scoped3.slice (Rect.unit (s := S2) ![b.val] S1.size (inbS b))).squeeze S_ squeezes_S1_S_).sem
abbrev gSem : DmaSem sig := cc1_scoped4.sem
/-- Window `t` of the indices and of the output rows; the whole table. -/
abbrev iWin (L : grid1.Coords) (t : ℕ) (ht : t < 32) : Memref sig .scVector .hbm S1x128 .i32 :=
  (idxM).slice (Rect.unit (s := S1x131072) ![0, base L + 128 * t] S1x128.size (inbW L t ht)) (fun _ => rfl)
abbrev oWin (L : grid1.Coords) (t : ℕ) (ht : t < 32) : Memref sig .scVector .hbm S128x128 .f32 :=
  (outM).slice (Rect.unit (s := S131072x128) ![base L + 128 * t, 0] S128x128.size (inbO L t ht)) (fun _ => rfl)
abbrev tabAll : Memref sig .scVector .hbm S4096x128 .f32 :=
  (tabM).slice (Rect.unit (s := S4096x128) ![0, 0] S4096x128.size inb_S4096x128_S4096x128_0_0) (fun _ => rfl)

/-! ## Which elements they are -/

/-- The output rows from `lo` up to `hi`. -/
def rowsIn (lo hi : ℕ) : Finset S131072x128.Idx := Finset.univ.filter fun x => lo ≤ (x 0).val ∧ (x 0).val < hi

theorem mem_rowsIn {lo hi : ℕ} {x : S131072x128.Idx} : x ∈ rowsIn lo hi ↔ lo ≤ (x 0).val ∧ (x 0).val < hi := by
  simp [rowsIn]

theorem set_oWin (L : grid1.Coords) (t : ℕ) (ht : t < 32) :
    (oWin L t ht).view.set = rowsIn (base L + 128 * t) (base L + 128 * t + 128) := by
  show ((View.whole (main_v41_scv : Ref sig .scVector)).slice _).set = _
  rw [View.set_slice_whole]
  ext x
  refine Rect.mem_set_unit.trans (Iff.trans ?_ mem_rowsIn.symm)
  refine Fin.forall_fin_two.trans ⟨fun h => h.1, fun h => ⟨h, Nat.zero_le _, ?_⟩⟩
  have h1 : (x 1).val < 128 := (x 1).isLt
  show (x 1).val < 0 + 128
  omega

theorem mem_iSlot (b : Fin 2) (x : S2x1x128.Idx) : x ∈ (iSlot b).view.set ↔ (x 0).val = b.val := by
  have e : (iSlot b).view.set = (Rect.unit (s := S2x1x128) ![b.val, 0, 0] S1x1x128.size (inbI b)).set :=
    (View.set_reshape _ _).trans (View.set_slice_whole _ _)
  rw [e]
  refine Rect.mem_set_unit.trans ⟨fun h => ?_, fun h => ?_⟩
  · have h0 := h 0
    have h1 : b.val ≤ (x 0).val ∧ (x 0).val < b.val + 1 := h0
    omega
  · intro a
    match a with
    | 0 => exact ⟨h.ge, by show (x 0).val < b.val + 1; omega⟩
    | 1 => exact ⟨Nat.zero_le _, by show (x 1).val < 0 + 1; have := (x 1).isLt; have : (x 1).val < 1 := this; omega⟩
    | 2 => exact ⟨Nat.zero_le _, by show (x 2).val < 0 + 128; have := (x 2).isLt; have : (x 2).val < 128 := this; omega⟩

theorem mem_rSlot (b : Fin 2) (x : S2x128x128.Idx) : x ∈ (rSlot b).view.set ↔ (x 0).val = b.val := by
  have e : (rSlot b).view.set = (Rect.unit (s := S2x128x128) ![b.val, 0, 0] S1x128x128.size (inbR b)).set :=
    (View.set_reshape _ _).trans (View.set_slice_whole _ _)
  rw [e]
  refine Rect.mem_set_unit.trans ⟨fun h => ?_, fun h => ?_⟩
  · have h0 := h 0
    have h1 : b.val ≤ (x 0).val ∧ (x 0).val < b.val + 1 := h0
    omega
  · intro a
    match a with
    | 0 => exact ⟨h.ge, by show (x 0).val < b.val + 1; omega⟩
    | 1 => exact ⟨Nat.zero_le _, by show (x 1).val < 0 + 128; have := (x 1).isLt; have : (x 1).val < 128 := this; omega⟩
    | 2 => exact ⟨Nat.zero_le _, by show (x 2).val < 0 + 128; have := (x 2).isLt; have : (x 2).val < 128 := this; omega⟩

theorem set_iSlot_one : (iSlot 1).view.set = Finset.univ \ (iSlot 0).view.set := by
  refine Finset.ext fun (x : S2x1x128.Idx) => ?_
  rw [Finset.mem_sdiff, mem_iSlot 1 x, mem_iSlot 0 x]
  have h : (x 0).val < 2 := (x 0).isLt
  have e1 : ((1 : Fin 2) : ℕ) = 1 := rfl
  have e0 : ((0 : Fin 2) : ℕ) = 0 := rfl
  constructor
  · intro h1; exact ⟨Finset.mem_univ _, by omega⟩
  · intro h1; have := h1.2; omega

theorem set_rSlot_one : (rSlot 1).view.set = Finset.univ \ (rSlot 0).view.set := by
  refine Finset.ext fun (x : S2x128x128.Idx) => ?_
  rw [Finset.mem_sdiff, mem_rSlot 1 x, mem_rSlot 0 x]
  have h : (x 0).val < 2 := (x 0).isLt
  have e1 : ((1 : Fin 2) : ℕ) = 1 := rfl
  have e0 : ((0 : Fin 2) : ℕ) = 0 := rfl
  constructor
  · intro h1; exact ⟨Finset.mem_univ _, by omega⟩
  · intro h1; have := h1.2; omega

theorem set_offsM (b : Fin 2) : (offsM b).view.set = (iSlot b).view.set := by
  show ((((iSlot b).view).slice _).reshape _ _).set = _
  rw [View.set_reshape, View.set_slice]
  rw [Rect.set_eq_univ_of_whole _ (fun a => ⟨by revert a; decide, rfl, rfl⟩)]
  rfl

theorem set_tabAll : (tabAll).view.set = Finset.univ := by
  show ((View.whole (main_v38_scv : Ref sig .scVector)).slice _).set = _
  rw [View.set_slice_whole]
  exact Rect.set_eq_univ_of_whole _ (fun a => ⟨by revert a; decide, rfl, rfl⟩)

/-! ## What is read through them -/

/-- What the gather leaves in the output: row `x 0` of the output is the table's row that the index names. -/
def OUT (TB : S4096x128.Idx → Elt F .f32) (IX : S1x131072.Idx → Elt F .i32) : S131072x128.Idx → Elt F .f32 :=
  fun x => TB (ix2 (⟨(show BitVec 32 from IX (ix2 (0 : Fin 1) (x 0))).toNat % 4096, Nat.mod_lt _ (by decide)⟩ : Fin 4096) (x 1))

theorem emb_iWin (L : grid1.Coords) (t : ℕ) (ht : t < 32) (j : Fin 128) :
    (iWin L t ht).view.emb (ix2 (0 : Fin 1) j)
      = ix2 (0 : Fin 1) (⟨base L + 128 * t + j.val, by have := base_le L; omega⟩ : Fin 131072) := by
  funext a
  match a with
  | 0 => rfl
  | 1 => exact Fin.ext (by show base L + 128 * t + 1 * j.val = base L + 128 * t + j.val; omega)

theorem emb_oWin (L : grid1.Coords) (t : ℕ) (ht : t < 32) (r j : Fin 128) :
    (oWin L t ht).view.emb (ix2 r j)
      = ix2 (⟨base L + 128 * t + r.val, by have := base_le L; omega⟩ : Fin 131072) j := by
  funext a
  match a with
  | 0 => exact Fin.ext (by show base L + 128 * t + 1 * r.val = base L + 128 * t + r.val; omega)
  | 1 => exact Fin.ext (by show 0 + 1 * j.val = j.val; omega)

/-- The gather's `j`-th offset is the slot's `j`-th word. -/
theorem read_offsM (b : Fin 2) (f : ibufM.view.ty.Contents (Elt F)) (x : S128.Idx) :
    (offsM b).view.read (Elt F) f x = (iSlot b).view.read (Elt F) f (ix2 (0 : Fin 1) (x 0)) := by
  have h : (offsM b).view.emb x = (iSlot b).view.emb (ix2 (0 : Fin 1) (x 0)) := by
    show (iSlot b).view.emb ((Rect.unit (s := S1x128) ![0, 0] S1x128.size inb_S1x128_S1x128_0_0).emb
      (Shape.reshapeEquiv squeezes_S1x128_S128.numel_eq x)) = _
    congr 1
    rw [Shape.reshapeEquiv_cons_one]
    funext a
    match a with
    | 0 => exact Fin.ext rfl
    | 1 => exact Fin.ext (by show 0 + 1 * (x 0).val = (x 0).val; omega)
  rw [View.read_apply, View.read_apply, h]

theorem emb_tabAll (x : S4096x128.Idx) : (tabAll).view.emb x = x := by
  funext a
  match a with
  | 0 => exact Fin.ext (by show 0 + 1 * (x 0).val = (x 0).val; omega)
  | 1 => exact Fin.ext (by show 0 + 1 * (x 1).val = (x 1).val; omega)

variable [FloatOps F]

/-- With the slot holding window `t`'s indices, each below 4096, every offset is a row of the table; -/
theorem offs_lt (L : grid1.Coords) (t : ℕ) (ht : t < 32) (b : Fin 2) (f : ibufM.view.ty.Contents (Elt F))
    (IX : S1x131072.Idx → Elt F .i32) (hf : (iSlot b).view.read (Elt F) f = (iWin L t ht).view.read (Elt F) IX)
    (hIX : ∀ x, (show BitVec 32 from IX x).toNat < 4096) :
    ∀ x, ((offsM b).view.read (Elt F) f x).toNat < S4096x128.size gathers_S4096x128_S128x128.axis := by
  intro x
  rw [read_offsM, hf, View.read_apply, cast_eq]
  exact hIX _

/-- and what the gather brings is window `t` of the output. -/
theorem gather_eq (L : grid1.Coords) (t : ℕ) (ht : t < 32) (b : Fin 2) (f : ibufM.view.ty.Contents (Elt F))
    (TB : S4096x128.Idx → Elt F .f32) (IX : S1x131072.Idx → Elt F .i32)
    (hf : (iSlot b).view.read (Elt F) f = (iWin L t ht).view.read (Elt F) IX)
    (hin : ∀ x, ((offsM b).view.read (Elt F) f x).toNat < S4096x128.size gathers_S4096x128_S128x128.axis)
    (hn : S128.numel = S128x128.size gathers_S4096x128_S128x128.axis') (r j : Fin 128) :
    SparseCore.gatherPayload gathers_S4096x128_S128x128 ((tabAll).view.read (Elt F) TB)
        (SparseCore.rows ((offsM b).view.read (Elt F) f) hn hin) (ix2 r j)
      = OUT TB IX ((oWin L t ht).view.emb (ix2 r j)) := by
  rw [emb_oWin]
  unfold SparseCore.gatherPayload OUT
  rw [View.read_apply, cast_eq, emb_tabAll]
  congr 1
  funext a
  match a with
  | 0 =>
    refine Fin.ext ?_
    have hrow : S128.rowMajor.symm ((r : Fin 128).cast (by exact hn.symm)) = ix1 r := by
      rw [Equiv.symm_apply_eq]
      exact Fin.ext (Shape.rowMajor_val_one (d := ![128]) (ix1 r)).symm
    have key : ((offsM b).view.read (Elt F) f (ix1 r)) = IX (ix2 (0 : Fin 1) (⟨base L + 128 * t + r.val, by have := base_le L; omega⟩ : Fin 131072)) := by
      rw [read_offsM, hf, View.read_apply, cast_eq, emb_iWin]
    have hlt := hin (ix1 r)
    refine (congrArg Fin.val (Shape.Gathers.idx_axis gathers_S4096x128_S128x128 _ _)).trans ?_
    show ((offsM b).view.read (Elt F) f (S128.rowMajor.symm ((r : Fin 128).cast (by exact hn.symm)))).toNat
      = (show BitVec 32 from IX (ix2 (0 : Fin 1) (⟨base L + 128 * t + r.val, by have := base_le L; omega⟩ : Fin 131072))).toNat % 4096
    rw [hrow]
    rw [key] at hlt ⊢
    exact (Nat.mod_eq_of_lt hlt).symm
  | 1 =>
    refine Fin.ext ?_
    exact Shape.Gathers.idx_of_ne _ _ _ 1 (by decide)

end Cert.Own
-- ==== Proof.Ghost.lean ====
module

public import proofs.«01_k».proof.Defs
public import Idealize.ShloMosaic.Lib.SparseCore.Quiescent
public import Idealize.ShloMosaic.Lib.Pipeline.Kit
public import Idealize.ShloMosaic.Lib.Pipeline.FrameBody
public import Idealize.ShloMosaic.Lib.Pipeline.RegionsLoop
public import Idealize.ShloMosaic.Lib.Pipeline.FrameSuffix
public import Idealize.ShloMosaic.Lib.Tactic
public import proofs.«01_k».proof.Proof.Gen.KernelIdeal
public import proofs.«01_k».proof.Proof.Gen.KernelIdeal.Launch
public import Idealize.ShloMosaic.Lib.Transfers

/-! The ghost state of the proof: the handshakes' of the SparseCore call and the pipelines' of the two TensorCore calls. -/

@[expose] public section

noncomputable section

namespace Cert.Own

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.Sem
open Idealize.ShloMosaic.Rounds

variable {F : FTy → Type}

abbrev 𝒱₀ : Variants := Variants.none

abbrev UH : Type := URounds (GSem nD τ sig) ℕ
abbrev UP : Type := URounds (GSem nD τ sig) Unit
abbrev UU : Type := UH × (UP × Counters)

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

/-- Where the handshakes' ghost state lies, and where the pipelines' does. -/
abbrev EH : Emb UH (MT nD τ sig (HIx 1) (Elt F) ℕ UU ℕ) := embL
abbrev EP : Emb UP (MT nD τ sig (HIx 1) (Elt F) ℕ UU ℕ) := (Emb.inl : Emb UP (UP × Counters)).trans embR

/-- What a TensorCore kernel's body keeps across the points: the scoped buffers no window stages, and the generator register. -/
def ΦH {gr : Nat} {W : Nat} (win : Fin W → Pipeline.WinSpec sig gr) (c : Dev nD) : sProp (MT nD τ sig (HIx 1) (Elt F) ℕ UU ℕ) :=
  iprop(Pipeline.scopedRest (Ix := HIx 1) (Name := ℕ) (U := UU) (Lvl := ℕ) (Val := Elt F) win c ∗ ∃ r, prngReg c r)

end Cert.Own
-- ==== Proof.Steps.lean ====
module

public import proofs.«01_k».proof.Proof.Setup
public import proofs.«01_k».proof.Proof.Ghost

/-! The steps of a trip, each over the share of the memory that it moves: the index fetch and its wait, the gather and its
wait, the write-out and its wait. -/

@[expose] public section

noncomputable section

namespace Cert.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

abbrev thr (d : Dev nD) (L : grid1.Coords) : Thread nD τ := V d (cV L) (jV L)

section

variable (d : Dev nD) (L : grid1.Coords)
variable (TB : S4096x128.Idx → Elt F .f32) (IX : S1x131072.Idx → Elt F .i32)

omit [FloatOps F] in
theorem credit_iSlot : ∀ b : Fin 2, 0 < (iSlot b).view.dmaCredit := by decide
omit [FloatOps F] in
theorem credit_oWin (t : ℕ) (ht : t < 32) : 0 < (oWin L t ht).view.dmaCredit := by
  show 0 < (rSlot 0).view.dmaCredit
  decide

/-- Index slot `b` with its cell at zero; row slot `b` with its cell at zero. -/
def iFree (b : Fin 2) : sProp 𝕄 :=
  iprop((∃ f, (iSlot b).view.loc (thr d L) ↦[(iSlot b).view.set]{fullShare} f) ∗ semVal (thr d L, .dma (iSem b)) 0)
def rFree (b : Fin 2) : sProp 𝕄 :=
  iprop((∃ f, (rSlot b).view.loc (thr d L) ↦[(rSlot b).view.set]{fullShare} f) ∗ semVal (thr d L, .dma (oSem b)) 0)

/-- Index slot `b` holding window `t`. -/
def iFull (t : ℕ) (ht : t < 32) (b : Fin 2) : sProp 𝕄 :=
  iprop(∃ f, ⌜(iSlot b).view.read (Elt F) f = (iWin L t ht).view.read (Elt F) IX⌝
    ∗ (iSlot b).view.loc (thr d L) ↦[(iSlot b).view.set]{fullShare} f)

/-- Window `t`'s indices on their way into their slot. -/
def iFly (q : PosShare TreeShare) (t : ℕ) (ht : t < 32) (b : Fin 2) : sProp 𝕄 :=
  Transfers.Flight countersEmb (thr d L) (.dma (iSem b)) (default : HIx 1) (iSlot b).view.dmaCredit
    iprop(iFull d L IX t ht b ∗ (idxM).view.loc (thr d L) ↦[(iWin L t ht).view.set]{q} IX)

/-- Window `t`'s rows on their way out of their slot. -/
def oFly (t : ℕ) (ht : t < 32) (b : Fin 2) : sProp 𝕄 :=
  Transfers.Flight countersEmb (thr d L) (.dma (oSem b)) (default : HIx 1) (oWin L t ht).view.dmaCredit
    iprop(((outM).view.loc (thr d L) ↦[(oWin L t ht).view.set]{fullShare} OUT TB IX)
      ∗ ∃ f, (rSlot b).view.loc (thr d L) ↦[(rSlot b).view.set]{fullShare} f)

/-- Starting window `t`'s index fetch. -/
theorem wp_fetch (q : PosShare TreeShare) (t : ℕ) (ht : t < 32) (b : Fin 2)
    {o1 : Fin 3 → ℕ} (h1 : o1 = ![b.val, 0, 0]) {o2 : Fin 2 → ℕ} (h2 : o2 = ![0, base L + 128 * t])
    {o3 : Fin 1 → ℕ} (h3 : o3 = ![b.val])
    (p1 : ∀ a, o1 a + S1x1x128.size a ≤ S2x1x128.size a) (p2 : ∀ a, o2 a + S1x128.size a ≤ S1x131072.size a)
    (p3 : ∀ a, o3 a + S1.size a ≤ S2.size a) hs hd hx
    {α : Type} (k : PUnit → Prog (TpuEff nD τ sig (Elt F) Λ₀ (thr d L).2) α) (Q : α → sProp 𝕄) :
    iprop(((idxM).view.loc (thr d L) ↦{q} IX) ∗ iFree d L b)
      ⊢ iprop((iFly d L IX q t ht b ∗ ((idxM).view.loc (thr d L) ↦[Finset.univ \ (iWin L t ht).view.set]{q} IX)
            -∗ wp frame (wpE (defs₀ (F := F)) 𝒱₀ (thr d L) none) Set.univ (k ⟨⟩) Q)
        -∗ wp frame (wpE (defs₀ (F := F)) 𝒱₀ (thr d L) none) Set.univ
          (.op (.enqueueDma ((idxM).slice (Rect.unit (s := S1x131072) o2 S1x128.size p2) (fun _ => rfl))
            (.here (((ibufM).slice (Rect.unit (s := S2x1x128) o1 S1x1x128.size p1) (fun _ => rfl)).squeeze S1x128 squeezes_S1x1x128_S1x128))
            (.dma ((cc1_scoped1.slice (Rect.unit (s := S2) o3 S1.size p3)).squeeze S_ squeezes_S1_S_).sem) hs hd hx) k) Q) := by
  subst h1 h2 h3
  unfold iFree
  iintro ⟨Hi, ⟨%f, Hs⟩, Hc⟩ Hk
  ihave Hi2 := (pointsTo_split_subset (q := q) (f := IX) (S := Finset.univ) (Finset.subset_univ (iWin L t ht).view.set)).1 $$ Hi
  icases Hi2 with ⟨Hw, Hr⟩
  iapply (Transfers.wp_dmaLocal countersEmb 𝒱₀ (thr d L) none (default : HIx 1) (iSlot b).view.dmaCredit
    (src := iWin L t ht) (dst := iSlot b) rfl (credit_iSlot b) (Finset.Subset.refl _)) $$ [Hw Hs Hc]
  · isplitl [Hw]; · iexact Hw
    isplitl [Hs]; · iexact Hs
    iexact Hc
  iintro Hf
  iapply Hk
  isplitl [Hf]
  · unfold iFly
    iapply (Transfers.Flight_mono countersEmb (thr d L) ?_) $$ Hf
    unfold iFull
    iintro ⟨H1, H2⟩
    isplitl [H1]
    · iexists _
      isplitr
      swap; · iexact H1
      ipureintro
      exact View.read_write_univ _ _
    · iexact H2
  · iexact Hr

/-- Waiting for it. -/
theorem wp_fetched (q : PosShare TreeShare) (t : ℕ) (ht : t < 32) (b : Fin 2) (O : CellTallies nD τ sig (HIx 1)) (W : Waits sig (HIx 1))
    {o1 : Fin 3 → ℕ} (h1 : o1 = ![b.val, 0, 0]) {o2 : Fin 2 → ℕ}
    {o3 : Fin 1 → ℕ} (h3 : o3 = ![b.val])
    (p1 : ∀ a, o1 a + S1x1x128.size a ≤ S2x1x128.size a) (p2 : ∀ a, o2 a + S1x128.size a ≤ S1x131072.size a)
    (p3 : ∀ a, o3 a + S1.size a ≤ S2.size a) hs hd
    {α : Type} (k : PUnit → Prog (TpuEff nD τ sig (Elt F) Λ₀ (thr d L).2) α) (Q : α → sProp 𝕄) :
    iprop(iFly d L IX q t ht b ∗ ((idxM).view.loc (thr d L) ↦[Finset.univ \ (iWin L t ht).view.set]{q} IX)
        ∗ owes (thr d L) O W ∗ MayWait (thr d L) (.dma (iSem b)) (default : HIx 1) O)
      ⊢ iprop((((idxM).view.loc (thr d L) ↦{q} IX) ∗ iFull d L IX t ht b ∗ semVal (thr d L, .dma (iSem b)) 0
              ∗ owes (thr d L) O (insert (SemLoc.dma (iSem b), (default : HIx 1)) W)
            -∗ wp frame (wpE (defs₀ (F := F)) 𝒱₀ (thr d L) none) Set.univ (k ⟨⟩) Q)
        -∗ wp frame (wpE (defs₀ (F := F)) 𝒱₀ (thr d L) none) Set.univ
          (.op (.waitDma2 ((cc1_scoped1.slice (Rect.unit (s := S2) o3 S1.size p3)).squeeze S_ squeezes_S1_S_).sem
            ((idxM).slice (Rect.unit (s := S1x131072) o2 S1x128.size p2) (fun _ => rfl))
            (((ibufM).slice (Rect.unit (s := S2x1x128) o1 S1x1x128.size p1) (fun _ => rfl)).squeeze S1x128 squeezes_S1x1x128_S1x128)
            hs hd) k) Q) := by
  subst h1 h3
  unfold iFly
  iintro ⟨Hf, Hr, HO, Hm⟩ Hk
  iapply (Transfers.wp_waitLocalO countersEmb 𝒱₀ (thr d L) none (default : HIx 1) (rfl : (iSlot b).view.dmaCredit = _)) $$ [Hf HO Hm]
  · isplitl [Hf]; · iexact Hf
    isplitl [HO]; · iexact HO
    iexact Hm
  iintro ⟨⟨HF, Hw⟩, Hc, HO⟩
  iapply Hk
  isplitl [Hw Hr]
  · iapply (pointsTo_split_subset (q := q) (f := IX) (S := Finset.univ) (Finset.subset_univ (iWin L t ht).view.set)).2
    isplitl [Hw]; · iexact Hw
    iexact Hr
  isplitl [HF]; · iexact HF
  isplitl [Hc]; · iexact Hc
  iexact HO

/-- Row slot `b` holding window `t` of the output. -/
def rFull (t : ℕ) (ht : t < 32) (b : Fin 2) : sProp 𝕄 :=
  iprop(∃ f, ⌜∀ r j : Fin 128, (rSlot b).view.read (Elt F) f (ix2 r j) = OUT TB IX ((oWin L t ht).view.emb (ix2 r j))⌝
    ∗ (rSlot b).view.loc (thr d L) ↦[(rSlot b).view.set]{fullShare} f)

omit [FloatOps F] in
theorem hN_gather : ∀ (b : Fin 2) (h : S4096x128.Gathers 0 S128x128),
    ∑ j, ((rSlot b).slice (S128x128.rowRect h.axis' j) (S128x128.stride_rowRect h.axis' j)).view.dmaCredit = (rSlot b).view.dmaCredit := by
  decide
omit [FloatOps F] in
theorem credit_rSlot : ∀ b : Fin 2, 0 < (rSlot b).view.dmaCredit := by decide

/-- Window `t`'s gather, from the table into its row slot, over the offsets its index slot holds. -/
def gFly (q : PosShare TreeShare) (t : ℕ) (ht : t < 32) (b : Fin 2) : sProp 𝕄 :=
  Transfers.Flight countersEmb (thr d L) (.dma gSem) (default : HIx 1) (rSlot b).view.dmaCredit
    iprop(rFull d L TB IX t ht b ∗ ((tabM).view.loc (thr d L) ↦{q} TB)
      ∗ ∃ f, (iSlot b).view.loc (thr d L) ↦[(iSlot b).view.set]{fullShare} f)

/-- Starting it. -/
theorem wp_gather (hIX : ∀ x, (show BitVec 32 from IX x).toNat < 4096) (q : PosShare TreeShare) (t : ℕ) (ht : t < 32) (b : Fin 2)
    {o1 : Fin 3 → ℕ} (h1 : o1 = ![b.val, 0, 0]) {o2 : Fin 3 → ℕ} (h2 : o2 = ![b.val, 0, 0])
    (p1 : ∀ a, o1 a + S1x128x128.size a ≤ S2x128x128.size a) (p2 : ∀ a, o2 a + S1x1x128.size a ≤ S2x1x128.size a) hp hn he hsp hr
    {α : Type} (k : PUnit → Prog (TpuEff nD τ sig (Elt F) Λ₀ (thr d L).2) α) (Q : α → sProp 𝕄) :
    iprop(((tabM).view.loc (thr d L) ↦{q} TB) ∗ iFull d L IX t ht b
        ∗ (∃ f, (rSlot b).view.loc (thr d L) ↦[(rSlot b).view.set]{fullShare} f) ∗ semVal (thr d L, .dma gSem) 0)
      ⊢ iprop((gFly d L TB IX q t ht b
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather hp ((tabM).slice (Rect.unit (s := S4096x128) ![0, 0] S4096x128.size inb_S4096x128_S4096x128_0_0) (fun _ => rfl))
            (((rbufM).slice (Rect.unit (s := S2x128x128) o1 S1x128x128.size p1) (fun _ => rfl)).squeeze S128x128 squeezes_S1x128x128_S128x128)
            gathers_S4096x128_S128x128
            (((((ibufM).slice (Rect.unit (s := S2x1x128) o2 S1x1x128.size p2) (fun _ => rfl)).squeeze S1x128 squeezes_S1x1x128_S1x128).slice
              (Rect.unit (s := S1x128) ![0, 0] S1x128.size inb_S1x128_S1x128_0_0) (fun _ => rfl)).squeeze S128 squeezes_S1x128_S128)
            hn cc1_scoped4.sem he hsp hr >>= k) Q) := by
  subst h1 h2
  unfold iFull
  iintro ⟨Ht, ⟨%fi, %hfi, Hi⟩, ⟨%f, Hr⟩, Hc⟩ Hk
  ihave Ht' := (Entails.of_eq (show ((tabM).view.loc (thr d L) ↦{q} TB : sProp 𝕄)
      = (tabAll).view.loc (thr d L) ↦[(tabAll).view.set]{q} TB by rw [set_tabAll])) $$ Ht
  ihave Hi' := (Entails.of_eq (show ((iSlot b).view.loc (thr d L) ↦[(iSlot b).view.set]{fullShare} fi : sProp 𝕄)
      = (offsM b).view.loc (thr d L) ↦[(offsM b).view.set]{fullShare} fi by rw [set_offsM])) $$ Hi
  iapply (SparseCore.wp_indirectGatherLocal countersEmb 𝒱₀ (thr d L) none (hg := gathers_S4096x128_S128x128) (default : HIx 1)
      (rSlot b).view.dmaCredit (hN_gather b _) (by decide) (src := tabAll) (dst := rSlot b) (offs := offsM b)
      (offs_lt L t ht b fi IX hfi hIX)) $$ [Ht' Hr Hi' Hc]
  · isplitl [Ht']; · iexact Ht'
    isplitl [Hr]; · iexact Hr
    isplitl [Hi']; · iexact Hi'
    iexact Hc
  iintro Hf
  iapply Hk
  unfold gFly
  iapply (Transfers.Flight_mono countersEmb (thr d L) ?_) $$ Hf
  iintro ⟨H1, H2, H3⟩
  isplitl [H1]
  · unfold rFull
    iexists _
    isplitr
    swap; · iexact H1
    ipureintro
    intro r j
    rw [View.read_write_univ]
    exact gather_eq L t ht b fi TB IX hfi _ _ r j
  isplitl [H2]
  · iapply (Entails.of_eq (show ((tabM).view.loc (thr d L) ↦{q} TB : sProp 𝕄)
      = (tabAll).view.loc (thr d L) ↦[(tabAll).view.set]{q} TB by rw [set_tabAll]).symm)
    iexact H2
  · iexists fi
    iapply (Entails.of_eq (show ((iSlot b).view.loc (thr d L) ↦[(iSlot b).view.set]{fullShare} fi : sProp 𝕄)
      = (offsM b).view.loc (thr d L) ↦[(offsM b).view.set]{fullShare} fi by rw [set_offsM]).symm)
    iexact H3

/-- Waiting for it. -/
theorem wp_gathered (q : PosShare TreeShare) (t : ℕ) (ht : t < 32) (b : Fin 2) (O : CellTallies nD τ sig (HIx 1)) (W : Waits sig (HIx 1))
    {o1 : Fin 3 → ℕ} (h1 : o1 = ![b.val, 0, 0])
    (p1 : ∀ a, o1 a + S1x128x128.size a ≤ S2x128x128.size a) hs hd
    {α : Type} (k : PUnit → Prog (TpuEff nD τ sig (Elt F) Λ₀ (thr d L).2) α) (Q : α → sProp 𝕄) :
    iprop(gFly d L TB IX q t ht b ∗ owes (thr d L) O W ∗ MayWait (thr d L) (.dma gSem) (default : HIx 1) O)
      ⊢ iprop((rFull d L TB IX t ht b ∗ ((tabM).view.loc (thr d L) ↦{q} TB)
              ∗ (∃ f, (iSlot b).view.loc (thr d L) ↦[(iSlot b).view.set]{fullShare} f) ∗ semVal (thr d L, .dma gSem) 0
              ∗ owes (thr d L) O (insert (SemLoc.dma gSem, (default : HIx 1)) W)
            -∗ wp frame (wpE (defs₀ (F := F)) 𝒱₀ (thr d L) none) Set.univ (k ⟨⟩) Q)
        -∗ wp frame (wpE (defs₀ (F := F)) 𝒱₀ (thr d L) none) Set.univ
          (SparseCore.waitIndirectGather cc1_scoped4.sem ((tabM).slice (Rect.unit (s := S4096x128) ![0, 0] S4096x128.size inb_S4096x128_S4096x128_0_0) (fun _ => rfl))
            (((rbufM).slice (Rect.unit (s := S2x128x128) o1 S1x128x128.size p1) (fun _ => rfl)).squeeze S128x128 squeezes_S1x128x128_S128x128)
            hs hd >>= k) Q) := by
  subst h1
  unfold gFly
  iintro ⟨Hf, HO, Hm⟩ Hk
  unfold SparseCore.waitIndirectGather
  iapply (Transfers.wp_waitLocalO countersEmb 𝒱₀ (thr d L) none (default : HIx 1) (rfl : (rSlot b).view.dmaCredit = _)) $$ [Hf HO Hm]
  · isplitl [Hf]; · iexact Hf
    isplitl [HO]; · iexact HO
    iexact Hm
  iintro ⟨⟨H1, H2, H3⟩, Hc, HO⟩
  iapply Hk
  isplitl [H1]; · iexact H1
  isplitl [H2]; · iexact H2
  isplitl [H3]; · iexact H3
  isplitl [Hc]; · iexact Hc
  iexact HO

/-- Starting window `t`'s write-out. -/
theorem wp_send (t : ℕ) (ht : t < 32) (b : Fin 2)
    {o1 : Fin 3 → ℕ} (h1 : o1 = ![b.val, 0, 0]) {o2 : Fin 2 → ℕ} (h2 : o2 = ![base L + 128 * t, 0])
    {o3 : Fin 1 → ℕ} (h3 : o3 = ![b.val])
    (p1 : ∀ a, o1 a + S1x128x128.size a ≤ S2x128x128.size a) (p2 : ∀ a, o2 a + S128x128.size a ≤ S131072x128.size a)
    (p3 : ∀ a, o3 a + S1.size a ≤ S2.size a) hs hd hx
    {α : Type} (k : PUnit → Prog (TpuEff nD τ sig (Elt F) Λ₀ (thr d L).2) α) (Q : α → sProp 𝕄) :
    iprop(rFull d L TB IX t ht b ∗ (∃ f, (outM).view.loc (thr d L) ↦[(oWin L t ht).view.set]{fullShare} f)
        ∗ semVal (thr d L, .dma (oSem b)) 0)
      ⊢ iprop((oFly d L TB IX t ht b
            -∗ wp frame (wpE (defs₀ (F := F)) 𝒱₀ (thr d L) none) Set.univ (k ⟨⟩) Q)
        -∗ wp frame (wpE (defs₀ (F := F)) 𝒱₀ (thr d L) none) Set.univ
          (.op (.enqueueDma (((rbufM).slice (Rect.unit (s := S2x128x128) o1 S1x128x128.size p1) (fun _ => rfl)).squeeze S128x128 squeezes_S1x128x128_S128x128)
            (.here ((outM).slice (Rect.unit (s := S131072x128) o2 S128x128.size p2) (fun _ => rfl)))
            (.dma ((cc1_scoped3.slice (Rect.unit (s := S2) o3 S1.size p3)).squeeze S_ squeezes_S1_S_).sem) hs hd hx) k) Q) := by
  subst h1 h2 h3
  unfold rFull
  iintro ⟨⟨%f, %hf, Hs⟩, ⟨%fo, Ho⟩, Hc⟩ Hk
  iapply (Transfers.wp_dmaLocal countersEmb 𝒱₀ (thr d L) none (default : HIx 1) (oWin L t ht).view.dmaCredit
    (src := rSlot b) (dst := oWin L t ht) rfl (credit_oWin L t ht) (Finset.Subset.refl _)) $$ [Hs Ho Hc]
  · isplitl [Hs]; · iexact Hs
    isplitl [Ho]; · iexact Ho
    iexact Hc
  iintro Hf
  iapply Hk
  unfold oFly
  iapply (Transfers.Flight_mono countersEmb (thr d L) ?_) $$ Hf
  iintro ⟨H1, H2⟩
  isplitl [H1]
  · iapply (Entails.of_eq (pointsTo_congr ?_)) $$ H1
    intro i hi
    obtain ⟨y, -, rfl⟩ := Finset.mem_map.mp hi
    rw [View.write_emb_of_mem _ _ (Finset.mem_univ _), cast_eq]
    have hy : ∀ z, z = ix2 (y 0) (y 1) → (rSlot b).view.read (Elt F) f z = OUT TB IX ((oWin L t ht).view.emb z) := by
      rintro _ rfl; exact hf _ _
    exact hy y (by funext a; match a with | 0 => rfl | 1 => rfl)
  · iexists f; iexact H2

/-- Waiting for it. -/
theorem wp_sent (t : ℕ) (ht : t < 32) (b : Fin 2) (O : CellTallies nD τ sig (HIx 1)) (W : Waits sig (HIx 1))
    {o1 : Fin 3 → ℕ} {o2 : Fin 2 → ℕ}
    {o3 : Fin 1 → ℕ} (h3 : o3 = ![b.val])
    (p1 : ∀ a, o1 a + S1x128x128.size a ≤ S2x128x128.size a) (p2 : ∀ a, o2 a + S128x128.size a ≤ S131072x128.size a)
    (p3 : ∀ a, o3 a + S1.size a ≤ S2.size a) hs hd
    {α : Type} (k : PUnit → Prog (TpuEff nD τ sig (Elt F) Λ₀ (thr d L).2) α) (Q : α → sProp 𝕄) :
    iprop(oFly d L TB IX t ht b ∗ owes (thr d L) O W ∗ MayWait (thr d L) (.dma (oSem b)) (default : HIx 1) O)
      ⊢ iprop((((outM).view.loc (thr d L) ↦[(oWin L t ht).view.set]{fullShare} OUT TB IX) ∗ rFree d L b
              ∗ owes (thr d L) O (insert (SemLoc.dma (oSem b), (default : HIx 1)) W)
            -∗ wp frame (wpE (defs₀ (F := F)) 𝒱₀ (thr d L) none) Set.univ (k ⟨⟩) Q)
        -∗ wp frame (wpE (defs₀ (F := F)) 𝒱₀ (thr d L) none) Set.univ
          (.op (.waitDma2 ((cc1_scoped3.slice (Rect.unit (s := S2) o3 S1.size p3)).squeeze S_ squeezes_S1_S_).sem
            (((rbufM).slice (Rect.unit (s := S2x128x128) o1 S1x128x128.size p1) (fun _ => rfl)).squeeze S128x128 squeezes_S1x128x128_S128x128)
            ((outM).slice (Rect.unit (s := S131072x128) o2 S128x128.size p2) (fun _ => rfl))
            hs hd) k) Q) := by
  subst h3
  unfold oFly rFree
  iintro ⟨Hf, HO, Hm⟩ Hk
  iapply (Transfers.wp_waitLocalO countersEmb 𝒱₀ (thr d L) none (default : HIx 1) (rfl : ((outM).slice (Rect.unit (s := S131072x128) o2 S128x128.size p2) (fun _ => rfl)).view.dmaCredit = _)) $$ [Hf HO Hm]
  · isplitl [Hf]; · iexact Hf
    isplitl [HO]; · iexact HO
    iexact Hm
  iintro ⟨⟨Ho, Hr⟩, Hc, HO⟩
  iapply Hk
  isplitl [Ho]; · iexact Ho
  isplitl [Hr Hc]
  · isplitl [Hr]; · iexact Hr
    iexact Hc
  iexact HO

end

end Cert.Own
-- ==== Proof.Tile.lean ====
module

public import proofs.«01_k».proof.Proof.Steps

/-! A tile's loop: the invariant between trips, a trip, and the whole task. -/

@[expose] public section

noncomputable section

namespace Cert.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section

variable (d : Dev nD) (L : grid1.Coords)
variable (TB : S4096x128.Idx → Elt F .f32) (IX : S1x131072.Idx → Elt F .i32) (O0 : S131072x128.Idx → Elt F .f32)
variable (qt : PosShare TreeShare) (qi : Fin 2 → PosShare TreeShare)

/-- Between trips, on the way in: window `t` under way, the other slot free; after the last, both free. -/
def inPart (t : ℕ) : sProp 𝕄 :=
  if h : t < 32 then
    iprop(iFly d L IX (qi (slot t)) t h (slot t) ∗ ((idxM).view.loc (thr d L) ↦[Finset.univ \ (iWin L t h).view.set]{qi (slot t)} IX)
      ∗ iFree (F := F) d L (slot (t + 1)) ∗ ((idxM).view.loc (thr d L) ↦{qi (slot (t + 1))} IX))
  else
    iprop((iFree (F := F) d L 0 ∗ iFree (F := F) d L 1) ∗ ((idxM).view.loc (thr d L) ↦{qi 0} IX) ∗ ((idxM).view.loc (thr d L) ↦{qi 1} IX))

/-- On the way out: window `t - 1` under way, the other slot free; before the first, both free. -/
def outPart (t : ℕ) : sProp 𝕄 :=
  if h : 0 < t ∧ t - 1 < 32 then
    iprop(oFly d L TB IX (t - 1) h.2 (slot (t - 1)) ∗ rFree (F := F) d L (slot t))
  else iprop(rFree (F := F) d L 0 ∗ rFree (F := F) d L 1)

theorem inPart_of_lt (t : ℕ) (h : t < 32) : inPart d L IX qi t
    = iprop(iFly d L IX (qi (slot t)) t h (slot t) ∗ ((idxM).view.loc (thr d L) ↦[Finset.univ \ (iWin L t h).view.set]{qi (slot t)} IX)
      ∗ iFree (F := F) d L (slot (t + 1)) ∗ ((idxM).view.loc (thr d L) ↦{qi (slot (t + 1))} IX)) := dif_pos h
theorem outPart_of_pos (t : ℕ) (h : 0 < t) (h' : t - 1 < 32) : outPart d L TB IX t
    = iprop(oFly d L TB IX (t - 1) h' (slot (t - 1)) ∗ rFree (F := F) d L (slot t)) := dif_pos ⟨h, h'⟩
theorem outPart_zero : outPart d L TB IX 0 = iprop(rFree (F := F) d L 0 ∗ rFree (F := F) d L 1) := dif_neg (fun h => absurd h.1 (by decide))

/-- Between trips: the words, the table, what is under way, the rows done and the rows to come. -/
def inv (O : CellTallies nD τ sig (HIx 1)) (W : Waits sig (HIx 1)) (t : ℕ) (acc : BitVec 32 × BitVec 32 × BitVec 32 × BitVec 32 × BitVec 32) :
    sProp 𝕄 :=
  iprop(⌜acc = accAt t⌝ ∗ □ Transfers.MayWaits (thr d L) (default : HIx 1) O
    ∗ ((tabM).view.loc (thr d L) ↦{qt} TB) ∗ semVal (thr d L, .dma gSem) 0
    ∗ inPart d L IX qi t ∗ outPart d L TB IX t
    ∗ ((outM).view.loc (thr d L) ↦[rowsIn (base L) (base L + 128 * (t - 1))]{fullShare} OUT TB IX)
    ∗ ((outM).view.loc (thr d L) ↦[rowsIn (base L + 128 * t) (base L + 4096)]{fullShare} O0)
    ∗ ∃ W', ⌜∀ p ∈ W', p ∈ W ∨ p.2 = none⌝ ∗ owes (thr d L) O W')

/-- The word that names the tile's first window. -/
abbrev vv (L : grid1.Coords) : BitVec 32 :=
  Scalar.muli (Scalar.addi (Scalar.addi 0#32 (Scalar.muli (BitVec.ofNat 32 (L 1).val) 1#32)) (Scalar.muli (BitVec.ofNat 32 (L 0).val) 16#32)) 32#32

/-! The words a trip computes on the way. -/

abbrev x64 (k : Fin k1_t1_loop.trips) : BitVec 1 := Scalar.cmpi .eq (Scf.iv 0#32 1#32 k) 0#32
abbrev x65 (k : Fin k1_t1_loop.trips) : BitVec 1 := Scalar.cmpi .eq (Scf.iv 0#32 1#32 k) 31#32
abbrev x66 (L : grid1.Coords) (k : Fin k1_t1_loop.trips) : BitVec 32 := Scalar.addi (w10 k) (vv L)
abbrev x68 (k : Fin k1_t1_loop.trips) : BitVec 32 := Scalar.select 1#1 (Scalar.subi (w10 k) 1#32) (w10 k)
abbrev x71 (L : grid1.Coords) (k : Fin k1_t1_loop.trips) : BitVec 32 :=
  Scalar.addi (Scalar.select (Scalar.cmpi .eq (x68 k) 4294967295#32) 31#32 (x68 k)) (vv L)
abbrev x73 (k : Fin k1_t1_loop.trips) : BitVec 32 := Scalar.select 1#1 (Scalar.addi (w10 k) 1#32) (w10 k)
abbrev x76 (L : grid1.Coords) (k : Fin k1_t1_loop.trips) : BitVec 32 :=
  Scalar.addi (Scalar.select (Scalar.cmpi .eq (x73 k) 32#32) 0#32 (x73 k)) (vv L)
abbrev x91 (L : grid1.Coords) (k : Fin k1_t1_loop.trips) : BitVec 32 :=
  Scalar.select (Scalar.andi (Scalar.andi (Scalar.cmpi .ne (x66 L k) (x76 L k)) (Scalar.xori (Scalar.cmpi .sge (Scf.iv 0#32 1#32 k) 31#32) 1#1)) 1#1)
    (Scalar.addi (w6 k) 1#32) (w6 k)
abbrev x96 (L : grid1.Coords) (k : Fin k1_t1_loop.trips) : BitVec 1 := Scalar.cmpi .ne (x66 L k) (x71 L k)

/-- The slot that trip `k` fetches into: window `k + 1` under way, if there is one. -/
def nextIn (t : ℕ) : sProp 𝕄 :=
  if h : t + 1 < 32 then
    iprop(iFly d L IX (qi (slot (t + 1))) (t + 1) h (slot (t + 1))
      ∗ ((idxM).view.loc (thr d L) ↦[Finset.univ \ (iWin L (t + 1) h).view.set]{qi (slot (t + 1))} IX))
  else iprop(iFree (F := F) d L (slot (t + 1)) ∗ ((idxM).view.loc (thr d L) ↦{qi (slot (t + 1))} IX))

/-- The trip's first part: the next window's fetch, if there is one. -/
theorem wp_part1 (k : Fin k1_t1_loop.trips) (Q : _ → sProp 𝕄) :
    iprop(iFree (F := F) d L (slot (k.val + 1)) ∗ ((idxM).view.loc (thr d L) ↦{qi (slot (k.val + 1))} IX))
      ⊢ iprop((nextIn d L IX qi k.val -∗ Q ⟨chk3 k, chk2 k, chk1 L k, Scf.iv 0#32 1#32 k, x64 k, x65 k, x66 L k, x71 L k, x76 L k, x91 L k, x96 L k⟩)
        -∗ wp frame (wpE (defs₀ (F := F)) 𝒱₀ (thr d L) none) Set.univ
          (k1_part1 L tabM (Memref.isWhole_whole _) idxM (Memref.isWhole_whole _) outM (Memref.isWhole_whole _)
            ibufM (Memref.isWhole_whole _) cc1_scoped1 rbufM (Memref.isWhole_whole _) cc1_scoped3 cc1_scoped4 (vv L) 0#32 1#32 k
            (w6 k) (w7 k) (w7 k) (w9 k) (w10 k)) Q) := by
  rw [k1_part1_eq_skeleton]
  unfold k1_part1_skel nextIn
  simp only [Prog.bind_lift]
  rw [wp_assume_of 𝒱₀ (thr d L) none Set.univ (chk3 k), wp_assume_of 𝒱₀ (thr d L) none Set.univ (chk2 k),
    wp_assume_of 𝒱₀ (thr d L) none Set.univ (chk1 L k)]
  iintro ⟨Hs, Hi⟩ Hk
  by_cases h : k.val + 1 < 32
  · rw [dif_pos ((cond1_iff L k).mpr h), dif_pos h]
    iapply (wp_fetch d L IX _ (k.val + 1) h (slot (k.val + 1)) (off4_eq k h) (off5_eq L k h) (off6_eq k h)) $$ [Hi Hs]
    · isplitl [Hi]; · iexact Hi
      iexact Hs
    iintro H
    rw [wp_pure]
    imodintro
    iapply Hk
    iexact H
  · rw [dif_neg (fun e => h ((cond1_iff L k).mp e)), dif_neg h]
    rw [wp_pure]
    imodintro
    iapply Hk
    isplitl [Hs]; · iexact Hs
    iexact Hi

theorem slot_add_two (t : ℕ) : slot (t + 2) = slot t := Fin.ext (by show (t + 2) % 2 = t % 2; omega)

/-- Window `k`'s slot free again, the way in is as the next trip takes it. -/
theorem inPart_succ (t : ℕ) (ht : t < 32) :
    iprop(nextIn d L IX qi t ∗ iFree (F := F) d L (slot t) ∗ ((idxM).view.loc (thr d L) ↦{qi (slot t)} IX)) ⊢ inPart d L IX qi (t + 1) := by
  unfold nextIn inPart
  by_cases h : t + 1 < 32
  · rw [dif_pos h, dif_pos h, show t + 1 + 1 = t + 2 from rfl, slot_add_two]
    iintro ⟨⟨H1, H2⟩, H3, H4⟩
    isplitl [H1]; · iexact H1
    isplitl [H2]; · iexact H2
    isplitl [H3]; · iexact H3
    iexact H4
  · obtain rfl : t = 31 := by omega
    rw [dif_neg h, dif_neg h, show slot (31 + 1) = 0 from rfl, show slot 31 = 1 from rfl]
    iintro ⟨⟨H1, H2⟩, H3, H4⟩
    isplitl [H1 H3]
    · isplitl [H1]; · iexact H1
      iexact H3
    isplitl [H2]; · iexact H2
    iexact H4

/-- Window `t - 1` on its way out, if there is one. -/
def prevOut (t : ℕ) : sProp 𝕄 :=
  if h : 0 < t ∧ t - 1 < 32 then oFly d L TB IX (t - 1) h.2 (slot (t - 1)) else rFree (F := F) d L 1
theorem prevOut_of_pos (t : ℕ) (h : 0 < t) (h' : t - 1 < 32) : prevOut d L TB IX t = oFly d L TB IX (t - 1) h' (slot (t - 1)) := dif_pos ⟨h, h'⟩
theorem prevOut_zero (t : ℕ) (h : ¬0 < t) : prevOut d L TB IX t = rFree (F := F) d L 1 := dif_neg (fun e => h e.1)

theorem outPart_prev (t : ℕ) (ht : t < 32) : outPart d L TB IX t ⊢ iprop(prevOut d L TB IX t ∗ rFree (F := F) d L (slot t)) := by
  by_cases h : 0 < t
  · rw [outPart_of_pos d L TB IX t h (by omega), prevOut_of_pos d L TB IX t h (by omega)]
  · have h0 : t = 0 := by omega
    rw [prevOut_zero d L TB IX t h, h0, outPart_zero, show slot 0 = 0 from rfl]
    iintro ⟨H1, H2⟩
    isplitl [H2]; · iexact H2
    iexact H1

theorem next_words : ∀ (L : grid1.Coords) (k : Fin k1_t1_loop.trips),
    ((x91 L k, Scalar.select (Scalar.ori (Scalar.cmpi .ne (x66 L k) (x76 L k)) (x65 k)) (Scalar.addi (w7 k) 1#32) (w7 k),
      Scalar.select (Scalar.andi (Scalar.ori (Scalar.cmpi .ne (x66 L k) (x76 L k)) (x65 k)) 1#1) (Scalar.addi (w7 k) 1#32) (w7 k),
      Scalar.select (Scalar.andi (Scalar.andi (Scalar.cmpi .ne (x66 L k) (x71 L k)) (Scalar.xori (x64 k) 1#1)) 1#1) (Scalar.addi (w9 k) 1#32) (w9 k),
      Scalar.select (Scalar.cmpi .eq (x73 k) 32#32) 0#32 (x73 k)) : BitVec 32 × BitVec 32 × BitVec 32 × BitVec 32 × BitVec 32)
      = accAt (k.val + 1) := by decide +kernel

omit [FloatOps F] in
theorem rest_split (t : ℕ) (ht : t < 32) : rowsIn (base L + 128 * t) (base L + 4096) \ (oWin L t ht).view.set = rowsIn (base L + 128 * (t + 1)) (base L + 4096) := by
  refine Finset.ext fun (x : S131072x128.Idx) => ?_
  rw [Finset.mem_sdiff, set_oWin, mem_rowsIn, mem_rowsIn, mem_rowsIn]
  omega

omit [FloatOps F] in
theorem win_sub (t : ℕ) (ht : t < 32) : (oWin L t ht).view.set ⊆ rowsIn (base L + 128 * t) (base L + 4096) := by
  intro (x : S131072x128.Idx) hx
  rw [set_oWin, mem_rowsIn] at hx
  rw [mem_rowsIn]
  omega

omit [FloatOps F] in
theorem done_disj (t : ℕ) (ht : t < 32) : Disjoint (rowsIn (base L) (base L + 128 * t)) (oWin L t ht).view.set := by
  rw [set_oWin]
  refine Finset.disjoint_left.mpr fun (x : S131072x128.Idx) hx hy => ?_
  rw [mem_rowsIn] at hx hy
  omega

omit [FloatOps F] in
theorem done_union (t : ℕ) (ht : t < 32) : rowsIn (base L) (base L + 128 * t) ∪ (oWin L t ht).view.set = rowsIn (base L) (base L + 128 * (t + 1)) := by
  refine Finset.ext fun (x : S131072x128.Idx) => ?_
  rw [Finset.mem_union, set_oWin, mem_rowsIn, mem_rowsIn, mem_rowsIn]
  omega

/-- Window `t` written out, the rows done are those up to window `t + 1`. -/
theorem done_succ (t : ℕ) (ht : t < 32) (f : S131072x128.Idx → Elt F .f32) :
    iprop(((outM).view.loc (thr d L) ↦[rowsIn (base L) (base L + 128 * t)]{fullShare} f) ∗ ((outM).view.loc (thr d L) ↦[(oWin L t ht).view.set]{fullShare} f))
      ⊢ ((outM).view.loc (thr d L) ↦[rowsIn (base L) (base L + 128 * (t + 1))]{fullShare} f : sProp 𝕄) := by
  rw [← done_union L t ht]
  exact (pointsTo_union (done_disj L t ht)).2

set_option maxHeartbeats 2000000 in
theorem trip (hIX : ∀ x, (show BitVec 32 from IX x).toNat < 4096) (O : CellTallies nD τ sig (HIx 1)) (W : Waits sig (HIx 1))
    (k : Fin k1_t1_loop.trips) (acc : BitVec 32 × BitVec 32 × BitVec 32 × BitVec 32 × BitVec 32) :
    inv d L TB IX O0 qt qi O W k.val acc
      ⊢ wp frame (wpE (defs₀ (F := F)) 𝒱₀ (thr d L) none) Set.univ
          (k1_t1_body L tabM (Memref.isWhole_whole _) idxM (Memref.isWhole_whole _) outM (Memref.isWhole_whole _)
            ibufM (Memref.isWhole_whole _) cc1_scoped1 rbufM (Memref.isWhole_whole _) cc1_scoped3 cc1_scoped4 (vv L) k acc)
          (inv d L TB IX O0 qt qi O W (k.val + 1)) := by
  have hk : k.val < 32 := k.isLt
  unfold inv
  iintro ⟨%hacc, #Hmw, Ht, Hg, Hin, Hout, Hdone, Hrest, %W1, %hW1, HO⟩
  ihave Hin := (Entails.of_eq (inPart_of_lt d L IX qi k.val hk)) $$ Hin
  icases Hin with ⟨Hf, Hir, Hs, Hi⟩
  subst hacc
  unfold k1_t1_body accAt
  dsimp only []
  rw [wp_bind]
  iapply (wp_part1 d L IX qi k) $$ [Hs Hi]
  · isplitl [Hs]; · iexact Hs
    iexact Hi
  iintro Hnext
  rw [k1_part2_eq_skeleton]
  unfold k1_part2_skel
  simp only [dif_pos (cond2_eq L k), dif_pos (cond5_eq L k), ite_self, Prog.bind_lift, Prog.bind_op, Prog.bind_ret, Prog.pure_eq_ret, Prog.bind_assoc]
  iapply (wp_fetched d L IX _ k.val hk (slot k.val) O W1 (off7_eq k) (off9_eq k)) $$ [Hf Hir HO]
  · isplitl [Hf]; · iexact Hf
    isplitl [Hir]; · iexact Hir
    isplitl [HO]; · iexact HO
    iapply (Transfers.MayWaits.elim (SemLoc.dma (iSem (slot k.val)))) $$ Hmw
  iintro ⟨Hi, Hfull, Hic, HO⟩
  ihave Hout2 := (outPart_prev d L TB IX k.val hk) $$ Hout
  icases Hout2 with ⟨Hprev, Hrow⟩
  ihave Hrow2 := (Entails.of_eq (show rFree (F := F) d L (slot k.val) = iprop((∃ f, (rSlot (slot k.val)).view.loc (thr d L) ↦[(rSlot (slot k.val)).view.set]{fullShare} f)
    ∗ semVal (thr d L, .dma (oSem (slot k.val))) 0) from rfl)) $$ Hrow
  icases Hrow2 with ⟨Hrow, Hoc⟩
  iapply (wp_gather d L TB IX hIX qt k.val hk (slot k.val) (off10_eq k) (off11_eq k)) $$ [Ht Hfull Hrow Hg]
  · isplitl [Ht]; · iexact Ht
    isplitl [Hfull]; · iexact Hfull
    isplitl [Hrow]; · iexact Hrow
    iexact Hg
  iintro Hgf
  iapply (wp_gathered d L TB IX qt k.val hk (slot k.val) O _ (off10_eq k)) $$ [Hgf HO]
  · isplitl [Hgf]; · iexact Hgf
    isplitl [HO]; · iexact HO
    iapply (Transfers.MayWaits.elim (SemLoc.dma gSem)) $$ Hmw
  iintro ⟨Hrow, Ht, Hislot, Hg, HO⟩
  ihave Hrest2 := (pointsTo_split_subset (q := fullShare) (f := O0) (win_sub L k.val hk)).1 $$ Hrest
  icases Hrest2 with ⟨Hwin, Hrest⟩
  iapply (wp_send d L TB IX k.val hk (slot k.val) (off12_eq k) (off13_eq L k) (off14_eq k)) $$ [Hrow Hwin Hoc]
  · isplitl [Hrow]; · iexact Hrow
    isplitl [Hwin]; · iexists _; iexact Hwin
    iexact Hoc
  iintro Hof
  by_cases h0 : 0 < k.val
  · ihave Hprev := (Entails.of_eq (prevOut_of_pos d L TB IX k.val h0 (by omega))) $$ Hprev
    rw [dif_pos ((cond7_iff L k).mpr h0)]
    iapply (wp_sent d L TB IX (k.val - 1) (by omega) (slot (k.val - 1)) O _ (off17_eq k)) $$ [Hprev HO]
    · isplitl [Hprev]; · iexact Hprev
      isplitl [HO]; · iexact HO
      iapply (Transfers.MayWaits.elim (SemLoc.dma (oSem (slot (k.val - 1))))) $$ Hmw
    iintro ⟨Hw, Hfree, HO⟩
    rw [wp_ret]
    imodintro
    isplitr; · ipureintro; exact next_words L k
    isplitr; · iexact Hmw
    isplitl [Ht]; · iexact Ht
    isplitl [Hg]; · iexact Hg
    isplitl [Hnext Hislot Hic Hi]
    · iapply (inPart_succ d L IX qi k.val hk)
      isplitl [Hnext]; · iexact Hnext
      isplitl [Hislot Hic]
      · unfold iFree
        isplitl [Hislot]; · iexact Hislot
        iexact Hic
      · iexact Hi
    isplitl [Hof Hfree]
    · rw [outPart_of_pos d L TB IX (k.val + 1) (by omega) (by omega)]
      isplitl [Hof]; · iexact Hof
      rw [show slot (k.val + 1) = slot (k.val - 1) from Fin.ext (by show (k.val + 1) % 2 = (k.val - 1) % 2; omega)]
      iexact Hfree
    isplitl [Hdone Hw]
    · rw [show k.val + 1 - 1 = (k.val - 1) + 1 by omega]
      iapply (done_succ d L (k.val - 1) (by omega) (OUT TB IX))
      isplitl [Hdone]; · iexact Hdone
      iexact Hw
    isplitl [Hrest]
    · rw [← rest_split L k.val hk]; iexact Hrest
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW1 p hp
  · ihave Hprev := (Entails.of_eq (prevOut_zero d L TB IX k.val h0)) $$ Hprev
    rw [dif_neg (fun e => h0 ((cond7_iff L k).mp e))]
    have hk0 : k.val = 0 := by omega
    rw [wp_ret]
    imodintro
    isplitr; · ipureintro; exact next_words L k
    isplitr; · iexact Hmw
    isplitl [Ht]; · iexact Ht
    isplitl [Hg]; · iexact Hg
    isplitl [Hnext Hislot Hic Hi]
    · iapply (inPart_succ d L IX qi k.val hk)
      isplitl [Hnext]; · iexact Hnext
      isplitl [Hislot Hic]
      · unfold iFree
        isplitl [Hislot]; · iexact Hislot
        iexact Hic
      · iexact Hi
    isplitl [Hof Hprev]
    · rw [outPart_of_pos d L TB IX (k.val + 1) (by omega) (by omega)]
      isplitl [Hof]; · iexact Hof
      rw [show slot (k.val + 1) = 1 from Fin.ext (by show (k.val + 1) % 2 = 1; omega)]
      iexact Hprev
    isplitl [Hdone]
    · rw [show k.val + 1 - 1 = k.val - 1 by omega]
      iexact Hdone
    isplitl [Hrest]
    · rw [← rest_split L k.val hk]; iexact Hrest
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW1 p hp

end

end Cert.Own
-- ==== Proof.Task.lean ====
module

public import proofs.«01_k».proof.Proof.Tile

/-! A tile's task: the first fetch, the loop, the last wait; and the task as the launch hands it its buffers and cells. -/

@[expose] public section

noncomputable section

namespace Cert.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section

variable (d : Dev nD) (L : grid1.Coords)
variable (TB : S4096x128.Idx → Elt F .f32) (IX : S1x131072.Idx → Elt F .i32) (O0 : S131072x128.Idx → Elt F .f32)
variable (qt : PosShare TreeShare) (qi : Fin 2 → PosShare TreeShare)

theorem inPart_last : inPart d L IX qi 32
    = iprop((iFree (F := F) d L 0 ∗ iFree (F := F) d L 1) ∗ ((idxM).view.loc (thr d L) ↦{qi 0} IX) ∗ ((idxM).view.loc (thr d L) ↦{qi 1} IX)) :=
  dif_neg (by decide)

/-- The four slots and the gather's cell, all free. -/
def slots : sProp 𝕄 :=
  iprop(iFree (F := F) d L 0 ∗ iFree (F := F) d L 1 ∗ rFree (F := F) d L 0 ∗ rFree (F := F) d L 1 ∗ semVal (thr d L, .dma gSem) 0)

/-- The task, from free slots back to free slots, with its rows of the output written. -/
theorem task_core (hIX : ∀ x, (show BitVec 32 from IX x).toNat < 4096) (O : CellTallies nD τ sig (HIx 1)) (W : Waits sig (HIx 1)) :
    iprop(□ Transfers.MayWaits (thr d L) (default : HIx 1) O ∗ ((tabM).view.loc (thr d L) ↦{qt} TB)
        ∗ ((idxM).view.loc (thr d L) ↦{qi 0} IX) ∗ ((idxM).view.loc (thr d L) ↦{qi 1} IX)
        ∗ ((outM).view.loc (thr d L) ↦[rowsIn (base L) (base L + 4096)]{fullShare} O0)
        ∗ slots (F := F) d L ∗ owes (thr d L) O W)
      ⊢ wp frame (wpE (defs₀ (F := F)) 𝒱₀ (thr d L) none) Set.univ
          (cc1_gk L tabM (Memref.isWhole_whole _) idxM (Memref.isWhole_whole _) outM (Memref.isWhole_whole _)
            ibufM (Memref.isWhole_whole _) cc1_scoped1 rbufM (Memref.isWhole_whole _) cc1_scoped3 cc1_scoped4)
          fun _ => iprop(((tabM).view.loc (thr d L) ↦{qt} TB)
            ∗ ((idxM).view.loc (thr d L) ↦{qi 0} IX) ∗ ((idxM).view.loc (thr d L) ↦{qi 1} IX)
            ∗ ((outM).view.loc (thr d L) ↦[rowsIn (base L) (base L + 4096)]{fullShare} OUT TB IX)
            ∗ slots (F := F) d L ∗ ∃ W', ⌜∀ p ∈ W', p ∈ W ∨ p.2 = none⌝ ∗ owes (thr d L) O W') := by
  rw [cc1_gk_eq_skeleton]
  unfold cc1_gk_skel
  simp only [k1_part3_eq_skeleton, k1_part4_eq_skeleton]
  unfold k1_part3_skel k1_part4_skel
  simp only [Prog.bind_lift, Prog.bind_op, Prog.bind_ret, Prog.pure_eq_ret, Prog.bind_assoc]
  unfold slots
  iintro ⟨#Hmw, Ht, Hi0, Hi1, Ho, ⟨Hs0, Hs1, Hr0, Hr1, Hg⟩, HO⟩
  iapply (wp_fetch d L IX (qi 0) 0 (by decide) 0 off1_eq (off2_eq L) off3_eq) $$ [Hi0 Hs0]
  · isplitl [Hi0]; · iexact Hi0
    iexact Hs0
  iintro ⟨Hf, Hir⟩
  ihave Ho2 := (pointsTo_split_subset (q := fullShare) (f := O0) (Finset.empty_subset (rowsIn (base L) (base L + 4096)))).1 $$ Ho
  icases Ho2 with ⟨Hdone, Hrest⟩
  iapply (Scf.wp_for_bind Idealize.ShloMosaic.frame (wpE (defs₀ (F := F)) 𝒱₀ (thr d L) none) Set.univ _ _ _ k1_t1_ok _ _ (inv d L TB IX O0 qt qi O W)
    (trip d L TB IX O0 qt qi hIX O W)) $$ [Ht Hi1 Hdone Hrest Hs1 Hr0 Hr1 Hg HO Hf Hir]
  · unfold inv
    isplitr; · ipureintro; decide
    isplitr; · iexact Hmw
    isplitl [Ht]; · iexact Ht
    isplitl [Hg]; · iexact Hg
    isplitl [Hf Hir Hs1 Hi1]
    · iapply (Entails.of_eq (inPart_of_lt d L IX qi 0 (by decide)).symm)
      isplitl [Hf]; · iexact Hf
      isplitl [Hir]; · iexact Hir
      isplitl [Hs1]; · iexact Hs1
      iexact Hi1
    isplitl [Hr0 Hr1]
    · iapply (Entails.of_eq (outPart_zero d L TB IX).symm)
      isplitl [Hr0]; · iexact Hr0
      iexact Hr1
    isplitl [Hdone]
    · rw [show rowsIn (base L) (base L + 128 * (0 - 1)) = ∅ from Finset.filter_eq_empty_iff.mpr fun x _ h => by omega]
      iapply (Entails.of_eq (pointsTo_congr (fun i hi => absurd hi (Finset.notMem_empty i)))) $$ Hdone
    isplitl [Hrest]
    · rw [Finset.sdiff_empty, show base L + 128 * 0 = base L from rfl]
      iexact Hrest
    iexists W; isplitr
    swap; · iexact HO
    ipureintro; intro p hp; exact .inl hp
  iintro %acc Hinv
  unfold inv
  icases Hinv with ⟨%hacc, -, Ht, Hg, Hin, Hout, Hdone, -, %W1, %hW1, HO⟩
  ihave Hin := (Entails.of_eq (show inPart d L IX qi k1_t1_loop.trips = _ from inPart_last d L IX qi)) $$ Hin
  ihave Hout := (Entails.of_eq (outPart_of_pos d L TB IX k1_t1_loop.trips (by decide) (by decide))) $$ Hout
  icases Hin with ⟨⟨Hs0, Hs1⟩, Hi0, Hi1⟩
  icases Hout with ⟨Hof, Hr0⟩
  subst hacc
  unfold accAt
  dsimp only []
  rw [wp_assume_of 𝒱₀ (thr d L) none Set.univ (show k1_chk5 L (BitVec.ofNat 32 (k1_t1_loop.trips % 32)) from chk5 L),
    wp_assume_of 𝒱₀ (thr d L) none Set.univ (show k1_chk4 (BitVec.ofNat 32 (k1_t1_loop.trips - 1)) from chk4)]
  iapply (wp_sent d L TB IX 31 (by decide) 1 O _ off20_eq) $$ [Hof HO]
  · isplitl [Hof]; · iexact Hof
    isplitl [HO]; · iexact HO
    iapply (Transfers.MayWaits.elim (SemLoc.dma (oSem 1))) $$ Hmw
  iintro ⟨Hw, Hr1, HO⟩
  rw [wp_ret]
  imodintro
  isplitl [Ht]; · iexact Ht
  isplitl [Hi0]; · iexact Hi0
  isplitl [Hi1]; · iexact Hi1
  isplitl [Hdone Hw]
  · iapply (done_succ d L 31 (by decide) (OUT TB IX))
    isplitl [Hdone]; · iexact Hdone
    iexact Hw
  isplitl [Hs0 Hs1 Hr0 Hr1 Hg]
  · isplitl [Hs0]; · iexact Hs0
    isplitl [Hs1]; · iexact Hs1
    isplitl [Hr0]; · iexact Hr0
    isplitl [Hr1]; · iexact Hr1
    iexact Hg
  iexists _; isplitr
  swap; · iexact HO
  ipureintro; intro p hp
  rcases Finset.mem_insert.mp hp with hp | hp; · exact .inr (hp ▸ rfl)
  exact hW1 p hp

end

end Cert.Own
-- ==== Proof.Call.lean ====
module

public import proofs.«01_k».proof.Proof.Task
public import proofs.«01_k».proof.Proof.Ghost

/-! The SparseCore call: what it hands each SparseCore and each tile and takes back. -/

@[expose] public section

noncomputable section

namespace Cert.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

theorem nSub_zero : (K (F := F)).nSub 0 = 16 := rfl
theorem nCore_zero : (K (F := F)).nCore 0 = 2 := rfl
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev tLoc (d : Dev nD) : Loc nD τ sig := (SparseCore.T d).loc main_v38
abbrev xLoc (d : Dev nD) : Loc nD τ sig := (SparseCore.T d).loc main_v39
abbrev oLoc (d : Dev nD) : Loc nD τ sig := (SparseCore.T d).loc main_v41
-- the contents of the table, of the indices and of the output when the call is made
variable (tC : (d : Dev nD) → Buf (Elt F) (tLoc d)) (xC : (d : Dev nD) → Buf (Elt F) (xLoc d)) (oC : (d : Dev nD) → Buf (Elt F) (oLoc d))

/-! ## Shares: halving over and over -/

/-- Share `i` of the `2 ^ n` that halving `q` over and over gives. -/
def part : (n : ℕ) → PosShare TreeShare → Fin (2 ^ n) → PosShare TreeShare
  | 0, q, _ => q
  | n + 1, q, i => part n (if i.val % 2 = 0 then q.left else q.right) ⟨i.val / 2, by have := i.isLt; omega⟩

/-- A number below `2 ^ (n + 1)` is its half and its parity. -/
def halfEquiv (n : ℕ) : Fin (2 ^ n) ⊕ Fin (2 ^ n) ≃ Fin (2 ^ (n + 1)) where
  toFun := Sum.elim (fun i => ⟨2 * i.val, by have := i.isLt; omega⟩) (fun i => ⟨2 * i.val + 1, by have := i.isLt; omega⟩)
  invFun := fun i => if i.val % 2 = 0 then .inl ⟨i.val / 2, by have := i.isLt; omega⟩ else .inr ⟨i.val / 2, by have := i.isLt; omega⟩
  left_inv := by
    rintro (i | i)
    · have h : (2 * i.val) % 2 = 0 := by omega
      simp [h]
    · have h : ¬(2 * i.val + 1) % 2 = 0 := by omega
      simp only [Sum.elim_inr, h, if_false]
      exact congrArg Sum.inr (Fin.ext (by show (2 * i.val + 1) / 2 = i.val; omega))
  right_inv := by
    intro i
    by_cases h : i.val % 2 = 0
    · simp only [h, if_true, Sum.elim_inl]; exact Fin.ext (by show 2 * (i.val / 2) = i.val; omega)
    · simp only [h, if_false, Sum.elim_inr]; exact Fin.ext (by show 2 * (i.val / 2) + 1 = i.val; omega)

theorem part_inl (n : ℕ) (q : PosShare TreeShare) (i : Fin (2 ^ n)) : part (n + 1) q (halfEquiv n (Sum.inl i)) = part n q.left i := by
  have h : (2 * i.val) % 2 = 0 := by omega
  show part n (if (2 * i.val) % 2 = 0 then q.left else q.right) ⟨2 * i.val / 2, _⟩ = _
  rw [if_pos h]
  exact congrArg _ (Fin.ext (by show 2 * i.val / 2 = i.val; omega))
theorem part_inr (n : ℕ) (q : PosShare TreeShare) (i : Fin (2 ^ n)) : part (n + 1) q (halfEquiv n (Sum.inr i)) = part n q.right i := by
  have h : ¬(2 * i.val + 1) % 2 = 0 := by omega
  show part n (if (2 * i.val + 1) % 2 = 0 then q.left else q.right) ⟨(2 * i.val + 1) / 2, _⟩ = _
  rw [if_neg h]
  exact congrArg _ (Fin.ext (by show (2 * i.val + 1) / 2 = i.val; omega))

/-- Holding at a share is holding at all its parts. -/
theorem pointsTo_parts {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{part n q i} f
  | 0, q => (bigSep_univ_of_subsingleton (0 : Fin 1) (Φ := fun i : Fin (2 ^ 0) => (ℓ ↦[I]{part 0 q i} f : sProp 𝕄))).symm
  | n + 1, q => by
    rw [BI.Entails.antisymm (pointsTo_share (PosShare.mem_left_op_right q)).1 (pointsTo_share (PosShare.mem_left_op_right q)).2,
      pointsTo_parts I f n q.left, pointsTo_parts I f n q.right,
      bigSep_univ_equiv (halfEquiv n) (fun i : Fin (2 ^ (n + 1)) => (ℓ ↦[I]{part (n + 1) q i} f : sProp 𝕄)), bigSep_univ_sum]
    congr 1 <;> refine bigSep_congr fun i _ => ?_
    · rw [part_inl]
    · rw [part_inr]

/-- Core `c`'s share of the table and of the indices; tile `i`'s on it. -/
abbrev cq (c : Fin 2) : PosShare TreeShare := part 1 fullShare c
abbrev tq (c : Fin 2) (i : Fin 16) : PosShare TreeShare := part 4 (cq c) i

/-! ## Rows -/

abbrev coreRows (c : Fin 2) : Finset S131072x128.Idx := rowsIn (65536 * c.val) (65536 * c.val + 65536)
abbrev tileRows (c : Fin 2) (i : Fin 16) : Finset S131072x128.Idx :=
  rowsIn (4096 * i.val + 65536 * c.val) (4096 * i.val + 65536 * c.val + 4096)

theorem coreRows_disj : ∀ c ∈ (Finset.univ : Finset (Fin 2)), ∀ c' ∈ (Finset.univ : Finset (Fin 2)), c ≠ c' → Disjoint (coreRows c) (coreRows c') := by
  intro c _ c' _ h
  refine Finset.disjoint_left.mpr fun (x : S131072x128.Idx) hx hy => h (Fin.ext ?_)
  rw [mem_rowsIn] at hx hy
  omega
theorem coreRows_cover : (Finset.univ : Finset (Fin 2)).biUnion coreRows = Finset.univ := by
  refine Finset.eq_univ_iff_forall.mpr fun (x : S131072x128.Idx) => ?_
  have hx : (x 0).val < 131072 := (x 0).isLt
  refine Finset.mem_biUnion.mpr ⟨⟨(x 0).val / 65536, by omega⟩, Finset.mem_univ _, ?_⟩
  rw [mem_rowsIn]
  show 65536 * ((x 0).val / 65536) ≤ (x 0).val ∧ (x 0).val < 65536 * ((x 0).val / 65536) + 65536
  omega
theorem tileRows_disj (c : Fin 2) : ∀ i ∈ (Finset.univ : Finset (Fin 16)), ∀ j ∈ (Finset.univ : Finset (Fin 16)), i ≠ j → Disjoint (tileRows c i) (tileRows c j) := by
  intro i _ j _ h
  refine Finset.disjoint_left.mpr fun (x : S131072x128.Idx) hx hy => h (Fin.ext ?_)
  rw [mem_rowsIn] at hx hy
  omega
theorem tileRows_cover (c : Fin 2) : (Finset.univ : Finset (Fin 16)).biUnion (tileRows c) = coreRows c := by
  refine Finset.ext fun (x : S131072x128.Idx) => ?_
  rw [Finset.mem_biUnion, mem_rowsIn]
  constructor
  · rintro ⟨i, -, hi⟩
    rw [mem_rowsIn] at hi
    have := i.isLt
    omega
  · intro h
    refine ⟨⟨((x 0).val - 65536 * c.val) / 4096, by omega⟩, Finset.mem_univ _, ?_⟩
    rw [mem_rowsIn]
    show 4096 * (((x 0).val - 65536 * c.val) / 4096) + 65536 * c.val ≤ (x 0).val ∧ (x 0).val < 4096 * (((x 0).val - 65536 * c.val) / 4096) + 65536 * c.val + 4096
    omega

theorem out_cores (d : Dev nD) (f : Buf (Elt F) (oLoc d)) :
    (oLoc d ↦{fullShare} f : sProp 𝕄) = bigSep Finset.univ fun c : Fin 2 => oLoc d ↦[coreRows c]{fullShare} f := by
  rw [← pointsTo_biUnion Finset.univ (ℓ := oLoc d) coreRows coreRows_disj, coreRows_cover]; try rfl
theorem out_tiles (d : Dev nD) (c : Fin 2) (f : Buf (Elt F) (oLoc d)) :
    (oLoc d ↦[coreRows c]{fullShare} f : sProp 𝕄) = bigSep Finset.univ fun i : Fin 16 => oLoc d ↦[tileRows c i]{fullShare} f := by
  rw [← pointsTo_biUnion Finset.univ (ℓ := oLoc d) (tileRows c) (tileRows_disj c), tileRows_cover]

variable [FloatOps F]

/-! ## What the handshakes carry -/

/-- What is held of the table, of the indices and of the output: at share `q` and over the rows `R`. -/
abbrev hold (d : Dev nD) (q : PosShare TreeShare) (R : Finset S131072x128.Idx) (o : Buf (Elt F) (oLoc d)) : sProp 𝕄 :=
  iprop((tLoc d ↦{q} tC d) ∗ (xLoc d ↦{q} xC d) ∗ (oLoc d ↦[R]{fullShare} o))

/-- The gathered rows. -/
abbrev outF (d : Dev nD) : Buf (Elt F) (oLoc d) := OUT (tC d) (xC d)

/-- Each core takes its shares and its rows of the output, each tile likewise; they come back with the rows written. -/
def P : (K (F := F)).Pay (nD := nD) (Val := Elt F) (Name := ℕ) (U := UU) where
  st := fun q d c => match q with | 0 => hold tC xC d (cq (Fin.cast nCore_zero c)) (coreRows (Fin.cast nCore_zero c)) (oC d)
  dn := fun q d c => match q with | 0 => hold tC xC d (cq (Fin.cast nCore_zero c)) (coreRows (Fin.cast nCore_zero c)) (outF tC xC d)
  go := fun q d c i => match q with
    | 0 => hold tC xC d (tq (Fin.cast nCore_zero c) (Fin.cast nSub_zero i)) (tileRows (Fin.cast nCore_zero c) (Fin.cast nSub_zero i)) (oC d)
  td := fun q d c i => match q with
    | 0 => hold tC xC d (tq (Fin.cast nCore_zero c) (Fin.cast nSub_zero i)) (tileRows (Fin.cast nCore_zero c) (Fin.cast nSub_zero i)) (outF tC xC d)
  x := fun _ _ => iprop(emp)

instance P_storable : (P (F := F) tC xC oC).IsStorable where
  st q d c := match q with | 0 => (inferInstance : BI.Storable (upEmb : UEmb _ 𝕄) (hold tC xC d _ _ _))
  dn q d c := match q with | 0 => (inferInstance : BI.Storable (upEmb : UEmb _ 𝕄) (hold tC xC d _ _ _))
  go q d c i := match q with | 0 => (inferInstance : BI.Storable (upEmb : UEmb _ 𝕄) (hold tC xC d _ _ _))
  td q d c i := match q with | 0 => (inferInstance : BI.Storable (upEmb : UEmb _ 𝕄) (hold tC xC d _ _ _))

/-- What the proof asks of the launch memory: every index names a row of the table. -/
def PreOK : Prop := ∀ (d : Dev nD) (x : S1x131072.Idx), (show BitVec 32 from xC d x).toNat < 4096

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem hold_tiles (d : Dev nD) (c : Fin 2) (o : Buf (Elt F) (oLoc d)) :
    hold tC xC d (cq c) (coreRows c) o = bigSep Finset.univ fun i : Fin 16 => hold tC xC d (tq c i) (tileRows c i) o := by
  unfold hold
  rw [bigSep_sep', bigSep_sep', pointsTo_parts Finset.univ (tC d) 4 (cq c), pointsTo_parts Finset.univ (xC d) 4 (cq c), out_tiles]; rfl

theorem hold_cores (d : Dev nD) (o : Buf (Elt F) (oLoc d)) :
    hold tC xC d fullShare Finset.univ o = bigSep Finset.univ fun c : Fin 2 => hold tC xC d (cq c) (coreRows c) o := by
  unfold hold
  rw [bigSep_sep', bigSep_sep', pointsTo_parts Finset.univ (tC d) 1 fullShare, pointsTo_parts Finset.univ (xC d) 1 fullShare, out_cores]; rfl

theorem vecSplit : (K (F := F)).VecSplit' (P tC xC oC) 0 := by
  intro d c
  show hold tC xC d (cq (Fin.cast nCore_zero c)) (coreRows (Fin.cast nCore_zero c)) (oC d) ⊢ |={Set.univ}=> iprop(
      (bigSep Finset.univ fun i : Fin ((K (F := F)).nSub 0) =>
        hold tC xC d (tq (Fin.cast nCore_zero c) (Fin.cast nSub_zero i)) (tileRows (Fin.cast nCore_zero c) (Fin.cast nSub_zero i)) (oC d))
      ∗ ((bigSep Finset.univ fun i : Fin ((K (F := F)).nSub 0) =>
          hold tC xC d (tq (Fin.cast nCore_zero c) (Fin.cast nSub_zero i)) (tileRows (Fin.cast nCore_zero c) (Fin.cast nSub_zero i)) (outF tC xC d))
          -∗ hold tC xC d (cq (Fin.cast nCore_zero c)) (coreRows (Fin.cast nCore_zero c)) (outF tC xC d)))
  rw [bigSep_tasks (F := F) (fun i => hold tC xC d (tq (Fin.cast nCore_zero c) i) (tileRows (Fin.cast nCore_zero c) i) (oC d)),
    bigSep_tasks (F := F) (fun i => hold tC xC d (tq (Fin.cast nCore_zero c) i) (tileRows (Fin.cast nCore_zero c) i) (outF tC xC d)),
    ← hold_tiles, ← hold_tiles]
  iintro H; imodintro
  isplitl [H]; · iexact H
  iintro H; iexact H

/-! ## The task's scratch -/

section Tile

variable (d : Dev nD) (L : grid1.Coords)

abbrev cell (s : DmaSem sig) : GSem nD τ sig := (thr d L, .dma s)

theorem cells_scoped : ∀ s : DmaSem sig, (SemLoc.dma s : SemLoc sig).isScoped .scVector = true := by decide

theorem mem_cell (s : DmaSem sig) : cell d L s ∈ ownCells (thr d L) := (mem_ownCells (g := cell d L s)).mpr ⟨rfl, cells_scoped s⟩

theorem cell_ne {s s' : DmaSem sig} (h : s ≠ s') : cell d L s ≠ cell d L s' := fun e => h (by
  have e2 := congrArg (fun g : GSem nD τ sig => g.2) e
  exact SemLoc.dma.inj e2)

/-- The task's cells are the five it names and the rest. -/
theorem ownSems0_V : (ownSems0 (thr d L) : sProp 𝕄)
      = iprop(semVal (cell d L (iSem 0)) 0 ∗ semVal (cell d L (iSem 1)) 0 ∗ semVal (cell d L (oSem 0)) 0 ∗ semVal (cell d L (oSem 1)) 0
          ∗ semVal (cell d L gSem) 0 ∗ bigSep ((((((ownCells (thr d L)).erase (cell d L (iSem 0))).erase (cell d L (iSem 1))).erase (cell d L (oSem 0))).erase
            (cell d L (oSem 1))).erase (cell d L gSem)) fun g => semVal g 0) := by
  unfold SparseCore.Cfg.ownSems0
  rw [SparseCore.bigSep_erase' (mem_cell d L (iSem 0)),
    SparseCore.bigSep_erase' (Finset.mem_erase.mpr ⟨cell_ne d L (by decide), mem_cell d L (iSem 1)⟩),
    SparseCore.bigSep_erase' (Finset.mem_erase.mpr ⟨cell_ne d L (by decide), Finset.mem_erase.mpr ⟨cell_ne d L (by decide), mem_cell d L (oSem 0)⟩⟩),
    SparseCore.bigSep_erase' (Finset.mem_erase.mpr ⟨cell_ne d L (by decide), Finset.mem_erase.mpr ⟨cell_ne d L (by decide),
      Finset.mem_erase.mpr ⟨cell_ne d L (by decide), mem_cell d L (oSem 1)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), mem_cell d L gSem⟩⟩⟩⟩)]

/-- The task's buffers are the two it names and the rest. -/
theorem ownBufs_V : (ownBufs (thr d L) : sProp 𝕄)
      = iprop((∃ f, (ibufM).view.loc (thr d L) ↦{fullShare} f) ∗ (∃ f, (rbufM).view.loc (thr d L) ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-- The index buffer is its two slots; the row buffer likewise. -/
theorem ibuf_slots : iprop(∃ f, (ibufM).view.loc (thr d L) ↦{fullShare} f) ⊣⊢ (iprop((∃ f, (iSlot 0).view.loc (thr d L) ↦[(iSlot 0).view.set]{fullShare} f)
    ∗ ∃ f, (iSlot 1).view.loc (thr d L) ↦[(iSlot 1).view.set]{fullShare} f) : sProp 𝕄) := by
  constructor
  · iintro ⟨%f, H⟩
    ihave H2 := (pointsTo_split_subset (q := fullShare) (f := f) (Finset.subset_univ (iSlot 0).view.set)).1 $$ H
    icases H2 with ⟨H0, H1⟩
    isplitl [H0]; · iexists f; iexact H0
    iexists f; rw [set_iSlot_one]; iexact H1
  · iintro ⟨⟨%f, H0⟩, ⟨%g, H1⟩⟩
    iexists _
    iapply (pointsTo_join_subset (q := fullShare) (Finset.subset_univ (iSlot 0).view.set))
    isplitl [H0]; · iexact H0
    rw [← set_iSlot_one]; iexact H1
theorem rbuf_slots : iprop(∃ f, (rbufM).view.loc (thr d L) ↦{fullShare} f) ⊣⊢ (iprop((∃ f, (rSlot 0).view.loc (thr d L) ↦[(rSlot 0).view.set]{fullShare} f)
    ∗ ∃ f, (rSlot 1).view.loc (thr d L) ↦[(rSlot 1).view.set]{fullShare} f) : sProp 𝕄) := by
  constructor
  · iintro ⟨%f, H⟩
    ihave H2 := (pointsTo_split_subset (q := fullShare) (f := f) (Finset.subset_univ (rSlot 0).view.set)).1 $$ H
    icases H2 with ⟨H0, H1⟩
    isplitl [H0]; · iexists f; iexact H0
    iexists f; rw [set_rSlot_one]; iexact H1
  · iintro ⟨⟨%f, H0⟩, ⟨%g, H1⟩⟩
    iexists _
    iapply (pointsTo_join_subset (q := fullShare) (Finset.subset_univ (rSlot 0).view.set))
    isplitl [H0]; · iexact H0
    rw [← set_rSlot_one]; iexact H1

/-- The task on vector subcore `(L 0, L 1)` of device `d`. -/
theorem tile_body (hF : (K (F := F)).Facts) (hpre : PreOK xC) (q : PosShare TreeShare) (O : CellTallies nD τ sig (HIx 1)) (W : Waits sig (HIx 1))
    (hO : ∀ g, O g none = 0) :
    iprop(levAts (K (F := F)).L (K (F := F)).lev ∗ emp
        ∗ hold tC xC d q (rowsIn (base L) (base L + 4096)) (oC d)
        ∗ scopedBufs (thr d L) ∗ scopedSems0 (thr d L) ∗ owes (thr d L) O W)
      ⊢ wp frame (wpE (defs₀ (F := F)) 𝒱₀ (thr d L) none) Set.univ
          (cc1_gk L tabM (Memref.isWhole_whole _) idxM (Memref.isWhole_whole _) outM (Memref.isWhole_whole _)
            ibufM (Memref.isWhole_whole _) cc1_scoped1 rbufM (Memref.isWhole_whole _) cc1_scoped3 cc1_scoped4)
          fun _ => iprop(hold tC xC d q (rowsIn (base L) (base L + 4096)) (outF tC xC d)
            ∗ scopedBufs (thr d L) ∗ scopedSems0 (thr d L)
            ∗ ∃ W', ⌜∀ p ∈ W', p ∈ W ∨ p.2 = none⌝ ∗ owes (thr d L) O W') := by
  rw [show (scopedBufs (thr d L) : sProp 𝕄) = _ from (K (F := F)).scopedBufs_V hF d (cV L) (jV L),
    show (scopedSems0 (thr d L) : sProp 𝕄) = _ from SparseCore.Cfg.scopedSems0_V (Val := Elt F) d (cV L) (jV L), ownSems0_V, ownBufs_V]
  iintro ⟨#Hlv, -, ⟨Ht, Hx, Ho⟩, ⟨Hib, Hrb, HR2⟩, ⟨Hc0, Hc1, Hc2, Hc3, Hc4, HR1⟩, HO⟩
  ihave #Hmw := (show levAts (K (F := F)).L (K (F := F)).lev ⊢ Transfers.MayWaits (thr d L) (default : HIx 1) O from
    (K (F := F)).mayWaits_none (thr := thr d L) hO) $$ Hlv
  ihave Hib := (ibuf_slots (F := F) d L).1 $$ Hib
  ihave Hrb := (rbuf_slots (F := F) d L).1 $$ Hrb
  icases Hib with ⟨Hi0, Hi1⟩
  icases Hrb with ⟨Hr0, Hr1⟩
  ihave Hx := (pointsTo_share (PosShare.mem_left_op_right q)).1 $$ Hx
  icases Hx with ⟨Hxl, Hxr⟩
  ihave Hwp := (task_core (F := F) d L (tC d) (xC d) (oC d) q ![q.left, q.right] (hpre d) O W)
    $$ [Ht Hxl Hxr Ho Hi0 Hi1 Hr0 Hr1 Hc0 Hc1 Hc2 Hc3 Hc4 HO]
  · isplitr; · iexact Hmw
    isplitl [Ht]; · iexact Ht
    isplitl [Hxl]; · iexact Hxl
    isplitl [Hxr]; · iexact Hxr
    isplitl [Ho]; · iexact Ho
    isplitr [HO]
    · unfold slots iFree rFree
      isplitl [Hi0 Hc0]
      · isplitl [Hi0] <;> iassumption
      isplitl [Hi1 Hc1]
      · isplitl [Hi1] <;> iassumption
      isplitl [Hr0 Hc2]
      · isplitl [Hr0] <;> iassumption
      isplitl [Hr1 Hc3]
      · isplitl [Hr1] <;> iassumption
      iexact Hc4
    iexact HO
  iapply (wp_wand_r frame (wpE (defs₀ (F := F)) 𝒱₀ (thr d L) none) Set.univ)
  isplitl [Hwp]; · iexact Hwp
  iintro %a ⟨Ht, Hxl, Hxr, Ho, Hs, HO⟩
  unfold slots iFree rFree
  icases Hs with ⟨⟨Hi0, Hc0⟩, ⟨Hi1, Hc1⟩, ⟨Hr0, Hc2⟩, ⟨Hr1, Hc3⟩, Hc4⟩
  isplitl [Ht Hxl Hxr Ho]
  · isplitl [Ht]; · iexact Ht
    isplitl [Hxl Hxr]
    · iapply (pointsTo_share (PosShare.mem_left_op_right q)).2
      isplitl [Hxl]; · iexact Hxl
      iexact Hxr
    iexact Ho
  isplitl [Hi0 Hi1 Hr0 Hr1 HR2]
  · isplitl [Hi0 Hi1]
    · iapply (ibuf_slots (F := F) d L).2
      isplitl [Hi0] <;> iassumption
    isplitl [Hr0 Hr1]
    · iapply (rbuf_slots (F := F) d L).2
      isplitl [Hr0] <;> iassumption
    iexact HR2
  isplitl [Hc0 Hc1 Hc2 Hc3 Hc4 HR1]
  · isplitl [Hc0]; · iexact Hc0
    isplitl [Hc1]; · iexact Hc1
    isplitl [Hc2]; · iexact Hc2
    isplitl [Hc3]; · iexact Hc3
    isplitl [Hc4]; · iexact Hc4
    iexact HR1
  iexact HO

end Tile

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gk (coordsV c s) tabM (Memref.isWhole_whole _) idxM (Memref.isWhole_whole _)
          outM (Memref.isWhole_whole _) ibufM (Memref.isWhole_whole _) cc1_scoped1 rbufM (Memref.isWhole_whole _) cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK xC) : (K (F := F)).TileObl (D (F := F)) 𝒱 (P tC xC oC) v₀ 0 := by
  intro d c i O W hO _ _
  simp only [show (P tC xC oC).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tC xC oC d (coordsV ⟨_, hci.1⟩ ⟨_, hci.2⟩) hF hpre (tq (Fin.cast nCore_zero c) (Fin.cast nSub_zero i)) O W hO).trans
    (wp_mono frame _ _ fun _ => obl_post)

theorem st0_eq (d : Dev nD) : (bigSep Finset.univ fun c : Fin ((K (F := F)).nCore 0) => (P tC xC oC).st 0 d c) = hold tC xC d fullShare Finset.univ (oC d) :=
  (bigSep_cores (F := F) fun c => hold tC xC d (cq c) (coreRows c) (oC d)).trans (hold_cores tC xC d _).symm
theorem dn0_eq (d : Dev nD) : (bigSep Finset.univ fun c : Fin ((K (F := F)).nCore 0) => (P tC xC oC).dn 0 d c) = hold tC xC d fullShare Finset.univ (outF tC xC d) :=
  (bigSep_cores (F := F) fun c => hold tC xC d (cq c) (coreRows c) (outF tC xC d)).trans (hold_cores tC xC d _).symm

end Cert.Own
-- ==== Proof.Host.lean ====
module

public import proofs.«01_k».proof.Proof.Ghost
public import proofs.«01_k».proof.Proof.Gen.KernelIdeal.Launch
public import Idealize.ShloMosaic.Lib.StableHlo.Run
public import Idealize.ShloMosaic.Lib.Pipeline.RegionsLoop

/-! The operations of @main on the host, as lists between the calls, and @main as the chain of those lists and the calls. -/

@[expose] public section

set_option maxRecDepth 16384

noncomputable section

namespace Cert.Own

open Cert.KernelIdeal Cert.KernelIdeal.Gen

open Idealize.ShloMosaic Idealize.ShloMosaic.TcCoe
open Idealize.SL Idealize.SL.RA Idealize.SL.BI Idealize.SL.Sem

variable {F : FTy → Type} [FloatOps F]

/-- 4 host operations of @main, in order. -/
abbrev hostOps0 : List (HloOp τ sig (Elt F)) :=
  [ StableHlo.unary main_arg1 main_v0 ((transpose S4x3x1024 [0, 2, 1] · transposes_S4x1024x3_S4x3x1024_0_2_1) : (⟨S4x1024x3, .f32⟩ : BufTy).Contents (Elt F) → (⟨S4x3x1024, .f32⟩ : BufTy).Contents (Elt F)),
    StableHlo.nullary main_v1 (iotaInDim S8192 32 0),
    StableHlo.unary main_v1 main_v2 (broadcastInDim S1x8192 ![1] bcast_S8192_S1x8192_1 : (⟨S8192, .i32⟩ : BufTy).Contents (Elt F) → (⟨S1x8192, .i32⟩ : BufTy).Contents (Elt F)),
    StableHlo.nullary main_c (constantI S_ 32 256#32) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub ..⟩
/-- 21 host operations of @remainder (main_call0), in order. -/
abbrev hostOps0_1 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S1x8192, .i32⟩) (broadcastInDim S1x8192 ![] bcast_S_S1x8192),
    StableHlo.TRef.binary (.of main_v2 : StableHlo.TRef sig ⟨S1x8192, .i32⟩) (.of main_call0_v3 : StableHlo.TRef sig ⟨S1x8192, .i32⟩) (.of main_call0_v4 : StableHlo.TRef sig ⟨S1x8192, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S1x8192, .i32⟩) (broadcastInDim S1x8192 ![] bcast_S_S1x8192),
    StableHlo.TRef.binary (.of main_call0_v4 : StableHlo.TRef sig ⟨S1x8192, .i32⟩) (.of main_call0_v5 : StableHlo.TRef sig ⟨S1x8192, .i32⟩) (.of main_call0_v6 : StableHlo.TRef sig ⟨S1x8192, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S1x8192, .i32⟩) (broadcastInDim S1x8192 ![] bcast_S_S1x8192),
    StableHlo.TRef.binary (.of main_call0_v4 : StableHlo.TRef sig ⟨S1x8192, .i32⟩) (.of main_call0_v7 : StableHlo.TRef sig ⟨S1x8192, .i32⟩) (.of main_call0_v8 : StableHlo.TRef sig ⟨S1x8192, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S1x8192, .i1⟩) (broadcastInDim S1x8192 ![] bcast_S_S1x8192),
    StableHlo.TRef.binary (.of main_call0_v8 : StableHlo.TRef sig ⟨S1x8192, .i1⟩) (.of main_call0_v10 : StableHlo.TRef sig ⟨S1x8192, .i1⟩) (.of main_call0_v11 : StableHlo.TRef sig ⟨S1x8192, .i1⟩) (cmpi .ne),
    StableHlo.TRef.binary (.of main_call0_v11 : StableHlo.TRef sig ⟨S1x8192, .i1⟩) (.of main_call0_v6 : StableHlo.TRef sig ⟨S1x8192, .i1⟩) (.of main_call0_v12 : StableHlo.TRef sig ⟨S1x8192, .i1⟩) andi,
    StableHlo.TRef.unary main_call0_call0.v0 (.of main_call0_v13 : StableHlo.TRef sig ⟨S1x8192, .i32⟩) (broadcastInDim S1x8192 ![] bcast_S_S1x8192),
    StableHlo.TRef.binary (.of main_call0_v4 : StableHlo.TRef sig ⟨S1x8192, .i32⟩) (.of main_call0_v13 : StableHlo.TRef sig ⟨S1x8192, .i32⟩) (.of main_call0_v14 : StableHlo.TRef sig ⟨S1x8192, .i32⟩) addi,
    StableHlo.TRef.ternary (.of main_call0_v12 : StableHlo.TRef sig ⟨S1x8192, .i1⟩) (.of main_call0_v14 : StableHlo.TRef sig ⟨S1x8192, .i32⟩) (.of main_call0_v4 : StableHlo.TRef sig ⟨S1x8192, .i32⟩) (.of main_v3 : StableHlo.TRef sig ⟨S1x8192, .i32⟩) select ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 34 host operations of @main, in order. -/
abbrev hostOps0_2 : List (HloOp τ sig (Elt F)) :=
  ( StableHlo.nullary main_v4 (iotaInDim S256 32 0)
  :: StableHlo.unary main_v4 main_v5 (broadcastInDim S256x1 ![0] bcast_S256_S256x1_0 : (⟨S256, .i32⟩ : BufTy).Contents (Elt F) → (⟨S256x1, .i32⟩ : BufTy).Contents (Elt F))
  :: StableHlo.unary main_v3 main_v6 (broadcastInDim S256x8192 ![0, 1] bcast_S1x8192_S256x8192_0_1 : (⟨S1x8192, .i32⟩ : BufTy).Contents (Elt F) → (⟨S256x8192, .i32⟩ : BufTy).Contents (Elt F))
  :: StableHlo.unary main_v5 main_v7 (broadcastInDim S256x8192 ![0, 1] bcast_S256x1_S256x8192_0_1 : (⟨S256x1, .i32⟩ : BufTy).Contents (Elt F) → (⟨S256x8192, .i32⟩ : BufTy).Contents (Elt F))
  :: StableHlo.binary main_v6 main_v7 main_v8 (cmpi .eq : (⟨S256x8192, .i32⟩ : BufTy).Contents (Elt F) → (⟨S256x8192, .i32⟩ : BufTy).Contents (Elt F) → (⟨S256x8192, .i1⟩ : BufTy).Contents (Elt F))
  :: StableHlo.unary main_v8 main_v9 (uitofp .bf16 : (⟨S256x8192, .i1⟩ : BufTy).Contents (Elt F) → (⟨S256x8192, .bf16⟩ : BufTy).Contents (Elt F))
  :: StableHlo.unary main_arg2 main_v10 ((extractStridedSlice S64x258 ![0, 0] · slices_S129x258_S64x258_0_0) : (⟨S129x258, .f32⟩ : BufTy).Contents (Elt F) → (⟨S64x258, .f32⟩ : BufTy).Contents (Elt F))
  :: StableHlo.unary main_v10 main_v11 ((truncf .bf16 · bitsLt_bf16_f32) : (⟨S64x258, .f32⟩ : BufTy).Contents (Elt F) → (⟨S64x258, .bf16⟩ : BufTy).Contents (Elt F))
  :: StableHlo.unary main_arg2 main_v12 ((extractStridedSlice S64x258 ![64, 0] · slices_S129x258_S64x258_64_0) : (⟨S129x258, .f32⟩ : BufTy).Contents (Elt F) → (⟨S64x258, .f32⟩ : BufTy).Contents (Elt F))
  :: StableHlo.unary main_v12 main_v13 ((truncf .bf16 · bitsLt_bf16_f32) : (⟨S64x258, .f32⟩ : BufTy).Contents (Elt F) → (⟨S64x258, .bf16⟩ : BufTy).Contents (Elt F))
  :: StableHlo.unary main_arg2 main_v14 ((extractStridedSlice S1x258 ![128, 0] · slices_S129x258_S1x258_128_0) : (⟨S129x258, .f32⟩ : BufTy).Contents (Elt F) → (⟨S1x258, .f32⟩ : BufTy).Contents (Elt F))
  :: StableHlo.unary main_v14 main_v15 ((truncf .bf16 · bitsLt_bf16_f32) : (⟨S1x258, .f32⟩ : BufTy).Contents (Elt F) → (⟨S1x258, .bf16⟩ : BufTy).Contents (Elt F))
  :: StableHlo.unary main_arg3 main_v16 (broadcastInDim S1x258 ![1] bcast_S258_S1x258_1 : (⟨S258, .f32⟩ : BufTy).Contents (Elt F) → (⟨S1x258, .f32⟩ : BufTy).Contents (Elt F))
  :: StableHlo.unary main_arg4 main_v17 ((truncf .bf16 · bitsLt_bf16_f32) : (⟨S258x16, .f32⟩ : BufTy).Contents (Elt F) → (⟨S258x16, .bf16⟩ : BufTy).Contents (Elt F))
  :: StableHlo.unary main_arg5 main_v18 (broadcastInDim S1x16 ![1] bcast_S16_S1x16_1 : (⟨S16, .f32⟩ : BufTy).Contents (Elt F) → (⟨S1x16, .f32⟩ : BufTy).Contents (Elt F))
  :: StableHlo.unary main_arg6 main_v19 ((extractStridedSlice S64x128 ![0, 0] · slices_S80x128_S64x128_0_0) : (⟨S80x128, .f32⟩ : BufTy).Contents (Elt F) → (⟨S64x128, .f32⟩ : BufTy).Contents (Elt F))
  :: StableHlo.unary main_v19 main_v20 ((truncf .bf16 · bitsLt_bf16_f32) : (⟨S64x128, .f32⟩ : BufTy).Contents (Elt F) → (⟨S64x128, .bf16⟩ : BufTy).Contents (Elt F))
  :: StableHlo.unary main_arg6 main_v21 ((extractStridedSlice S16x128 ![64, 0] · slices_S80x128_S16x128_64_0) : (⟨S80x128, .f32⟩ : BufTy).Contents (Elt F) → (⟨S16x128, .f32⟩ : BufTy).Contents (Elt F))
  :: StableHlo.unary main_v21 main_v22 ((truncf .bf16 · bitsLt_bf16_f32) : (⟨S16x128, .f32⟩ : BufTy).Contents (Elt F) → (⟨S16x128, .bf16⟩ : BufTy).Contents (Elt F))
  :: StableHlo.unary main_arg7 main_v23 (broadcastInDim S1x128 ![1] bcast_S128_S1x128_1 : (⟨S128, .f32⟩ : BufTy).Contents (Elt F) → (⟨S1x128, .f32⟩ : BufTy).Contents (Elt F))
  :: StableHlo.unary main_arg8 main_v24 ((truncf .bf16 · bitsLt_bf16_f32) : (⟨S128x64, .f32⟩ : BufTy).Contents (Elt F) → (⟨S128x64, .bf16⟩ : BufTy).Contents (Elt F))
  :: StableHlo.unary main_arg9 main_v25 (broadcastInDim S1x64 ![1] bcast_S64_S1x64_1 : (⟨S64, .f32⟩ : BufTy).Contents (Elt F) → (⟨S1x64, .f32⟩ : BufTy).Contents (Elt F))
  :: StableHlo.binary main_arg10 main_arg14 main_v26 ((fun a b => concatenate S16x128 1 [⟨S16x64, a⟩, ⟨S16x64, b⟩] concatenates_S16x64_S16x64_S16x128_d1) : (⟨S16x64, .f32⟩ : BufTy).Contents (Elt F) → (⟨S16x64, .f32⟩ : BufTy).Contents (Elt F) → (⟨S16x128, .f32⟩ : BufTy).Contents (Elt F))
  :: StableHlo.unary main_v26 main_v27 ((truncf .bf16 · bitsLt_bf16_f32) : (⟨S16x128, .f32⟩ : BufTy).Contents (Elt F) → (⟨S16x128, .bf16⟩ : BufTy).Contents (Elt F))
  :: StableHlo.binary main_arg11 main_arg15 main_v28 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F))
  :: StableHlo.unary main_v28 main_v29 (broadcastInDim S1x128 ![1] bcast_S128_S1x128_1 : (⟨S128, .f32⟩ : BufTy).Contents (Elt F) → (⟨S1x128, .f32⟩ : BufTy).Contents (Elt F))
  :: StableHlo.nullary main_cst (constant S_ .f32 0x00000000#32)
  :: StableHlo.unary main_cst main_v30 (broadcastInDim S64x1 ![] bcast_S_S64x1 : (⟨S_, .f32⟩ : BufTy).Contents (Elt F) → (⟨S64x1, .f32⟩ : BufTy).Contents (Elt F))
  :: StableHlo.binary main_arg12 main_v30 main_v31 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F))
  :: StableHlo.binary main_v30 main_arg16 main_v32 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F))
  :: StableHlo.binary main_v31 main_v32 main_v33 ((fun a b => concatenate S128x2 0 [⟨S64x2, a⟩, ⟨S64x2, b⟩] concatenates_S64x2_S64x2_S128x2_d0) : (⟨S64x2, .f32⟩ : BufTy).Contents (Elt F) → (⟨S64x2, .f32⟩ : BufTy).Contents (Elt F) → (⟨S128x2, .f32⟩ : BufTy).Contents (Elt F))
  :: StableHlo.unary main_v33 main_v34 ((truncf .bf16 · bitsLt_bf16_f32) : (⟨S128x2, .f32⟩ : BufTy).Contents (Elt F) → (⟨S128x2, .bf16⟩ : BufTy).Contents (Elt F))
  :: StableHlo.binary main_arg13 main_arg17 main_v35 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))
  :: StableHlo.unary main_v35 main_v36 (broadcastInDim S1x2 ![1] bcast_S2_S1x2_1 : (⟨S2, .f32⟩ : BufTy).Contents (Elt F) → (⟨S1x2, .f32⟩ : BufTy).Contents (Elt F))
  :: [] )
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub ..⟩
/-- 3 host operations of @main, in order. -/
abbrev hostOps1 : List (HloOp τ sig (Elt F)) :=
  [ StableHlo.reshape main_v37_0 main_v38 (rfl : (.f32 : EltTy) = .f32) shapeCasts_S16x256x128_S4096x128,
    StableHlo.reshape main_v37_1 main_v39 (rfl : (.i32 : EltTy) = .i32) shapeCasts_S16x32x256_S1x131072,
    StableHlo.reshape main_v37_2 main_v40 (rfl : (.f32 : EltTy) = .f32) shapeCasts_S16x32x256_S16x8192x1 ]
theorem hostOps1_sub : (hostOps1 : List (HloOp τ sig (Elt F))).Forall fun op => op.bufs ⊆ StableHlo.tcRefs τ sig :=
  ⟨StableHlo.reshape_bufs_sub .., StableHlo.reshape_bufs_sub .., StableHlo.reshape_bufs_sub ..⟩

/-- 3 host operations of @main, in order. -/
abbrev hostOps2 : List (HloOp τ sig (Elt F)) :=
  [ StableHlo.reshape main_v41 main_v42 (rfl : (.f32 : EltTy) = .f32) shapeCasts_S131072x128_S16x8192x128,
    StableHlo.reshape main_arg0 main_v43 (rfl : (.f32 : EltTy) = .f32) shapeCasts_S4x1024x64_S16x256x64,
    StableHlo.reshape main_arg1 main_v44 (rfl : (.f32 : EltTy) = .f32) shapeCasts_S4x1024x3_S16x256x3 ]
theorem hostOps2_sub : (hostOps2 : List (HloOp τ sig (Elt F))).Forall fun op => op.bufs ⊆ StableHlo.tcRefs τ sig :=
  ⟨StableHlo.reshape_bufs_sub .., StableHlo.reshape_bufs_sub .., StableHlo.reshape_bufs_sub ..⟩

/-- 2 host operations of @main, in order. -/
abbrev hostOps3 : List (HloOp τ sig (Elt F)) :=
  [ StableHlo.reshape main_v45_0 main_v46 (rfl : (.f32 : EltTy) = .f32) shapeCasts_S16x256x64_S4x1024x64,
    StableHlo.reshape main_v45_1 main_v47 (rfl : (.f32 : EltTy) = .f32) shapeCasts_S16x256x3_S4x1024x3 ]
theorem hostOps3_sub : (hostOps3 : List (HloOp τ sig (Elt F))).Forall fun op => op.bufs ⊆ StableHlo.tcRefs τ sig :=
  ⟨StableHlo.reshape_bufs_sub .., StableHlo.reshape_bufs_sub ..⟩

/-- @main's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v3]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_cst, main_v30, main_v31, main_v32, main_v33, main_v34, main_v35, main_v36]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v38, main_v39, main_v40]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v42, main_v43, main_v44]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v46, main_v47]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-- @main is the chain of its lists of operations and its three calls. -/
theorem main_chain (c : Dev nD) : main (F := F) c = (Pipeline.chain
  [ StableHlo.seq hostOps0,
    StableHlo.seq hostOps0_1,
    StableHlo.seq hostOps0_2,
    Prog.lift (.customCall (SparseCore.inner (Pipeline.entry 0)) ()),
    StableHlo.seq hostOps1,
    sc.run c 0,
    StableHlo.seq hostOps2,
    Prog.lift (.customCall (SparseCore.inner (Pipeline.entry 1)) ()),
    StableHlo.seq hostOps3 ] : Prog (TpuEff nD τ sig (Elt F) (SparseCore.Sig (Pipeline.Sig Λ₀ (Fin 2) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.Own
-- ==== Proof.Region0.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Ghost

/-! The nearest-neighbour kernel: what its body leaves at each grid point, and the loop over the grid. -/

@[expose] public section

set_option maxRecDepth 16384

noncomputable section

namespace Cert.Own

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Regions
-- the buffers' contents when the region is entered, what the core owes then, and a bound on the waits it has recorded
variable (V : (c : Dev nD) → (b : Ref sig .tc) → Buf (Elt F) ((c : Thread nD τ).loc b))
variable (O : Dev nD → CellTallies nD τ sig (HIx 1)) (B : Dev nD → Set (SemLoc sig × HIx 1))

/-! # REGION 0 of @main: custom_call 0, `cc0__topk_block` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point. -/
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point. -/
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S1x256x128 .f32 := (Memref.whole cc0_stg3_0 : Memref sig .tc .vmem S1x256x128 .f32).view
/-- One staging buffer of output window 4, through which its contents are stated (`View.read_writes_of_cover`: the
    choice does not matter). -/
abbrev VO0_4 : View sig .tc .vmem S1x32x256 .i32 := (Memref.whole cc0_stg4_0 : Memref sig .tc .vmem S1x32x256 .i32).view
/-- One staging buffer of output window 5, through which its contents are stated (`View.read_writes_of_cover`: the
    choice does not matter). -/
abbrev VO0_5 : View sig .tc .vmem S1x32x256 .f32 := (Memref.whole cc0_stg5_0 : Memref sig .tc .vmem S1x32x256 .f32).view
/-- Each window's current staging memref at point `t`, spelled as the pipeline passes it (`bodyAt0`), and its wholeness. -/
abbrev ms0_0 (t : Fin cfg0.N) : Memref sig .tc .vmem S1x1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x256 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1024x64 .f32) (harg2 : arg2.IsWhole) (arg3 : Memref sig .tc .vmem S1x1024x3 .f32) (harg3 : arg3.IsWhole) (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole) (arg7 : Memref sig .tc .vmem S1x32x256 .f32) (harg7 : arg7.IsWhole)
    (x0 : Vec F S1x1024x64 .f32) (x1 : Vec F S1x1024x3 .f32) (x2 : Vec F S1x3x1024 .f32) :
    Σ' (L3 : List (View.Piece (Elt F) S1x256x128 .f32)), Σ' (L4 : List (View.Piece (Elt F) S1x32x256 .i32)), { L5 : List (View.Piece (Elt F) S1x32x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__topk_block i arg2 harg2 arg3 harg3 arg4 harg4 arg5 harg5 arg6 harg6 arg7 harg7) K } := by
  refine ⟨?_, ?_, ?_, fun E K => ?run⟩
  case run =>
    simp only [cc0__topk_block_eq_skeleton]; unfold cc0__topk_block_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

/-- The run's pieces for output 3 tile its block (1 store of `S1x256x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x1024x64 .f32) (harg2 : arg2.IsWhole) (arg3 : Memref sig .tc .vmem S1x1024x3 .f32) (harg3 : arg3.IsWhole) (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole) (arg7 : Memref sig .tc .vmem S1x32x256 .f32) (harg7 : arg7.IsWhole)
    (x0 : Vec F S1x1024x64 .f32) (x1 : Vec F S1x1024x3 .f32) (x2 : Vec F S1x3x1024 .f32) (y : S1x256x128.Idx) :
    ∃ pc ∈ (kernelRun0_A c i arg2 harg2 arg3 harg3 arg4 harg4 arg5 harg5 arg6 harg6 arg7 harg7 x0 x1 x2).1, y ∈ pc.1.set :=
  View.cover_of_tiledL (kernelRun0_A c i arg2 harg2 arg3 harg3 arg4 harg4 arg5 harg5 arg6 harg6 arg7 harg7 x0 x1 x2).1 S1x256x128.size (by sl_kernel_rfl) y

/-- What the run leaves in output 3's staging buffer: its pieces read back over junk. -/
def out0_A_3 (c : Dev nD) (i : grid0.Coords) (arg2 : Memref sig .tc .vmem S1x1024x64 .f32) (harg2 : arg2.IsWhole) (arg3 : Memref sig .tc .vmem S1x1024x3 .f32) (harg3 : arg3.IsWhole) (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole) (arg7 : Memref sig .tc .vmem S1x32x256 .f32) (harg7 : arg7.IsWhole)
    (x0 : Vec F S1x1024x64 .f32) (x1 : Vec F S1x1024x3 .f32) (x2 : Vec F S1x3x1024 .f32) : Vec F S1x256x128 .f32 :=
  VO0_3.read (Elt F) (VO0_3.writes (Elt F) VO0_3.junk (kernelRun0_A c i arg2 harg2 arg3 harg3 arg4 harg4 arg5 harg5 arg6 harg6 arg7 harg7 x0 x1 x2).1)

/-- The run's pieces for output 4 tile its block (1 store of `S1x32x256`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x1024x64 .f32) (harg2 : arg2.IsWhole) (arg3 : Memref sig .tc .vmem S1x1024x3 .f32) (harg3 : arg3.IsWhole) (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole) (arg7 : Memref sig .tc .vmem S1x32x256 .f32) (harg7 : arg7.IsWhole)
    (x0 : Vec F S1x1024x64 .f32) (x1 : Vec F S1x1024x3 .f32) (x2 : Vec F S1x3x1024 .f32) (y : S1x32x256.Idx) :
    ∃ pc ∈ (kernelRun0_A c i arg2 harg2 arg3 harg3 arg4 harg4 arg5 harg5 arg6 harg6 arg7 harg7 x0 x1 x2).2.1, y ∈ pc.1.set :=
  View.cover_of_tiledL (kernelRun0_A c i arg2 harg2 arg3 harg3 arg4 harg4 arg5 harg5 arg6 harg6 arg7 harg7 x0 x1 x2).2.1 S1x32x256.size (by sl_kernel_rfl) y

/-- What the run leaves in output 4's staging buffer: its pieces read back over junk. -/
def out0_A_4 (c : Dev nD) (i : grid0.Coords) (arg2 : Memref sig .tc .vmem S1x1024x64 .f32) (harg2 : arg2.IsWhole) (arg3 : Memref sig .tc .vmem S1x1024x3 .f32) (harg3 : arg3.IsWhole) (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole) (arg7 : Memref sig .tc .vmem S1x32x256 .f32) (harg7 : arg7.IsWhole)
    (x0 : Vec F S1x1024x64 .f32) (x1 : Vec F S1x1024x3 .f32) (x2 : Vec F S1x3x1024 .f32) : Vec F S1x32x256 .i32 :=
  VO0_4.read (Elt F) (VO0_4.writes (Elt F) VO0_4.junk (kernelRun0_A c i arg2 harg2 arg3 harg3 arg4 harg4 arg5 harg5 arg6 harg6 arg7 harg7 x0 x1 x2).2.1)

/-- The run's pieces for output 5 tile its block (1 store of `S1x32x256`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x1024x64 .f32) (harg2 : arg2.IsWhole) (arg3 : Memref sig .tc .vmem S1x1024x3 .f32) (harg3 : arg3.IsWhole) (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole) (arg7 : Memref sig .tc .vmem S1x32x256 .f32) (harg7 : arg7.IsWhole)
    (x0 : Vec F S1x1024x64 .f32) (x1 : Vec F S1x1024x3 .f32) (x2 : Vec F S1x3x1024 .f32) (y : S1x32x256.Idx) :
    ∃ pc ∈ (kernelRun0_A c i arg2 harg2 arg3 harg3 arg4 harg4 arg5 harg5 arg6 harg6 arg7 harg7 x0 x1 x2).2.2.1, y ∈ pc.1.set :=
  View.cover_of_tiledL (kernelRun0_A c i arg2 harg2 arg3 harg3 arg4 harg4 arg5 harg5 arg6 harg6 arg7 harg7 x0 x1 x2).2.2.1 S1x32x256.size (by sl_kernel_rfl) y

/-- What the run leaves in output 5's staging buffer: its pieces read back over junk. -/
def out0_A_5 (c : Dev nD) (i : grid0.Coords) (arg2 : Memref sig .tc .vmem S1x1024x64 .f32) (harg2 : arg2.IsWhole) (arg3 : Memref sig .tc .vmem S1x1024x3 .f32) (harg3 : arg3.IsWhole) (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole) (arg7 : Memref sig .tc .vmem S1x32x256 .f32) (harg7 : arg7.IsWhole)
    (x0 : Vec F S1x1024x64 .f32) (x1 : Vec F S1x1024x3 .f32) (x2 : Vec F S1x3x1024 .f32) : Vec F S1x32x256 .f32 :=
  VO0_5.read (Elt F) (VO0_5.writes (Elt F) VO0_5.junk (kernelRun0_A c i arg2 harg2 arg3 harg3 arg4 harg4 arg5 harg5 arg6 harg6 arg7 harg7 x0 x1 x2).2.2.1)

/-! ## What the outputs hold after each point -/

/-- What the outputs' staging buffers hold after the body at point `t` (as a tuple, in window order): the run's contents at
    the point's memrefs and input blocks. -/
def outsAt0 (c : Dev nD) (t : Fin cfg0.N) : Vec F S1x256x128 .f32 × Vec F S1x32x256 .i32 × Vec F S1x32x256 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2.1
    | ⟨5, _⟩ => (outsAt0 V c t).2.2
  Φ _ := ΦH spec0 c
  q _ := fullShare
  owed _ := O c
  recorded _ := B c

/-- The proof data's arrays are the region-entry contents, by projecting the definition (`dsimp`): a region record cites
    this for its arrays rather than have Lean unfold `V`, the fold through @main up to the region's entry. -/
theorem A_eq0 (c : Dev nD) (w : Fin cfg0.W) : (dat0 V O B c).A w = V c (Pipeline.arrRef spec0 w) := by
  dsimp only [dat0]

/-- What the body leaves, window by window (the proof data's `match` reduced by `dsimp`). -/
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = iblk0 V c 2 t := by dsimp only [dat0]
theorem after0_3 (c : Dev nD) (t : Fin cfg0.N) : (dat0 V O B c).after 3 t = (outsAt0 V c t).1 := by dsimp only [dat0]
theorem after0_4 (c : Dev nD) (t : Fin cfg0.N) : (dat0 V O B c).after 4 t = (outsAt0 V c t).2.1 := by dsimp only [dat0]
theorem after0_5 (c : Dev nD) (t : Fin cfg0.N) : (dat0 V O B c).after 5 t = (outsAt0 V c t).2.2 := by dsimp only [dat0]

/-- Each input's current staging buffer holds its block at every point, fetched there or not (`beforeK_W_of`). -/
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d
theorem before0_2 (c : Dev nD) (t : Fin cfg0.N) (d) : (dat0 V O B c).before 2 t d = iblk0 V c 2 t :=
  before0_2_of V (dat0 V O B c) (A_eq0 V O B c 2) (after0_2 V O B c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V O B c).Φ t.castSucc ∗ (dat0 V O B c).owesAt none t.castSucc
    ∗ (∃ d, owns (c : Thread nD τ) (ms0_0 t) fullShare ((dat0 V O B c).before 0 t d))
    ∗ (∃ d, owns (c : Thread nD τ) (ms0_1 t) fullShare ((dat0 V O B c).before 1 t d))
    ∗ (∃ d, owns (c : Thread nD τ) (ms0_2 t) fullShare ((dat0 V O B c).before 2 t d))
    ∗ (∃ d, owns (c : Thread nD τ) (ms0_3 t) fullShare ((dat0 V O B c).before 3 t d))
    ∗ (∃ d, owns (c : Thread nD τ) (ms0_4 t) fullShare ((dat0 V O B c).before 4 t d))
    ∗ (∃ d, owns (c : Thread nD τ) (ms0_5 t) fullShare ((dat0 V O B c).before 5 t d)))

/-- and what it returns. -/
def bodyPost0 (c : Dev nD) (t : Fin cfg0.N) : sProp 𝕄 :=
  iprop((dat0 V O B c).Φ t.succ ∗ (dat0 V O B c).owesAt none t.succ
    ∗ owns (c : Thread nD τ) (ms0_0 t) fullShare ((dat0 V O B c).after 0 t)
    ∗ owns (c : Thread nD τ) (ms0_1 t) fullShare ((dat0 V O B c).after 1 t)
    ∗ owns (c : Thread nD τ) (ms0_2 t) fullShare ((dat0 V O B c).after 2 t)
    ∗ owns (c : Thread nD τ) (ms0_3 t) fullShare ((dat0 V O B c).after 3 t)
    ∗ owns (c : Thread nD τ) (ms0_4 t) fullShare ((dat0 V O B c).after 4 t)
    ∗ owns (c : Thread nD τ) (ms0_5 t) fullShare ((dat0 V O B c).after 5 t))

/-- The body at any point: the inputs' memrefs hold their blocks (`before0_W`); so the
    run applies; the invariant passes through unread; the core owes nothing throughout. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1, before0_2]
  rw [show (dat0 V O B c).Φ t.succ = (dat0 V O B c).Φ t.castSucc from rfl,
    show (dat0 V O B c).owesAt none t.succ = (dat0 V O B c).owesAt none t.castSucc from rfl,
    after0_0, after0_1, after0_2, after0_3, after0_4, after0_5]
  unfold outsAt0
  unfold out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk0 V c 0 t) (iblk0 V c 1 t) (iblk0 V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  rfl

/-- The library's body obligation, at every point: the body's triple restated (Lib/Pipeline/FrameBody.lean `triple_restated`). -/
theorem body_obligation0 (c : Dev nD) : BodyObligation (dat0 (F := F) V O B c) (defs₀ (F := F)) Variants.none none Set.univ := fun t => by
  rw [bigSep_W0, bigSep_W0, defs₀_row0]
  exact triple_restated (sound_body0 V O B c t) rfl .rfl fun _ => .rfl

end Regions

end Cert.Own
-- ==== Proof.Region1.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Ghost

/-! The kernel of the two networks: what its body leaves at each grid point, and the loop over the grid. -/

@[expose] public section

set_option maxRecDepth 16384

noncomputable section

namespace Cert.Own

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Regions
-- the buffers' contents when the region is entered, what the core owes then, and a bound on the waits it has recorded
variable (V : (c : Dev nD) → (b : Ref sig .tc) → Buf (Elt F) ((c : Thread nD τ).loc b))
variable (O : Dev nD → CellTallies nD τ sig (HIx 1)) (B : Dev nD → Set (SemLoc sig × HIx 1))

/-! # REGION 1 of @main: custom_call 1, `cc2__mlp_block` (pipeline 1), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's buffer holds its block at every point. -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's buffer holds its block at every point. -/
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's buffer holds its block at every point. -/
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's buffer holds its block at every point. -/
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's buffer holds its block at every point. -/
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's buffer holds its block at every point. -/
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's buffer holds its block at every point. -/
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's buffer holds its block at every point. -/
theorem before2_8_of {c : Dev nD} (dat : Dat τ (Elt F) (HIx 1) ℕ UU ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's buffer holds its block at every point. -/
theorem before2_9_of {c : Dev nD} (dat : Dat τ (Elt F) (HIx 1) ℕ UU ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's buffer holds its block at every point. -/
theorem before2_10_of {c : Dev nD} (dat : Dat τ (Elt F) (HIx 1) ℕ UU ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's buffer holds its block at every point. -/
theorem before2_11_of {c : Dev nD} (dat : Dat τ (Elt F) (HIx 1) ℕ UU ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's buffer holds its block at every point. -/
theorem before2_12_of {c : Dev nD} (dat : Dat τ (Elt F) (HIx 1) ℕ UU ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's buffer holds its block at every point. -/
theorem before2_13_of {c : Dev nD} (dat : Dat τ (Elt F) (HIx 1) ℕ UU ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's buffer holds its block at every point. -/
theorem before2_14_of {c : Dev nD} (dat : Dat τ (Elt F) (HIx 1) ℕ UU ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
/-- Input window 15's buffer holds its block at every point. -/
theorem before2_15_of {c : Dev nD} (dat : Dat τ (Elt F) (HIx 1) ℕ UU ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
/-- Input window 16's buffer holds its block at every point. -/
theorem before2_16_of {c : Dev nD} (dat : Dat τ (Elt F) (HIx 1) ℕ UU ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
/-- Input window 17's buffer holds its block at every point. -/
theorem before2_17_of {c : Dev nD} (dat : Dat τ (Elt F) (HIx 1) ℕ UU ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)
/-- Input window 18's buffer holds its block at every point. -/
theorem before2_18_of {c : Dev nD} (dat : Dat τ (Elt F) (HIx 1) ℕ UU ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)
/-- Input window 19's buffer holds its block at every point. -/
theorem before2_19_of {c : Dev nD} (dat : Dat τ (Elt F) (HIx 1) ℕ UU ℕ cfg2 c) (hA : dat.A 19 = V c (Pipeline.arrRef spec2 19))
    (hafter : ∀ t, dat.after 19 t = iblk2 V c 19 t) (t : Fin cfg2.N) (d) : dat.before 19 t d = iblk2 V c 19 t :=
  (dat.before_in_eq_fetched 19 rfl (fun _ => rfl) (fun _ _ _ => rfl) (fun t => by rw [hafter]; unfold Dat.blockOf iblk2; rw [hA]; try rfl) t d).trans
    (by unfold Dat.fetched Dat.blockOf iblk2; rw [hA]; try rfl)
/-- Input window 20's buffer holds its block at every point. -/
theorem before2_20_of {c : Dev nD} (dat : Dat τ (Elt F) (HIx 1) ℕ UU ℕ cfg2 c) (hA : dat.A 20 = V c (Pipeline.arrRef spec2 20))
    (hafter : ∀ t, dat.after 20 t = iblk2 V c 20 t) (t : Fin cfg2.N) (d) : dat.before 20 t d = iblk2 V c 20 t :=
  (dat.before_in_eq_fetched 20 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x256x64 := Rect.unit (s := S1x256x64) ![0, 0, 0] S1x256x64.size inb_S1x256x64_S1x256x64_0_0_0
abbrev r2_1 : Rect S1x256x3 := Rect.unit (s := S1x256x3) ![0, 0, 0] S1x256x3.size inb_S1x256x3_S1x256x3_0_0_0
abbrev r2_2 : Rect S1x8192x1 := Rect.unit (s := S1x8192x1) ![0, 0, 0] S1x8192x1.size inb_S1x8192x1_S1x8192x1_0_0_0
abbrev r2_3 : Rect S64x258 := Rect.unit (s := S64x258) ![0, 0] S64x258.size inb_S64x258_S64x258_0_0
abbrev r2_4 : Rect S1x258 := Rect.unit (s := S1x258) ![0, 0] S1x258.size inb_S1x258_S1x258_0_0
abbrev r2_5 : Rect S1x8192x128 := Rect.unit (s := S1x8192x128) ![0, 0, 0] S1x8192x64.size inb_S1x8192x128_S1x8192x64_0_0_0
abbrev r2_6 : Rect S258x16 := Rect.unit (s := S258x16) ![0, 0] S258x16.size inb_S258x16_S258x16_0_0
abbrev r2_7 : Rect S1x16 := Rect.unit (s := S1x16) ![0, 0] S1x16.size inb_S1x16_S1x16_0_0
abbrev r2_8 : Rect S16x128 := Rect.unit (s := S16x128) ![0, 0] S16x128.size inb_S16x128_S16x128_0_0
abbrev r2_9 : Rect S1x128 := Rect.unit (s := S1x128) ![0, 0] S1x128.size inb_S1x128_S1x128_0_0
abbrev r2_10 : Rect S128x2 := Rect.unit (s := S128x2) ![0, 0] S128x2.size inb_S128x2_S128x2_0_0
abbrev r2_11 : Rect S1x2 := Rect.unit (s := S1x2) ![0, 0] S1x2.size inb_S1x2_S1x2_0_0
abbrev r2_12 : Rect S1x8192x128 := Rect.unit (s := S1x8192x128) ![0, 0, 64] S1x8192x3.size inb_S1x8192x128_S1x8192x3_0_0_64
abbrev r2_13 : Rect S1x256x128 := Rect.unit (s := S1x256x128) ![0, 0, 67] S1x256x3.size inb_S1x256x128_S1x256x3_0_0_67
abbrev r2_14 : Rect S1x8192x128 := Rect.unit (s := S1x8192x128) ![0, 0, 67] S1x8192x3.size inb_S1x8192x128_S1x8192x3_0_0_67
abbrev r2_15 : Rect S256x8192 := Rect.unit (s := S256x8192) ![0, 0] S256x8192.size inb_S256x8192_S256x8192_0_0
abbrev r2_16 : Rect S64x128 := Rect.unit (s := S64x128) ![0, 0] S64x128.size inb_S64x128_S64x128_0_0
abbrev r2_17 : Rect S128x64 := Rect.unit (s := S128x64) ![0, 0] S128x64.size inb_S128x64_S128x64_0_0
abbrev r2_18 : Rect S1x64 := Rect.unit (s := S1x64) ![0, 0] S1x64.size inb_S1x64_S1x64_0_0

/-! ## What the body leaves in each output window's buffer -/

/-! ### Values of the body that the stores' payloads, spelt out, would write more than once

    Each is a vector the body binds (often a part call's result), stated over the input windows' blocks and
    numbered on from the skeleton's payload functions (`k2_pay13` …, after `k2_pay12`), so that
    the outputs and the values after it name it instead of spelling it out. -/

def k2_pay13 (x0 : Vec F S1x8192x128 .f32) (x1 : Vec F S1x8192x1 .f32) (x2 : Vec F S1x256x128 .f32) (x3 : Vec F S1x256x64 .f32) (x4 : Vec F S1x256x3 .f32) (x5 : Vec F S256x8192 .bf16) (x6 : Vec F S64x258 .bf16) (x7 : Vec F S64x258 .bf16) (x8 : Vec F S1x258 .bf16) (x9 : Vec F S1x258 .f32) (x10 : Vec F S258x16 .bf16) (x11 : Vec F S1x16 .f32) (x12 : Vec F S64x128 .bf16) (x13 : Vec F S16x128 .bf16) (x14 : Vec F S1x128 .f32) (x15 : Vec F S128x64 .bf16) (x16 : Vec F S1x64 .f32) (x17 : Vec F S16x128 .bf16) (x18 : Vec F S1x128 .f32) (x19 : Vec F S128x2 .bf16) (x20 : Vec F S1x2 .f32) : FVec F S256x3 .f32 :=
  k2_pay4 (View.ld x4 r2_1) -- `v3`
def k2_pay14 (x0 : Vec F S1x8192x128 .f32) (x1 : Vec F S1x8192x1 .f32) (x2 : Vec F S1x256x128 .f32) (x3 : Vec F S1x256x64 .f32) (x4 : Vec F S1x256x3 .f32) (x5 : Vec F S256x8192 .bf16) (x6 : Vec F S64x258 .bf16) (x7 : Vec F S64x258 .bf16) (x8 : Vec F S1x258 .bf16) (x9 : Vec F S1x258 .f32) (x10 : Vec F S258x16 .bf16) (x11 : Vec F S1x16 .f32) (x12 : Vec F S64x128 .bf16) (x13 : Vec F S16x128 .bf16) (x14 : Vec F S1x128 .f32) (x15 : Vec F S128x64 .bf16) (x16 : Vec F S1x64 .f32) (x17 : Vec F S16x128 .bf16) (x18 : Vec F S1x128 .f32) (x19 : Vec F S128x2 .bf16) (x20 : Vec F S1x2 .f32) : FVec F S8192x258 .bf16 :=
  k2_pay6 (View.ld x3 r2_0) (View.ld x1 r2_2) (View.ld x6 r2_3) (View.ld x9 r2_4) (View.ld x0 r2_5) (View.ld x7 r2_3) (View.ld x8 r2_4) -- `v32`
def k2_pay15 (x0 : Vec F S1x8192x128 .f32) (x1 : Vec F S1x8192x1 .f32) (x2 : Vec F S1x256x128 .f32) (x3 : Vec F S1x256x64 .f32) (x4 : Vec F S1x256x3 .f32) (x5 : Vec F S256x8192 .bf16) (x6 : Vec F S64x258 .bf16) (x7 : Vec F S64x258 .bf16) (x8 : Vec F S1x258 .bf16) (x9 : Vec F S1x258 .f32) (x10 : Vec F S258x16 .bf16) (x11 : Vec F S1x16 .f32) (x12 : Vec F S64x128 .bf16) (x13 : Vec F S16x128 .bf16) (x14 : Vec F S1x128 .f32) (x15 : Vec F S128x64 .bf16) (x16 : Vec F S1x64 .f32) (x17 : Vec F S16x128 .bf16) (x18 : Vec F S1x128 .f32) (x19 : Vec F S128x2 .bf16) (x20 : Vec F S1x2 .f32) : FVec F S8192x258 .bf16 :=
  k2_pay7 (View.ld x3 r2_0) (View.ld x1 r2_2) (View.ld x6 r2_3) (View.ld x9 r2_4) (View.ld x0 r2_5) (View.ld x7 r2_3) (View.ld x8 r2_4) -- `v34`
def k2_pay16 (x0 : Vec F S1x8192x128 .f32) (x1 : Vec F S1x8192x1 .f32) (x2 : Vec F S1x256x128 .f32) (x3 : Vec F S1x256x64 .f32) (x4 : Vec F S1x256x3 .f32) (x5 : Vec F S256x8192 .bf16) (x6 : Vec F S64x258 .bf16) (x7 : Vec F S64x258 .bf16) (x8 : Vec F S1x258 .bf16) (x9 : Vec F S1x258 .f32) (x10 : Vec F S258x16 .bf16) (x11 : Vec F S1x16 .f32) (x12 : Vec F S64x128 .bf16) (x13 : Vec F S16x128 .bf16) (x14 : Vec F S1x128 .f32) (x15 : Vec F S128x64 .bf16) (x16 : Vec F S1x64 .f32) (x17 : Vec F S16x128 .bf16) (x18 : Vec F S1x128 .f32) (x19 : Vec F S128x2 .bf16) (x20 : Vec F S1x2 .f32) : FVec F S8192x16 .bf16 :=
  k2_pay8 (k2_pay14 x0 x1 x2 x3 x4 x5 x6 x7 x8 x9 x10 x11 x12 x13 x14 x15 x16 x17 x18 x19 x20) (k2_pay15 x0 x1 x2 x3 x4 x5 x6 x7 x8 x9 x10 x11 x12 x13 x14 x15 x16 x17 x18 x19 x20) (View.ld x10 r2_6) (View.ld x11 r2_7) -- `v54`
def k2_pay17 (x0 : Vec F S1x8192x128 .f32) (x1 : Vec F S1x8192x1 .f32) (x2 : Vec F S1x256x128 .f32) (x3 : Vec F S1x256x64 .f32) (x4 : Vec F S1x256x3 .f32) (x5 : Vec F S256x8192 .bf16) (x6 : Vec F S64x258 .bf16) (x7 : Vec F S64x258 .bf16) (x8 : Vec F S1x258 .bf16) (x9 : Vec F S1x258 .f32) (x10 : Vec F S258x16 .bf16) (x11 : Vec F S1x16 .f32) (x12 : Vec F S64x128 .bf16) (x13 : Vec F S16x128 .bf16) (x14 : Vec F S1x128 .f32) (x15 : Vec F S128x64 .bf16) (x16 : Vec F S1x64 .f32) (x17 : Vec F S16x128 .bf16) (x18 : Vec F S1x128 .f32) (x19 : Vec F S128x2 .bf16) (x20 : Vec F S1x2 .f32) : FVec F S8192x2 .f32 :=
  k2_pay9 (k2_pay14 x0 x1 x2 x3 x4 x5 x6 x7 x8 x9 x10 x11 x12 x13 x14 x15 x16 x17 x18 x19 x20) (k2_pay15 x0 x1 x2 x3 x4 x5 x6 x7 x8 x9 x10 x11 x12 x13 x14 x15 x16 x17 x18 x19 x20) (View.ld x10 r2_6) (View.ld x11 r2_7) (View.ld x17 r2_8) (View.ld x18 r2_9) (View.ld x19 r2_10) -- `v73`

/-- Window 21's staging buffer after the body, from the input windows' blocks: its 1 store as pieces, LAST
    FIRST (Lib/Pipeline/FrameBody.lean `View.canon`; the payloads are the skeleton's and the values stated above). -/
def out2_21 (x0 : Vec F S1x8192x128 .f32) (x1 : Vec F S1x8192x1 .f32) (x2 : Vec F S1x256x128 .f32) (x3 : Vec F S1x256x64 .f32) (x4 : Vec F S1x256x3 .f32) (x5 : Vec F S256x8192 .bf16) (x6 : Vec F S64x258 .bf16) (x7 : Vec F S64x258 .bf16) (x8 : Vec F S1x258 .bf16) (x9 : Vec F S1x258 .f32) (x10 : Vec F S258x16 .bf16) (x11 : Vec F S1x16 .f32) (x12 : Vec F S64x128 .bf16) (x13 : Vec F S16x128 .bf16) (x14 : Vec F S1x128 .f32) (x15 : Vec F S128x64 .bf16) (x16 : Vec F S1x64 .f32) (x17 : Vec F S16x128 .bf16) (x18 : Vec F S1x128 .f32) (x19 : Vec F S128x2 .bf16) (x20 : Vec F S1x2 .f32) : Vec F S1x256x64 .f32 :=
  View.canon [⟨r2_0, k2_pay2 (k2_pay3 (View.ld x3 r2_0)) (k2_pay11 (k2_pay13 x0 x1 x2 x3 x4 x5 x6 x7 x8 x9 x10 x11 x12 x13 x14 x15 x16 x17 x18 x19 x20) (k2_pay16 x0 x1 x2 x3 x4 x5 x6 x7 x8 x9 x10 x11 x12 x13 x14 x15 x16 x17 x18 x19 x20) (k2_pay17 x0 x1 x2 x3 x4 x5 x6 x7 x8 x9 x10 x11 x12 x13 x14 x15 x16 x17 x18 x19 x20) (View.ld x20 r2_11) (View.ld x0 r2_12) (View.ld x2 r2_13) (View.ld x0 r2_14) (View.ld x5 r2_15)) (View.ld x12 r2_16) (View.ld x13 r2_8) (View.ld x14 r2_9) (View.ld x15 r2_17) (View.ld x16 r2_18)⟩]

/-- Its stores tile the buffer (checked by evaluation), so they cover it. -/
theorem cover2_21 (p0 : Vec F S1x256x64 .f32) (y : S1x256x64.Idx) :
    ∃ pc ∈ ([⟨r2_0, p0⟩] : List (View.Piece (Elt F) S1x256x64 .f32)), y ∈ pc.1.set :=
  View.cover_of_tiled [⟨r2_0, p0⟩] S1x256x64.size (by rfl) y

/-- Window 22's staging buffer after the body, from the input windows' blocks: its 1 store as pieces, LAST
    FIRST (Lib/Pipeline/FrameBody.lean `View.canon`; the payloads are the skeleton's and the values stated above). -/
def out2_22 (x0 : Vec F S1x8192x128 .f32) (x1 : Vec F S1x8192x1 .f32) (x2 : Vec F S1x256x128 .f32) (x3 : Vec F S1x256x64 .f32) (x4 : Vec F S1x256x3 .f32) (x5 : Vec F S256x8192 .bf16) (x6 : Vec F S64x258 .bf16) (x7 : Vec F S64x258 .bf16) (x8 : Vec F S1x258 .bf16) (x9 : Vec F S1x258 .f32) (x10 : Vec F S258x16 .bf16) (x11 : Vec F S1x16 .f32) (x12 : Vec F S64x128 .bf16) (x13 : Vec F S16x128 .bf16) (x14 : Vec F S1x128 .f32) (x15 : Vec F S128x64 .bf16) (x16 : Vec F S1x64 .f32) (x17 : Vec F S16x128 .bf16) (x18 : Vec F S1x128 .f32) (x19 : Vec F S128x2 .bf16) (x20 : Vec F S1x2 .f32) : Vec F S1x256x3 .f32 :=
  View.canon [⟨r2_1, k2_pay1 (k2_pay12 (k2_pay13 x0 x1 x2 x3 x4 x5 x6 x7 x8 x9 x10 x11 x12 x13 x14 x15 x16 x17 x18 x19 x20) (k2_pay16 x0 x1 x2 x3 x4 x5 x6 x7 x8 x9 x10 x11 x12 x13 x14 x15 x16 x17 x18 x19 x20) (k2_pay17 x0 x1 x2 x3 x4 x5 x6 x7 x8 x9 x10 x11 x12 x13 x14 x15 x16 x17 x18 x19 x20) (View.ld x20 r2_11) (View.ld x0 r2_12) (View.ld x2 r2_13) (View.ld x0 r2_14) (View.ld x5 r2_15))⟩]

/-- Its stores tile the buffer (checked by evaluation), so they cover it. -/
theorem cover2_22 (p0 : Vec F S1x256x3 .f32) (y : S1x256x3.Idx) :
    ∃ pc ∈ ([⟨r2_1, p0⟩] : List (View.Piece (Elt F) S1x256x3 .f32)), y ∈ pc.1.set :=
  View.cover_of_tiled [⟨r2_1, p0⟩] S1x256x3.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S1x8192x128 .f32) (harg1 : arg1.IsWhole) (arg2 : Memref sig .tc .vmem S1x8192x1 .f32) (harg2 : arg2.IsWhole) (arg3 : Memref sig .tc .vmem S1x256x128 .f32) (harg3 : arg3.IsWhole) (arg4 : Memref sig .tc .vmem S1x256x64 .f32) (harg4 : arg4.IsWhole) (arg5 : Memref sig .tc .vmem S1x256x3 .f32) (harg5 : arg5.IsWhole) (arg6 : Memref sig .tc .vmem S256x8192 .bf16) (harg6 : arg6.IsWhole) (arg7 : Memref sig .tc .vmem S64x258 .bf16) (harg7 : arg7.IsWhole) (arg8 : Memref sig .tc .vmem S64x258 .bf16) (harg8 : arg8.IsWhole) (arg9 : Memref sig .tc .vmem S1x258 .bf16) (harg9 : arg9.IsWhole) (arg10 : Memref sig .tc .vmem S1x258 .f32) (harg10 : arg10.IsWhole) (arg11 : Memref sig .tc .vmem S258x16 .bf16) (harg11 : arg11.IsWhole) (arg12 : Memref sig .tc .vmem S1x16 .f32) (harg12 : arg12.IsWhole) (arg13 : Memref sig .tc .vmem S64x128 .bf16) (harg13 : arg13.IsWhole) (arg14 : Memref sig .tc .vmem S16x128 .bf16) (harg14 : arg14.IsWhole) (arg15 : Memref sig .tc .vmem S1x128 .f32) (harg15 : arg15.IsWhole) (arg16 : Memref sig .tc .vmem S128x64 .bf16) (harg16 : arg16.IsWhole) (arg17 : Memref sig .tc .vmem S1x64 .f32) (harg17 : arg17.IsWhole) (arg18 : Memref sig .tc .vmem S16x128 .bf16) (harg18 : arg18.IsWhole) (arg19 : Memref sig .tc .vmem S1x128 .f32) (harg19 : arg19.IsWhole) (arg20 : Memref sig .tc .vmem S128x2 .bf16) (harg20 : arg20.IsWhole) (arg21 : Memref sig .tc .vmem S1x2 .f32) (harg21 : arg21.IsWhole) (arg22 : Memref sig .tc .vmem S1x256x64 .f32) (harg22 : arg22.IsWhole) (arg23 : Memref sig .tc .vmem S1x256x3 .f32) (harg23 : arg23.IsWhole)
    (x0 : Vec F S1x8192x128 .f32) (x1 : Vec F S1x8192x1 .f32) (x2 : Vec F S1x256x128 .f32) (x3 : Vec F S1x256x64 .f32) (x4 : Vec F S1x256x3 .f32) (x5 : Vec F S256x8192 .bf16) (x6 : Vec F S64x258 .bf16) (x7 : Vec F S64x258 .bf16) (x8 : Vec F S1x258 .bf16) (x9 : Vec F S1x258 .f32) (x10 : Vec F S258x16 .bf16) (x11 : Vec F S1x16 .f32) (x12 : Vec F S64x128 .bf16) (x13 : Vec F S16x128 .bf16) (x14 : Vec F S1x128 .f32) (x15 : Vec F S128x64 .bf16) (x16 : Vec F S1x64 .f32) (x17 : Vec F S16x128 .bf16) (x18 : Vec F S1x128 .f32) (x19 : Vec F S128x2 .bf16) (x20 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out2_21 x0 x1 x2 x3 x4 x5 x6 x7 x8 x9 x10 x11 x12 x13 x14 x15 x16 x17 x18 x19 x20) ∗ owns (c : Thread nD τ) arg23 fullShare (out2_22 x0 x1 x2 x3 x4 x5 x6 x7 x8 x9 x10 x11 x12 x13 x14 x15 x16 x17 x18 x19 x20)) -∗ K ⟨⟩))
      ⊢ wp frame (wpE (defs₀ (F := F)) Variants.none c none) E (cc2__mlp_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc2__mlp_block_eq_skeleton]; unfold cc2__mlp_block_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (View.read_writes_eq_canon _ _ _ (cover2_21 _)).trans ?_
    rfl
  iexists _; isplitr
  swap; · iexact H22
  ipureintro
  refine (View.read_writes_eq_canon _ _ _ (cover2_22 _)).trans ?_
  rfl

/-! ## The pipeline's proof data -/

/-- The proof data of pipeline 1 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => out2_21 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t)
    | ⟨22, _⟩ => out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t)
    | ⟨_ + 23, h⟩ => absurd h (Nat.not_lt.2 (Nat.le_add_left _ _))
  Φ _ := ΦH spec2 c
  q _ := fullShare
  owed _ := O c
  recorded _ := B c

/-- The proof data's arrays are the region-entry contents, by projecting the definition (`dsimp`): a region record cites
    this for its arrays rather than have Lean unfold `V`, the fold through @main up to the region's entry. -/
theorem A_eq2 (c : Dev nD) (w : Fin cfg2.W) : (dat2 V O B c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t = iblk2 V c 5 t := by dsimp only [dat2]
theorem after2_6 (c : Dev nD) (t : Fin cfg2.N) : (dat2 V O B c).after 6 t = iblk2 V c 6 t := by dsimp only [dat2]
theorem after2_7 (c : Dev nD) (t : Fin cfg2.N) : (dat2 V O B c).after 7 t = iblk2 V c 7 t := by dsimp only [dat2]
theorem after2_8 (c : Dev nD) (t : Fin cfg2.N) : (dat2 V O B c).after 8 t = iblk2 V c 8 t := by dsimp only [dat2]
theorem after2_9 (c : Dev nD) (t : Fin cfg2.N) : (dat2 V O B c).after 9 t = iblk2 V c 9 t := by dsimp only [dat2]
theorem after2_10 (c : Dev nD) (t : Fin cfg2.N) : (dat2 V O B c).after 10 t = iblk2 V c 10 t := by dsimp only [dat2]
theorem after2_11 (c : Dev nD) (t : Fin cfg2.N) : (dat2 V O B c).after 11 t = iblk2 V c 11 t := by dsimp only [dat2]
theorem after2_12 (c : Dev nD) (t : Fin cfg2.N) : (dat2 V O B c).after 12 t = iblk2 V c 12 t := by dsimp only [dat2]
theorem after2_13 (c : Dev nD) (t : Fin cfg2.N) : (dat2 V O B c).after 13 t = iblk2 V c 13 t := by dsimp only [dat2]
theorem after2_14 (c : Dev nD) (t : Fin cfg2.N) : (dat2 V O B c).after 14 t = iblk2 V c 14 t := by dsimp only [dat2]
theorem after2_15 (c : Dev nD) (t : Fin cfg2.N) : (dat2 V O B c).after 15 t = iblk2 V c 15 t := by dsimp only [dat2]
theorem after2_16 (c : Dev nD) (t : Fin cfg2.N) : (dat2 V O B c).after 16 t = iblk2 V c 16 t := by dsimp only [dat2]
theorem after2_17 (c : Dev nD) (t : Fin cfg2.N) : (dat2 V O B c).after 17 t = iblk2 V c 17 t := by dsimp only [dat2]
theorem after2_18 (c : Dev nD) (t : Fin cfg2.N) : (dat2 V O B c).after 18 t = iblk2 V c 18 t := by dsimp only [dat2]
theorem after2_19 (c : Dev nD) (t : Fin cfg2.N) : (dat2 V O B c).after 19 t = iblk2 V c 19 t := by dsimp only [dat2]
theorem after2_20 (c : Dev nD) (t : Fin cfg2.N) : (dat2 V O B c).after 20 t = iblk2 V c 20 t := by dsimp only [dat2]
theorem after2_21 (c : Dev nD) (t : Fin cfg2.N) : (dat2 V O B c).after 21 t = out2_21 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) := by dsimp only [dat2]
theorem after2_22 (c : Dev nD) (t : Fin cfg2.N) : (dat2 V O B c).after 22 t = out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) := by dsimp only [dat2]

/-- Each input's current staging buffer holds its block at every point, fetched there or not (`beforeK_W_of`). -/
theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d
theorem before2_4 (c : Dev nD) (t : Fin cfg2.N) (d) : (dat2 V O B c).before 4 t d = iblk2 V c 4 t :=
  before2_4_of V (dat2 V O B c) (A_eq2 V O B c 4) (after2_4 V O B c) t d
theorem before2_5 (c : Dev nD) (t : Fin cfg2.N) (d) : (dat2 V O B c).before 5 t d = iblk2 V c 5 t :=
  before2_5_of V (dat2 V O B c) (A_eq2 V O B c 5) (after2_5 V O B c) t d
theorem before2_6 (c : Dev nD) (t : Fin cfg2.N) (d) : (dat2 V O B c).before 6 t d = iblk2 V c 6 t :=
  before2_6_of V (dat2 V O B c) (A_eq2 V O B c 6) (after2_6 V O B c) t d
theorem before2_7 (c : Dev nD) (t : Fin cfg2.N) (d) : (dat2 V O B c).before 7 t d = iblk2 V c 7 t :=
  before2_7_of V (dat2 V O B c) (A_eq2 V O B c 7) (after2_7 V O B c) t d
theorem before2_8 (c : Dev nD) (t : Fin cfg2.N) (d) : (dat2 V O B c).before 8 t d = iblk2 V c 8 t :=
  before2_8_of V (dat2 V O B c) (A_eq2 V O B c 8) (after2_8 V O B c) t d
theorem before2_9 (c : Dev nD) (t : Fin cfg2.N) (d) : (dat2 V O B c).before 9 t d = iblk2 V c 9 t :=
  before2_9_of V (dat2 V O B c) (A_eq2 V O B c 9) (after2_9 V O B c) t d
theorem before2_10 (c : Dev nD) (t : Fin cfg2.N) (d) : (dat2 V O B c).before 10 t d = iblk2 V c 10 t :=
  before2_10_of V (dat2 V O B c) (A_eq2 V O B c 10) (after2_10 V O B c) t d
theorem before2_11 (c : Dev nD) (t : Fin cfg2.N) (d) : (dat2 V O B c).before 11 t d = iblk2 V c 11 t :=
  before2_11_of V (dat2 V O B c) (A_eq2 V O B c 11) (after2_11 V O B c) t d
theorem before2_12 (c : Dev nD) (t : Fin cfg2.N) (d) : (dat2 V O B c).before 12 t d = iblk2 V c 12 t :=
  before2_12_of V (dat2 V O B c) (A_eq2 V O B c 12) (after2_12 V O B c) t d
theorem before2_13 (c : Dev nD) (t : Fin cfg2.N) (d) : (dat2 V O B c).before 13 t d = iblk2 V c 13 t :=
  before2_13_of V (dat2 V O B c) (A_eq2 V O B c 13) (after2_13 V O B c) t d
theorem before2_14 (c : Dev nD) (t : Fin cfg2.N) (d) : (dat2 V O B c).before 14 t d = iblk2 V c 14 t :=
  before2_14_of V (dat2 V O B c) (A_eq2 V O B c 14) (after2_14 V O B c) t d
theorem before2_15 (c : Dev nD) (t : Fin cfg2.N) (d) : (dat2 V O B c).before 15 t d = iblk2 V c 15 t :=
  before2_15_of V (dat2 V O B c) (A_eq2 V O B c 15) (after2_15 V O B c) t d
theorem before2_16 (c : Dev nD) (t : Fin cfg2.N) (d) : (dat2 V O B c).before 16 t d = iblk2 V c 16 t :=
  before2_16_of V (dat2 V O B c) (A_eq2 V O B c 16) (after2_16 V O B c) t d
theorem before2_17 (c : Dev nD) (t : Fin cfg2.N) (d) : (dat2 V O B c).before 17 t d = iblk2 V c 17 t :=
  before2_17_of V (dat2 V O B c) (A_eq2 V O B c 17) (after2_17 V O B c) t d
theorem before2_18 (c : Dev nD) (t : Fin cfg2.N) (d) : (dat2 V O B c).before 18 t d = iblk2 V c 18 t :=
  before2_18_of V (dat2 V O B c) (A_eq2 V O B c 18) (after2_18 V O B c) t d
theorem before2_19 (c : Dev nD) (t : Fin cfg2.N) (d) : (dat2 V O B c).before 19 t d = iblk2 V c 19 t :=
  before2_19_of V (dat2 V O B c) (A_eq2 V O B c 19) (after2_19 V O B c) t d
theorem before2_20 (c : Dev nD) (t : Fin cfg2.N) (d) : (dat2 V O B c).before 20 t d = iblk2 V c 20 t :=
  before2_20_of V (dat2 V O B c) (A_eq2 V O B c 20) (after2_20 V O B c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d))
    ∗ (∃ d, owns (c : Thread nD τ) (st2_6 t) fullShare ((dat2 V O B c).before 6 t d))
    ∗ (∃ d, owns (c : Thread nD τ) (st2_7 t) fullShare ((dat2 V O B c).before 7 t d))
    ∗ (∃ d, owns (c : Thread nD τ) (st2_8 t) fullShare ((dat2 V O B c).before 8 t d))
    ∗ (∃ d, owns (c : Thread nD τ) (st2_9 t) fullShare ((dat2 V O B c).before 9 t d))
    ∗ (∃ d, owns (c : Thread nD τ) (st2_10 t) fullShare ((dat2 V O B c).before 10 t d))
    ∗ (∃ d, owns (c : Thread nD τ) (st2_11 t) fullShare ((dat2 V O B c).before 11 t d))
    ∗ (∃ d, owns (c : Thread nD τ) (st2_12 t) fullShare ((dat2 V O B c).before 12 t d))
    ∗ (∃ d, owns (c : Thread nD τ) (st2_13 t) fullShare ((dat2 V O B c).before 13 t d))
    ∗ (∃ d, owns (c : Thread nD τ) (st2_14 t) fullShare ((dat2 V O B c).before 14 t d))
    ∗ (∃ d, owns (c : Thread nD τ) (st2_15 t) fullShare ((dat2 V O B c).before 15 t d))
    ∗ (∃ d, owns (c : Thread nD τ) (st2_16 t) fullShare ((dat2 V O B c).before 16 t d))
    ∗ (∃ d, owns (c : Thread nD τ) (st2_17 t) fullShare ((dat2 V O B c).before 17 t d))
    ∗ (∃ d, owns (c : Thread nD τ) (st2_18 t) fullShare ((dat2 V O B c).before 18 t d))
    ∗ (∃ d, owns (c : Thread nD τ) (st2_19 t) fullShare ((dat2 V O B c).before 19 t d))
    ∗ (∃ d, owns (c : Thread nD τ) (st2_20 t) fullShare ((dat2 V O B c).before 20 t d))
    ∗ (∃ d, owns (c : Thread nD τ) (st2_21 t) fullShare ((dat2 V O B c).before 21 t d))
    ∗ (∃ d, owns (c : Thread nD τ) (st2_22 t) fullShare ((dat2 V O B c).before 22 t d)))

/-- and what it returns. -/
def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t)
    ∗ owns (c : Thread nD τ) (st2_6 t) fullShare ((dat2 V O B c).after 6 t)
    ∗ owns (c : Thread nD τ) (st2_7 t) fullShare ((dat2 V O B c).after 7 t)
    ∗ owns (c : Thread nD τ) (st2_8 t) fullShare ((dat2 V O B c).after 8 t)
    ∗ owns (c : Thread nD τ) (st2_9 t) fullShare ((dat2 V O B c).after 9 t)
    ∗ owns (c : Thread nD τ) (st2_10 t) fullShare ((dat2 V O B c).after 10 t)
    ∗ owns (c : Thread nD τ) (st2_11 t) fullShare ((dat2 V O B c).after 11 t)
    ∗ owns (c : Thread nD τ) (st2_12 t) fullShare ((dat2 V O B c).after 12 t)
    ∗ owns (c : Thread nD τ) (st2_13 t) fullShare ((dat2 V O B c).after 13 t)
    ∗ owns (c : Thread nD τ) (st2_14 t) fullShare ((dat2 V O B c).after 14 t)
    ∗ owns (c : Thread nD τ) (st2_15 t) fullShare ((dat2 V O B c).after 15 t)
    ∗ owns (c : Thread nD τ) (st2_16 t) fullShare ((dat2 V O B c).after 16 t)
    ∗ owns (c : Thread nD τ) (st2_17 t) fullShare ((dat2 V O B c).after 17 t)
    ∗ owns (c : Thread nD τ) (st2_18 t) fullShare ((dat2 V O B c).after 18 t)
    ∗ owns (c : Thread nD τ) (st2_19 t) fullShare ((dat2 V O B c).after 19 t)
    ∗ owns (c : Thread nD τ) (st2_20 t) fullShare ((dat2 V O B c).after 20 t)
    ∗ owns (c : Thread nD τ) (st2_21 t) fullShare ((dat2 V O B c).after 21 t)
    ∗ owns (c : Thread nD τ) (st2_22 t) fullShare ((dat2 V O B c).after 22 t))

set_option maxHeartbeats 4000000 in
/-- The body at any point: the inputs' memrefs hold their blocks (`before2_W`), so `sound_kernel2` applies; the invariant and
    the core's `owes` pass through unread. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18, before2_19, before2_20]
  rw [show (dat2 V O B c).Φ t.succ = (dat2 V O B c).Φ t.castSucc from rfl,
    show (dat2 V O B c).owesAt none t.succ = (dat2 V O B c).owesAt none t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel2 c Set.univ (grid2.coords t) _ _ _ _ _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt2` spells it. -/
theorem defs₀_row2 (t : Fin cfg2.N) :
    defs₀ (F := F) .tc cfg2.body (cfg2.bodyArgs t (cfg2.slots t)) = bodyAt2 t := by
  rfl

set_option maxHeartbeats 4000000 in
/-- The library's body obligation, at every point: the body's triple restated (Lib/Pipeline/FrameBody.lean `triple_restated`). -/
theorem body_obligation2 (c : Dev nD) : BodyObligation (dat2 (F := F) V O B c) (defs₀ (F := F)) Variants.none none Set.univ := fun t => by
  rw [bigSep_W2, bigSep_W2, defs₀_row2]
  exact triple_restated (sound_body2 V O B c t) rfl .rfl fun _ => .rfl

end Regions

end Cert.Own
-- ==== Proof.Fold.lean ====
module

public import proofs.«01_k».proof.Proof.Call
public import proofs.«01_k».proof.Proof.Host
public import proofs.«01_k».proof.Proof.Region0
public import proofs.«01_k».proof.Proof.Region1

/-! What every buffer holds at each boundary of @main, and what each item leaves unchanged. -/

@[expose] public section

noncomputable section

namespace Cert.Own

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What the TensorCore owes the SparseCores before call `n`, and the waits its record may hold then. -/
abbrev owe (n : ℕ) (c : Dev nD) : CellTallies nD τ sig (HIx 1) := (K (F := F)).Otc c n
abbrev rec' (n : ℕ) (c : Dev nD) : Set (SemLoc sig × HIx 1) := {p | (K (F := F)).lev (SparseCore.T c, p.1) p.2 ≤ 8 * SparseCore.Cfg.Blocks.fst (Q := 1) (N := 1) n}

variable (m : (ℓ : Loc nD τ sig) → Buf (Elt F) ℓ)

/-- The contents at launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)
abbrev W2 : Dev nD → Valuation τ sig (Elt F) := fun c => StableHlo.after hostOps0_1 (W1 m c)
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W2_args (c : Dev nD) : ∀ a ∈ argRefs, W2 m c (Proc.devRef .tc a) = m ((c : Thread nD τ).loc a) :=
  fun a ha => (W2_of m c a (hostOps0_1_args a ha)).trans (W1_args m c a ha)
abbrev W3 : Dev nD → Valuation τ sig (Elt F) := fun c => StableHlo.after hostOps0_2 (W2 m c)
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W3_args (c : Dev nD) : ∀ a ∈ argRefs, W3 m c (Proc.devRef .tc a) = m ((c : Thread nD τ).loc a) :=
  fun a ha => (W3_of m c a (hostOps0_2_args a ha)).trans (W2_args m c a ha)
/-- The same at the TensorCore's references. -/
abbrev V3 : (c : Dev nD) → (b : Ref sig .tc) → Buf (Elt F) ((c : Thread nD τ).loc b) := fun c b => W3 m c b
/-- Past the call its arrays hold what the pipeline leaves, every other buffer what it held. -/
def W4 (c : Dev nD) : Valuation τ sig (Elt F) :=
  Pipeline.withArrays spec0 c (W3 m c) fun w => (dat0 (V3 m) (owe (F := F) 0) (rec' (F := F) 0) c).arrAt w cfg0.N
theorem W4_arr (c : Dev nD) (w : Fin cfg0.W) :
    W4 m c (Proc.devRef .tc (Pipeline.arrRef spec0 w)) = (dat0 (V3 m) (owe (F := F) 0) (rec' (F := F) 0) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- A reference that is none of the call's outputs keeps its contents. -/
theorem W4_of (c : Dev nD) (r : Ref sig .tc) (h : ∀ w : Fin cfg0.W, Pipeline.arrRef spec0 w = r → (cfg0.win w).isOut = false) :
    W4 m c (Proc.devRef .tc r) = W3 m c (Proc.devRef .tc r) := by
  by_cases hw : ∃ w : Fin cfg0.W, Pipeline.arrRef spec0 w = r
  · obtain ⟨w, rfl⟩ := hw
    exact (W4_arr m c w).trans (((dat0 (V3 m) (owe (F := F) 0) (rec' (F := F) 0) c).arrAt_in w (h w rfl) _).trans (A_eq0 (V3 m) _ _ c w))
  · exact W4_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (argsIn0 a ha)).trans (W3_args m c a ha)
abbrev V4 : (c : Dev nD) → (b : Ref sig .tc) → Buf (Elt F) ((c : Thread nD τ).loc b) := fun c b => W4 m c b
theorem hF0 (c : Dev nD) (w : Fin cfg0.W) : (dat0 (V3 m) (owe (F := F) 0) (rec' (F := F) 0) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

abbrev W5 : Dev nD → Valuation τ sig (Elt F) := fun c => StableHlo.after hostOps1 (W4 m c)
theorem W5_of (c : Dev nD) (r : Ref sig .tc) (h : r ∉ hostOps1_W) : W5 m c (Proc.devRef .tc r) = W4 m c (Proc.devRef .tc r) :=
  StableHlo.after_of_writes_sub hostOps1 _ hostOps1_writes h
theorem W5_args (c : Dev nD) : ∀ a ∈ argRefs, W5 m c (Proc.devRef .tc a) = m ((c : Thread nD τ).loc a) :=
  fun a ha => (W5_of m c a (hostOps1_args a ha)).trans (W4_args m c a ha)

/-- The table, the indices and the output when the SparseCore call is made. -/
abbrev tC : (d : Dev nD) → Buf (Elt F) (tLoc d) := fun d => W5 m d (Proc.devRef .tc main_v38)
abbrev xC : (d : Dev nD) → Buf (Elt F) (xLoc d) := fun d => W5 m d (Proc.devRef .tc main_v39)
abbrev oC : (d : Dev nD) → Buf (Elt F) (oLoc d) := fun d => W5 m d (Proc.devRef .tc main_v41)

/-- The SparseCore call leaves the gathered rows in its output. -/
def W6 (c : Dev nD) : Valuation τ sig (Elt F) := Function.update (W5 m c) (Proc.devRef .tc main_v41) (outF (tC m) (xC m) c)
theorem W6_out (c : Dev nD) : W6 m c (Proc.devRef .tc main_v41) = outF (tC m) (xC m) c := by unfold W6; exact Function.update_self ..
theorem W6_of (c : Dev nD) (r : Ref sig .tc) (h : r ≠ main_v41) : W6 m c (Proc.devRef .tc r) = W5 m c (Proc.devRef .tc r) := by
  unfold W6; exact Function.update_of_ne (fun e => h (Proc.devRef_injective _ e)) ..
theorem args_ne_out : ∀ a ∈ argRefs, a ≠ main_v41 := ListAll.forall_mem_of_all_decide (by decide +kernel)
theorem W6_args (c : Dev nD) : ∀ a ∈ argRefs, W6 m c (Proc.devRef .tc a) = m ((c : Thread nD τ).loc a) :=
  fun a ha => (W6_of m c a (args_ne_out a ha)).trans (W5_args m c a ha)

abbrev W7 : Dev nD → Valuation τ sig (Elt F) := fun c => StableHlo.after hostOps2 (W6 m c)
theorem W7_of (c : Dev nD) (r : Ref sig .tc) (h : r ∉ hostOps2_W) : W7 m c (Proc.devRef .tc r) = W6 m c (Proc.devRef .tc r) :=
  StableHlo.after_of_writes_sub hostOps2 _ hostOps2_writes h
theorem W7_args (c : Dev nD) : ∀ a ∈ argRefs, W7 m c (Proc.devRef .tc a) = m ((c : Thread nD τ).loc a) :=
  fun a ha => (W7_of m c a (hostOps2_args a ha)).trans (W6_args m c a ha)
/-- The same at the TensorCore's references. -/
abbrev V7 : (c : Dev nD) → (b : Ref sig .tc) → Buf (Elt F) ((c : Thread nD τ).loc b) := fun c b => W7 m c b
/-- Past the call its arrays hold what the pipeline leaves, every other buffer what it held. -/
def W8 (c : Dev nD) : Valuation τ sig (Elt F) :=
  Pipeline.withArrays spec2 c (W7 m c) fun w => (dat2 (V7 m) (owe (F := F) 1) (rec' (F := F) 1) c).arrAt w cfg2.N
theorem W8_arr (c : Dev nD) (w : Fin cfg2.W) :
    W8 m c (Proc.devRef .tc (Pipeline.arrRef spec2 w)) = (dat2 (V7 m) (owe (F := F) 1) (rec' (F := F) 1) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- A reference that is none of the call's outputs keeps its contents. -/
theorem W8_of (c : Dev nD) (r : Ref sig .tc) (h : ∀ w : Fin cfg2.W, Pipeline.arrRef spec2 w = r → (cfg2.win w).isOut = false) :
    W8 m c (Proc.devRef .tc r) = W7 m c (Proc.devRef .tc r) := by
  by_cases hw : ∃ w : Fin cfg2.W, Pipeline.arrRef spec2 w = r
  · obtain ⟨w, rfl⟩ := hw
    exact (W8_arr m c w).trans (((dat2 (V7 m) (owe (F := F) 1) (rec' (F := F) 1) c).arrAt_in w (h w rfl) _).trans (A_eq2 (V7 m) _ _ c w))
  · exact W8_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m c (Proc.devRef .tc a) = m ((c : Thread nD τ).loc a) :=
  fun a ha => (W8_of m c a (argsIn2 a ha)).trans (W7_args m c a ha)
abbrev V8 : (c : Dev nD) → (b : Ref sig .tc) → Buf (Elt F) ((c : Thread nD τ).loc b) := fun c b => W8 m c b
theorem hF2 (c : Dev nD) (w : Fin cfg2.W) : (dat2 (V7 m) (owe (F := F) 1) (rec' (F := F) 1) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

abbrev W9 : Dev nD → Valuation τ sig (Elt F) := fun c => StableHlo.after hostOps3 (W8 m c)
theorem W9_of (c : Dev nD) (r : Ref sig .tc) (h : r ∉ hostOps3_W) : W9 m c (Proc.devRef .tc r) = W8 m c (Proc.devRef .tc r) :=
  StableHlo.after_of_writes_sub hostOps3 _ hostOps3_writes h
theorem W9_args (c : Dev nD) : ∀ a ∈ argRefs, W9 m c (Proc.devRef .tc a) = m ((c : Thread nD τ).loc a) :=
  fun a ha => (W9_of m c a (hostOps3_args a ha)).trans (W8_args m c a ha)

end Cert.Own
-- ==== Proof.Main.lean ====
module

public import proofs.«01_k».proof.Proof.Fold

/-! The run of @main: the host operations, the two TensorCore calls and the SparseCore call, one after another. -/

@[expose] public section

noncomputable section

namespace Cert.Own

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev adm : (p : Fin 2) → (pcfgs (F := F) p).Adm := fun p => (cfgs p).toPCfg_adm
/-- The two TensorCore calls' proof data, each at the contents it is entered with. -/
def pdats : (p : Fin 2) → (c : Dev nD) → Pipeline.Dat τ (Elt F) (HIx 1) ℕ UU ℕ (Pipeline.pin (pcfgs (F := F)) adm p) c
  | ⟨0, _⟩ => fun c => dat0 (V3 m) (owe (F := F) 0) (rec' (F := F) 0) c
  | ⟨1, _⟩ => fun c => dat2 (V7 m) (owe (F := F) 1) (rec' (F := F) 1) c

/-- What rides beside the buffers through a TensorCore call: the generator register, and what the core owes the
    SparseCores from call `n` on with its record of waits. -/
abbrev R (n : ℕ) (c : Dev nD) : sProp 𝕄 :=
  iprop((∃ r, prngReg c r) ∗ ∃ W, ⌜(K (F := F)).WBelow (SparseCore.T c) W (8 * SparseCore.Cfg.Blocks.fst (Q := 1) (N := 1) n)⌝ ∗ owes (SparseCore.T c) ((K (F := F)).Otc c n) W)

theorem owe_none (n : ℕ) (c : Dev nD) (g : GSem nD τ sig) : owe (F := F) n c g none = 0 := by
  by_contra h
  have h2 := (K (F := F)).lev_of_Otc_pos (N := 1) (d := c) (n := n) (g := g) (ι := none) (Nat.pos_of_ne_zero h)
  rw [SparseCore.Cfg.lev_none] at h2
  omega

theorem waits (p : Fin 2) (c : Dev nD) : (levAts (K (F := F)).L (K (F := F)).lev : sProp 𝕄)
    ⊢ Pipeline.cellsWaits (Pipeline.pin (pcfgs (F := F)) adm) (pdats m) none p c :=
  Pipeline.cellsWaits_intro _ _ _ p c fun w s t => (K (F := F)).mayWait_none _ fun g => by
    match p with
    | 0 => exact owe_none 0 c g
    | 1 => exact owe_none 1 c g

/-- A pair a pipeline's own waits record is at no call, so it lies at the bottom. -/
theorem bound_none {cfg : Pipeline.Cfg sig Λ₀} {c : Dev nD} {p : SemLoc sig × HIx 1} (h : p ∈ cfg.waitPairs (none : HIx 1)) :
    (K (F := F)).lev (SparseCore.T c, p.1) p.2 = 0 := by
  obtain ⟨w, s, rfl⟩ := h
  exact SparseCore.Cfg.lev_none ..

set_option backward.isDefEq.respectTransparency.types false in
/-- A TensorCore call: entered with every buffer at `W3`, left with them at `W4`. -/
def reg0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V3 m) (owe (F := F) 0) (rec' (F := F) 0) c).loose
  hwaits c := waits m 0 c
  pre c := iprop(StableHlo.held (c : Thread nD τ) (Pipeline.ucRefs τ sig) (W3 m c) ∗ R (F := F) 0 c)
  post c := iprop(StableHlo.held (c : Thread nD τ) (Pipeline.ucRefs τ sig) (W4 m c) ∗ R (F := F) 0 c)
  X c := iprop(∃ r, prngReg c r)
  Y c := iprop(∃ r, prngReg c r)
  Z c := Pipeline.unscopedRest (Ix := HIx 1) (Name := ℕ) (U := UU) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) (A_eq0 (V3 m) _ _ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = ΦH spec0 c from rfl]; unfold ΦH
    iintro ⟨Hp, -, Hr⟩
    isplitl [Hr]; · iexact Hr
    iexact Hp
  hout c := by
    rw [Pipeline.ownSems0_none, show (pdats m 0 c).Φ (Fin.last _) = ΦH spec0 c from rfl]; unfold ΦH
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | h
      · exact h
      · rw [bound_none h]; exact Nat.zero_le _
    iexact HO

set_option backward.isDefEq.respectTransparency.types false in
/-- A TensorCore call: entered with every buffer at `W7`, left with them at `W8`. -/
def reg1 : Pipeline.RegionSeg (pcfgs (F := F)) adm (pdats m) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (V7 m) (owe (F := F) 1) (rec' (F := F) 1) c).loose
  hwaits c := waits m 1 c
  pre c := iprop(StableHlo.held (c : Thread nD τ) (Pipeline.ucRefs τ sig) (W7 m c) ∗ R (F := F) 1 c)
  post c := iprop(StableHlo.held (c : Thread nD τ) (Pipeline.ucRefs τ sig) (W8 m c) ∗ R (F := F) 1 c)
  X c := iprop(∃ r, prngReg c r)
  Y c := iprop(∃ r, prngReg c r)
  Z c := Pipeline.unscopedRest (Ix := HIx 1) (Name := ℕ) (U := UU) (Lvl := ℕ) spec2 c (V7 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V7 m c) (A_eq2 (V7 m) _ _ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 1 c).Φ 0 = ΦH spec2 c from rfl]; unfold ΦH
    iintro ⟨Hp, -, Hr⟩
    isplitl [Hr]; · iexact Hr
    iexact Hp
  hout c := by
    rw [Pipeline.ownSems0_none, show (pdats m 1 c).Φ (Fin.last _) = ΦH spec2 c from rfl]; unfold ΦH
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V7 m c) (V8 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | h
      · exact h
      · rw [bound_none h]; exact Nat.zero_le _
    iexact HO

/-- The ghost state of the two pipelines on a device. -/
abbrev G (d : Dev nD) : sProp 𝕄 := iprop(
  (bigSep Finset.univ fun p : Fin 2 => Pipeline.cellsGhost (Pipeline.pin (pcfgs (F := F)) adm) EP p d)
  ∗ bigSep Finset.univ fun p : Fin 2 => Pipeline.toksInit (Pipeline.pin (pcfgs (F := F)) adm) EP p d)

instance EP_landsIn : (EP (F := F)).LandsIn (upEmb : UEmb _ 𝕄) := by unfold EP; infer_instance

/-- A TensorCore call inside the program with the SparseCore's. -/
theorem region_wp [∀ e, Nonempty (Elt F e)] {p : Fin 2} (Rg : Pipeline.RegionSeg (pcfgs (F := F)) adm (pdats m) none defs₀ 𝒱₀ (K (F := F)).L (K (F := F)).lev p)
    (d : Dev nD) (Φ : PUnit → sProp 𝕄) {A B : sProp 𝕄} (hA : Rg.pre d = A) (hB : Rg.post d = B) :
    iprop((iprop(boundary (d.tc : Thread nD τ) ∗ B) -∗ Φ ⟨⟩)
        ∗ boundary (d.tc : Thread nD τ) ∗ A ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (d.tc : Thread nD τ) none) Set.univ
          (Prog.lift (.customCall (SparseCore.inner (Pipeline.entry p)) ())) Φ := by
  subst hA hB
  refine BI.Entails.trans ?_ ((K (F := F)).wp_liftProg (D (F := F)) 𝒱 (d.tc : Thread nD τ) Set.univ none
    (Prog.op (.customCall (Pipeline.entry p) ()) fun x => .ret x) Φ)
  refine BI.Entails.trans ?_ (Pipeline.RegionSeg.wp (pcfgs (F := F)) adm (pdats m) none cellOf_inj EP defs₀ 𝒱₀ (K (F := F)).L (K (F := F)).lev Rg d none
    (fun u hu => by cases hu) (fun x => .ret x) Φ)
  refine sep_mono (show iprop(iprop(boundary (d.tc : Thread nD τ) ∗ Rg.post d) -∗ Φ ⟨⟩)
    ⊢ iprop(iprop(boundary (d.tc : Thread nD τ) ∗ Rg.post d)
        -∗ wp frame (wpE (D (F := F)) 𝒱 (d.tc : Thread nD τ) none) Set.univ (.ret ⟨⟩) Φ) from ?_) .rfl
  iintro Hk Hb
  rw [wp_ret]; imodintro
  iapply Hk; iexact Hb

/-- What a device's TensorCore ends with. -/
abbrev FIN (d : Dev nD) : sProp 𝕄 := StableHlo.held (d : Thread nD τ) (Pipeline.ucRefs τ sig) (W9 m d)

/-- The three buffers of the SparseCore call, out of all the buffers and back. -/
theorem held_call (d : Dev nD) (W : Valuation τ sig (Elt F)) :
    (StableHlo.held (d : Thread nD τ) (Pipeline.ucRefs τ sig) W : sProp 𝕄)
      = iprop((tLoc d ↦{fullShare} W (Proc.devRef .tc main_v38)) ∗ (xLoc d ↦{fullShare} W (Proc.devRef .tc main_v39))
          ∗ (oLoc d ↦{fullShare} W (Proc.devRef .tc main_v41))
          ∗ bigSep ((((Pipeline.ucRefs τ sig).erase (Proc.devRef .tc main_v38)).erase (Proc.devRef .tc main_v39)).erase (Proc.devRef .tc main_v41))
              fun b => (((d, b) : Loc nD τ sig) ↦{fullShare} W b)) := by
  unfold StableHlo.held
  rw [SparseCore.bigSep_erase' (mem_uc main_v38 (by decide))]
  rw [SparseCore.bigSep_erase' (Finset.mem_erase.mpr ⟨fun e => absurd (Proc.devRef_injective _ e) (by decide), mem_uc main_v39 (by decide)⟩),
    SparseCore.bigSep_erase' (Finset.mem_erase.mpr ⟨fun e => absurd (Proc.devRef_injective _ e) (by decide),
      Finset.mem_erase.mpr ⟨fun e => absurd (Proc.devRef_injective _ e) (by decide), mem_uc main_v41 (by decide)⟩⟩)]

theorem held_before (d : Dev nD) : (StableHlo.held (d : Thread nD τ) (Pipeline.ucRefs τ sig) (W5 m d) : sProp 𝕄)
      ⊢ iprop(hold (tC m) (xC m) d fullShare Finset.univ (oC m d)
        ∗ bigSep ((((Pipeline.ucRefs τ sig).erase (Proc.devRef .tc main_v38)).erase (Proc.devRef .tc main_v39)).erase (Proc.devRef .tc main_v41))
              fun b => (((d, b) : Loc nD τ sig) ↦{fullShare} W5 m d b)) := by
  rw [held_call]
  iintro ⟨H1, H2, H3, H⟩
  isplitl [H1 H2 H3]
  · isplitl [H1]; · iexact H1
    isplitl [H2]; · iexact H2
    iexact H3
  iexact H

theorem held_after (d : Dev nD) : iprop(hold (tC m) (xC m) d fullShare Finset.univ (outF (tC m) (xC m) d)
        ∗ bigSep ((((Pipeline.ucRefs τ sig).erase (Proc.devRef .tc main_v38)).erase (Proc.devRef .tc main_v39)).erase (Proc.devRef .tc main_v41))
              fun b => (((d, b) : Loc nD τ sig) ↦{fullShare} W5 m d b))
      ⊢ (StableHlo.held (d : Thread nD τ) (Pipeline.ucRefs τ sig) (W6 m d) : sProp 𝕄) := by
  rw [held_call, W6_of m d main_v38 (by decide), W6_of m d main_v39 (by decide), W6_out]
  rw [show (bigSep ((((Pipeline.ucRefs τ sig).erase (Proc.devRef .tc main_v38)).erase (Proc.devRef .tc main_v39)).erase (Proc.devRef .tc main_v41))
              fun b => (((d, b) : Loc nD τ sig) ↦{fullShare} W6 m d b) : sProp 𝕄)
      = bigSep ((((Pipeline.ucRefs τ sig).erase (Proc.devRef .tc main_v38)).erase (Proc.devRef .tc main_v39)).erase (Proc.devRef .tc main_v41))
              fun b => (((d, b) : Loc nD τ sig) ↦{fullShare} W5 m d b) from
    bigSep_congr fun b hb => by unfold W6; rw [Function.update_of_ne (Finset.ne_of_mem_erase hb)]]
  iintro ⟨⟨H1, H2, H3⟩, H⟩
  isplitl [H1]; · iexact H1
  isplitl [H2]; · iexact H2
  isplitl [H3]; · iexact H3
  iexact H

/-- A stretch of host operations at the head of the rest of the program. -/
theorem host_wp (d : Dev nD) (ops : List (HloOp τ sig (Elt F))) (hsub : ops.Forall fun op => op.bufs ⊆ StableHlo.tcRefs τ sig)
    (hfresh : ops.Forall fun op => op.fresh = ∅) (W : Valuation τ sig (Elt F))
    (k : PUnit → Prog (TpuEff nD τ sig (Elt F) (SparseCore.Sig (ΛP (F := F)) 1) .tc) PUnit) (Φ : PUnit → sProp 𝕄) :
    iprop(boundary (d.tc : Thread nD τ) ∗ StableHlo.held (d.tc : Thread nD τ) (Pipeline.ucRefs τ sig) W)
      ⊢ iprop(((boundary (d.tc : Thread nD τ) ∗ StableHlo.held (d.tc : Thread nD τ) (Pipeline.ucRefs τ sig) (StableHlo.after ops W))
            -∗ wp frame (wpE ((K (F := F)).defs (D (F := F))) 𝒱 (d.tc : Thread nD τ) none) Set.univ (k ⟨⟩) Φ)
          -∗ wp frame (wpE ((K (F := F)).defs (D (F := F))) 𝒱 (d.tc : Thread nD τ) none) Set.univ (StableHlo.seq ops >>= k) Φ) :=
  StableHlo.wp_seq 𝒱 none Set.univ d (Pipeline.ucRefs τ sig) k ops
    (fun op h => Pipeline.sub_ucRefs op ((List.forall_iff_forall_mem.mp hsub) op h))
    (fun op h => (List.forall_iff_forall_mem.mp hfresh) op h) W

set_option maxHeartbeats 1000000 in
/-- @main on device `d`'s TensorCore. -/
theorem hmain [∀ e, Nonempty (Elt F e)] (κ : GSem nD τ sig → ℕ) (d : Dev nD) :
    iprop((K (F := F)).ctx EH (P (tC m) (xC m) (oC m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_chain, show (unscopedBufs d (fun b => m ((SparseCore.T d).loc b)) : sProp 𝕄)
    = StableHlo.held (d : Thread nD τ) (Pipeline.ucRefs τ sig) (W0 m d) from Pipeline.unscopedBufs_held d (W0 m d),
    show (Finset.univ : Finset (Fin 2)) = {0, 1} from rfl, SparseCore.bigSep_insert' (by decide), bigSep_singleton,
    SparseCore.bigSep_insert' (by decide), bigSep_singleton]
  simp only [Pipeline.chain_cons, Pipeline.chain_nil]
  iintro ⟨#Hctx, Hst, ⟨Hb, Hh, Hts, Hp⟩, ⟨Hg0, Hg1⟩, Ht0, Ht1⟩
  ihave #Hlv := (SparseCore.Cfg.ctx_levAts κ) $$ Hctx
  iapply (host_wp d hostOps0 hostOps0_sub hostOps0_fresh (W0 m d) _ _) $$ [Hb Hh]
  · isplitl [Hb] <;> iassumption
  iintro ⟨Hb, Hh⟩
  iapply (host_wp d hostOps0_1 hostOps0_1_sub hostOps0_1_fresh (W1 m d) _ _) $$ [Hb Hh]
  · isplitl [Hb] <;> iassumption
  iintro ⟨Hb, Hh⟩
  iapply (host_wp d hostOps0_2 hostOps0_2_sub hostOps0_2_fresh (W2 m d) _ _) $$ [Hb Hh]
  · isplitl [Hb] <;> iassumption
  iintro ⟨Hb, Hh⟩
  rw [wp_bind]
  unfold SparseCore.Cfg.tcSt
  icases Hst with ⟨HO, Hs⟩
  iapply (region_wp m (reg0 m) d _
    (A := iprop(StableHlo.held (d : Thread nD τ) (Pipeline.ucRefs τ sig) (W3 m d) ∗ R (F := F) 0 d))
    (B := iprop(StableHlo.held (d : Thread nD τ) (Pipeline.ucRefs τ sig) (W4 m d) ∗ R (F := F) 0 d)) rfl rfl)
  isplitr [Hb Hh Hp HO Hg0 Ht0]
  rotate_left
  · isplitl [Hb]; · iexact Hb
    isplitl [Hh Hp HO]
    · isplitl [Hh]; · iexact Hh
      isplitl [Hp]; · iexists _; iexact Hp
      iexact HO
    isplitr; · iexact Hlv
    isplitl [Hg0] <;> iassumption
  iintro ⟨Hb, Hh, Hp, HO⟩
  iapply (host_wp d hostOps1 hostOps1_sub hostOps1_fresh (W4 m d) _ _) $$ [Hb Hh]
  · isplitl [Hb] <;> iassumption
  iintro ⟨Hb, Hh⟩
  rw [wp_bind]
  ihave Hh := (held_before m d) $$ Hh
  icases Hh with ⟨Hh, Hrest⟩
  iapply ((K (F := F)).wp_run (D (F := F)) 𝒱 (EH := EH) (P := P (tC m) (xC m) (oC m)) κ d 0)
  isplitr; · iexact Hctx
  isplitl [HO Hs]
  · unfold SparseCore.Cfg.tcSt
    isplitl [HO]; · iexact HO
    iexact Hs
  isplitl [Hh]
  · rw [st0_eq]; iexact Hh
  iintro ⟨Hst, Hdn⟩
  ihave Hdn := (Entails.of_eq (dn0_eq (tC m) (xC m) (oC m) d)) $$ Hdn
  ihave Hh := (held_after m d) $$ [Hdn Hrest]
  · isplitl [Hdn] <;> iassumption
  iapply (host_wp d hostOps2 hostOps2_sub hostOps2_fresh (W6 m d) _ _) $$ [Hb Hh]
  · isplitl [Hb] <;> iassumption
  iintro ⟨Hb, Hh⟩
  rw [wp_bind]
  unfold SparseCore.Cfg.tcSt
  icases Hst with ⟨HO, Hs⟩
  iapply (region_wp m (reg1 m) d _
    (A := iprop(StableHlo.held (d : Thread nD τ) (Pipeline.ucRefs τ sig) (W7 m d) ∗ R (F := F) 1 d))
    (B := iprop(StableHlo.held (d : Thread nD τ) (Pipeline.ucRefs τ sig) (W8 m d) ∗ R (F := F) 1 d)) rfl rfl)
  isplitr [Hb Hh Hp HO Hg1 Ht1]
  rotate_left
  · isplitl [Hb]; · iexact Hb
    isplitl [Hh Hp HO]
    · isplitl [Hh]; · iexact Hh
      isplitl [Hp]; · iexact Hp
      iexact HO
    isplitr; · iexact Hlv
    isplitl [Hg1] <;> iassumption
  iintro ⟨Hb, Hh, Hp, HO⟩
  iapply (host_wp d hostOps3 hostOps3_sub hostOps3_fresh (W8 m d) _ _) $$ [Hb Hh]
  · isplitl [Hb] <;> iassumption
  iintro ⟨Hb, Hh⟩
  rw [wp_pure]
  imodintro
  isplitl [HO Hs]
  · isplitl [HO]; · iexact HO
    iexact Hs
  isplitl [Hh]; · iexact Hh
  isplitl [Hb] <;> iassumption

/-! ## The launch -/

def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (tC m) (xC m) (oC m)).x q thr) := by
  unfold u₀ G
  rw [bigSep_sep']
  iintro Hu
  ihave H := (ownU_pair (initOf (K (F := F)).hsCells (K (F := F)).hsToks)
    (initOf (Pipeline.cells cfgs cellOf_inj) (Pipeline.launchToks cfgs cellOf_inj), (1 : Counters))) $$ Hu
  icases H with ⟨HH, HP⟩
  ihave HP := (own_pair_emb embR (initOf (Pipeline.cells cfgs cellOf_inj) (Pipeline.launchToks cfgs cellOf_inj)) (1 : Counters)) $$ HP
  icases HP with ⟨HP, -⟩
  imod (Pipeline.fund_ghost cfgs (EP (F := F)) cellOf_inj) $$ HP with ⟨H1, H2⟩
  imodintro
  isplitl [HH]; · iexact HH
  isplitl [H1 H2]
  · isplitl [H1]; · iexact H1
    iexact H2
  rw [show (bigSep Finset.univ fun thr : Thread nD τ => bigSep Finset.univ fun q : Fin 1 => (P (F := F) (tC m) (xC m) (oC m)).x q thr) = bigSep Finset.univ fun _ => iprop(emp) from
    bigSep_congr fun _ _ => bigSep_univ_of_subsingleton (0 : Fin 1), bigSep_emp']
  iempintro

/-- What a run leaves in a device's memory: every buffer at its last contents. -/
def fq (d : Dev nD) (s' : Phys nD τ sig (Elt F)) : Prop := ∀ b ∈ Pipeline.ucRefs τ sig, s'.mem.mem (d, b) = W9 m d b

theorem hfin (d : Dev nD) (s' : Phys nD τ sig (Elt F)) : iprop(FIN m d ∗ SI s') ⊢ (⌜fq m d s'⌝ : sProp 𝕄) := by
  unfold FIN StableHlo.held
  exact (pointsTo_read_all (Pipeline.ucRefs τ sig) (fun b => (d, b)) (W9 m d) s').trans sep_elim_left

/-- A run from any memory ends with every buffer at its last contents and every counter at zero, the indices of the
    SparseCore call being rows of its table. -/
def QC : PUnit × MemSt nD τ sig (Elt F) → Prop := fun r =>
  (∀ c : Dev nD, ∀ b ∈ Pipeline.ucRefs τ sig, r.2.mem (c, b) = W9 m c b) ∧ r.2.sem = fun _ => 0

theorem run_main [∀ e, Nonempty (Elt F e)] (hpre : PreOK (xC m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tC m) (xC m) (oC m)) (A := ∅) facts v₀
    (fun q hq => match q with | 0 => nomatch hq)
    (fun q _ => match q with | 0 => tileObl (tC m) (xC m) (oC m) facts hpre)
    (fun q _ => match q with | 0 => SparseCore.Cfg.VecSplit.of_plain (vecSplit (tC m) (xC m) (oC m)))
    m ρ main (fun d => G (F := F) d) (FIN m) (u₀ (F := F)) (sep_elim_left.trans (hu₀ m)) (hmain m ρ) (fq m) (hfin m) (QC m) (fun _ h hz => ⟨h, hz⟩)

end Cert.Own
-- ==== Proof.Same.lean ====
/-
  The kernel read over bits and the kernel read over the reals have one text: their tables of bodies are equal.
-/
module

public import proofs.«01_k».proof.Proof.Gen.Kernel
public import proofs.«01_k».proof.Proof.Gen.KernelIdeal

@[expose] public section
set_option maxRecDepth 100000
set_option maxHeartbeats 20000000

namespace Cert.Own
open Idealize.ShloMosaic Idealize.ShloMosaic.TcCoe

variable {F : FTy → Type} [FloatOps F]

/-- The two tables of kernel bodies, one processor and one label at a time. -/
theorem bodies_same : Cert.Kernel.defs₀ (F := F) = Cert.KernelIdeal.defs₀ (F := F) := by
  funext p ℓ a
  rcases p with _ | _ | _ <;> rcases ℓ with ⟨_ | _ | _ | _, h⟩ <;> first | rfl | exact absurd h (by omega)

/-- And the tables with the pipelines and the SparseCore's dispatch beside them. -/
theorem defs_same : Cert.Kernel.defs (F := F) = Cert.KernelIdeal.defs (F := F) :=
  congrArg (fun d => Cert.KernelIdeal.sc.defs (Pipeline.defs Cert.KernelIdeal.pcfgs d)) bodies_same

end Cert.Own
-- ==== Proof.Blocks2.lean ====
/-
  What the last pallas_call leaves in its two arrays, entry by entry: block `t` of each holds what point `t` writes; and the blocks point `t` reads.
-/
module

public import proofs.«01_k».proof.Proof.Fold
public import Idealize.ShloMosaic.Lib.Pipeline.ValueKit.Geometry

@[expose] public section
set_option maxRecDepth 100000

noncomputable section

namespace Cert.Own

open Cert.KernelIdeal Cert.KernelIdeal.Gen
open Idealize Idealize.ShloMosaic Idealize.ShloMosaic.TcCoe
open Idealize.ShloMosaic.Pipeline Idealize.ShloMosaic.ValueIdx

variable {F : FTy → Type} [FloatOps F]
variable (V : (c : Dev nD) → (b : Ref sig .tc) → Buf (Elt F) ((c : Thread nD τ).loc b))
variable (O : Dev nD → CellTallies nD τ sig (SparseCore.Cfg.HIx 1)) (B : Dev nD → Set (SemLoc sig × SparseCore.Cfg.HIx 1))

/-- The grid point of number `n`, and the number of a point. -/
def pt2 (n : Fin 16) : Fin cfg2.N := ⟨n.val, by decide +revert +kernel⟩
theorem lt16' (t : Fin cfg2.N) : t.val < 16 := lt_of_lt_of_eq t.isLt (by decide +kernel)
def num2 (t : Fin cfg2.N) : Fin 16 := ⟨t.val, lt16' t⟩
theorem pt2_num (t : Fin cfg2.N) : pt2 (num2 t) = t := rfl

theorem at2_0 : ∀ t : Fin cfg2.N, win2_0.index t = ![t.val, 0, 0] := (by decide +kernel : ∀ t : Fin grid2.N, win2_0.index t = ![t.val, 0, 0])
theorem at2_1 : ∀ t : Fin cfg2.N, win2_1.index t = ![t.val, 0, 0] := (by decide +kernel : ∀ t : Fin grid2.N, win2_1.index t = ![t.val, 0, 0])
theorem at2_2 : ∀ t : Fin cfg2.N, win2_2.index t = ![t.val, 0, 0] := (by decide +kernel : ∀ t : Fin grid2.N, win2_2.index t = ![t.val, 0, 0])
theorem at2_3 : ∀ t : Fin cfg2.N, win2_3.index t = ![t.val, 0, 0] := (by decide +kernel : ∀ t : Fin grid2.N, win2_3.index t = ![t.val, 0, 0])
theorem at2_4 : ∀ t : Fin cfg2.N, win2_4.index t = ![t.val, 0, 0] := (by decide +kernel : ∀ t : Fin grid2.N, win2_4.index t = ![t.val, 0, 0])
theorem at2_21 : ∀ t : Fin cfg2.N, win2_21.index t = ![t.val, 0, 0] := (by decide +kernel : ∀ t : Fin grid2.N, win2_21.index t = ![t.val, 0, 0])
theorem at2_22 : ∀ t : Fin cfg2.N, win2_22.index t = ![t.val, 0, 0] := (by decide +kernel : ∀ t : Fin grid2.N, win2_22.index t = ![t.val, 0, 0])
theorem at2_5 : ∀ t : Fin cfg2.N, win2_5.index t = ![0, 0] := (by decide +kernel : ∀ t : Fin grid2.N, win2_5.index t = ![0, 0])
theorem at2_6 : ∀ t : Fin cfg2.N, win2_6.index t = ![0, 0] := (by decide +kernel : ∀ t : Fin grid2.N, win2_6.index t = ![0, 0])
theorem at2_7 : ∀ t : Fin cfg2.N, win2_7.index t = ![0, 0] := (by decide +kernel : ∀ t : Fin grid2.N, win2_7.index t = ![0, 0])
theorem at2_8 : ∀ t : Fin cfg2.N, win2_8.index t = ![0, 0] := (by decide +kernel : ∀ t : Fin grid2.N, win2_8.index t = ![0, 0])
theorem at2_9 : ∀ t : Fin cfg2.N, win2_9.index t = ![0, 0] := (by decide +kernel : ∀ t : Fin grid2.N, win2_9.index t = ![0, 0])
theorem at2_10 : ∀ t : Fin cfg2.N, win2_10.index t = ![0, 0] := (by decide +kernel : ∀ t : Fin grid2.N, win2_10.index t = ![0, 0])
theorem at2_11 : ∀ t : Fin cfg2.N, win2_11.index t = ![0, 0] := (by decide +kernel : ∀ t : Fin grid2.N, win2_11.index t = ![0, 0])
theorem at2_12 : ∀ t : Fin cfg2.N, win2_12.index t = ![0, 0] := (by decide +kernel : ∀ t : Fin grid2.N, win2_12.index t = ![0, 0])
theorem at2_13 : ∀ t : Fin cfg2.N, win2_13.index t = ![0, 0] := (by decide +kernel : ∀ t : Fin grid2.N, win2_13.index t = ![0, 0])
theorem at2_14 : ∀ t : Fin cfg2.N, win2_14.index t = ![0, 0] := (by decide +kernel : ∀ t : Fin grid2.N, win2_14.index t = ![0, 0])
theorem at2_15 : ∀ t : Fin cfg2.N, win2_15.index t = ![0, 0] := (by decide +kernel : ∀ t : Fin grid2.N, win2_15.index t = ![0, 0])
theorem at2_16 : ∀ t : Fin cfg2.N, win2_16.index t = ![0, 0] := (by decide +kernel : ∀ t : Fin grid2.N, win2_16.index t = ![0, 0])
theorem at2_17 : ∀ t : Fin cfg2.N, win2_17.index t = ![0, 0] := (by decide +kernel : ∀ t : Fin grid2.N, win2_17.index t = ![0, 0])
theorem at2_18 : ∀ t : Fin cfg2.N, win2_18.index t = ![0, 0] := (by decide +kernel : ∀ t : Fin grid2.N, win2_18.index t = ![0, 0])
theorem at2_19 : ∀ t : Fin cfg2.N, win2_19.index t = ![0, 0] := (by decide +kernel : ∀ t : Fin grid2.N, win2_19.index t = ![0, 0])
theorem at2_20 : ∀ t : Fin cfg2.N, win2_20.index t = ![0, 0] := (by decide +kernel : ∀ t : Fin grid2.N, win2_20.index t = ![0, 0])

theorem emb2_0 (t : Fin cfg2.N) (y : S1x8192x128.Idx) : ((cfg2.win 0).blk t).view.emb y = ix3 (num2 t) (y 1) (y 2) := by
  blk_ext [at2_0, num2]
theorem emb2_1 (t : Fin cfg2.N) (y : S1x8192x1.Idx) : ((cfg2.win 1).blk t).view.emb y = ix3 (num2 t) (y 1) (y 2) := by
  blk_ext [at2_1, num2]
theorem emb2_2 (t : Fin cfg2.N) (y : S1x256x128.Idx) : ((cfg2.win 2).blk t).view.emb y = ix3 (num2 t) (y 1) (y 2) := by
  blk_ext [at2_2, num2]
theorem emb2_3 (t : Fin cfg2.N) (y : S1x256x64.Idx) : ((cfg2.win 3).blk t).view.emb y = ix3 (num2 t) (y 1) (y 2) := by
  blk_ext [at2_3, num2]
theorem emb2_4 (t : Fin cfg2.N) (y : S1x256x3.Idx) : ((cfg2.win 4).blk t).view.emb y = ix3 (num2 t) (y 1) (y 2) := by
  blk_ext [at2_4, num2]
theorem emb2_21 (t : Fin cfg2.N) (y : S1x256x64.Idx) : ((cfg2.win 21).blk t).view.emb y = ix3 (num2 t) (y 1) (y 2) := by
  blk_ext [at2_21, num2]
theorem emb2_22 (t : Fin cfg2.N) (y : S1x256x3.Idx) : ((cfg2.win 22).blk t).view.emb y = ix3 (num2 t) (y 1) (y 2) := by
  blk_ext [at2_22, num2]
theorem emb2_5 (t : Fin cfg2.N) (y : S256x8192.Idx) : ((cfg2.win 5).blk t).view.emb y = y := by
  blk_ext [at2_5]
theorem emb2_6 (t : Fin cfg2.N) (y : S64x258.Idx) : ((cfg2.win 6).blk t).view.emb y = y := by
  blk_ext [at2_6]
theorem emb2_7 (t : Fin cfg2.N) (y : S64x258.Idx) : ((cfg2.win 7).blk t).view.emb y = y := by
  blk_ext [at2_7]
theorem emb2_8 (t : Fin cfg2.N) (y : S1x258.Idx) : ((cfg2.win 8).blk t).view.emb y = y := by
  blk_ext [at2_8]
theorem emb2_9 (t : Fin cfg2.N) (y : S1x258.Idx) : ((cfg2.win 9).blk t).view.emb y = y := by
  blk_ext [at2_9]
theorem emb2_10 (t : Fin cfg2.N) (y : S258x16.Idx) : ((cfg2.win 10).blk t).view.emb y = y := by
  blk_ext [at2_10]
theorem emb2_11 (t : Fin cfg2.N) (y : S1x16.Idx) : ((cfg2.win 11).blk t).view.emb y = y := by
  blk_ext [at2_11]
theorem emb2_12 (t : Fin cfg2.N) (y : S64x128.Idx) : ((cfg2.win 12).blk t).view.emb y = y := by
  blk_ext [at2_12]
theorem emb2_13 (t : Fin cfg2.N) (y : S16x128.Idx) : ((cfg2.win 13).blk t).view.emb y = y := by
  blk_ext [at2_13]
theorem emb2_14 (t : Fin cfg2.N) (y : S1x128.Idx) : ((cfg2.win 14).blk t).view.emb y = y := by
  blk_ext [at2_14]
theorem emb2_15 (t : Fin cfg2.N) (y : S128x64.Idx) : ((cfg2.win 15).blk t).view.emb y = y := by
  blk_ext [at2_15]
theorem emb2_16 (t : Fin cfg2.N) (y : S1x64.Idx) : ((cfg2.win 16).blk t).view.emb y = y := by
  blk_ext [at2_16]
theorem emb2_17 (t : Fin cfg2.N) (y : S16x128.Idx) : ((cfg2.win 17).blk t).view.emb y = y := by
  blk_ext [at2_17]
theorem emb2_18 (t : Fin cfg2.N) (y : S1x128.Idx) : ((cfg2.win 18).blk t).view.emb y = y := by
  blk_ext [at2_18]
theorem emb2_19 (t : Fin cfg2.N) (y : S128x2.Idx) : ((cfg2.win 19).blk t).view.emb y = y := by
  blk_ext [at2_19]
theorem emb2_20 (t : Fin cfg2.N) (y : S1x2.Idx) : ((cfg2.win 20).blk t).view.emb y = y := by
  blk_ext [at2_20]

theorem blk2_0 (c : Dev nD) (t : Fin cfg2.N) : iblk2 V c 0 t = fun y : S1x8192x128.Idx => V c main_v42 (ix3 (num2 t) (y 1) (y 2)) := by
  funext y
  exact congrArg (V c main_v42) (emb2_0 t y)
theorem blk2_1 (c : Dev nD) (t : Fin cfg2.N) : iblk2 V c 1 t = fun y : S1x8192x1.Idx => V c main_v40 (ix3 (num2 t) (y 1) (y 2)) := by
  funext y
  exact congrArg (V c main_v40) (emb2_1 t y)
theorem blk2_2 (c : Dev nD) (t : Fin cfg2.N) : iblk2 V c 2 t = fun y : S1x256x128.Idx => V c main_v37_0 (ix3 (num2 t) (y 1) (y 2)) := by
  funext y
  exact congrArg (V c main_v37_0) (emb2_2 t y)
theorem blk2_3 (c : Dev nD) (t : Fin cfg2.N) : iblk2 V c 3 t = fun y : S1x256x64.Idx => V c main_v43 (ix3 (num2 t) (y 1) (y 2)) := by
  funext y
  exact congrArg (V c main_v43) (emb2_3 t y)
theorem blk2_4 (c : Dev nD) (t : Fin cfg2.N) : iblk2 V c 4 t = fun y : S1x256x3.Idx => V c main_v44 (ix3 (num2 t) (y 1) (y 2)) := by
  funext y
  exact congrArg (V c main_v44) (emb2_4 t y)
theorem blk2_5 (c : Dev nD) (t : Fin cfg2.N) : iblk2 V c 5 t = fun y : S256x8192.Idx => V c main_v9 y := by
  funext y
  exact congrArg (V c main_v9) (emb2_5 t y)
theorem blk2_6 (c : Dev nD) (t : Fin cfg2.N) : iblk2 V c 6 t = fun y : S64x258.Idx => V c main_v11 y := by
  funext y
  exact congrArg (V c main_v11) (emb2_6 t y)
theorem blk2_7 (c : Dev nD) (t : Fin cfg2.N) : iblk2 V c 7 t = fun y : S64x258.Idx => V c main_v13 y := by
  funext y
  exact congrArg (V c main_v13) (emb2_7 t y)
theorem blk2_8 (c : Dev nD) (t : Fin cfg2.N) : iblk2 V c 8 t = fun y : S1x258.Idx => V c main_v15 y := by
  funext y
  exact congrArg (V c main_v15) (emb2_8 t y)
theorem blk2_9 (c : Dev nD) (t : Fin cfg2.N) : iblk2 V c 9 t = fun y : S1x258.Idx => V c main_v16 y := by
  funext y
  exact congrArg (V c main_v16) (emb2_9 t y)
theorem blk2_10 (c : Dev nD) (t : Fin cfg2.N) : iblk2 V c 10 t = fun y : S258x16.Idx => V c main_v17 y := by
  funext y
  exact congrArg (V c main_v17) (emb2_10 t y)
theorem blk2_11 (c : Dev nD) (t : Fin cfg2.N) : iblk2 V c 11 t = fun y : S1x16.Idx => V c main_v18 y := by
  funext y
  exact congrArg (V c main_v18) (emb2_11 t y)
theorem blk2_12 (c : Dev nD) (t : Fin cfg2.N) : iblk2 V c 12 t = fun y : S64x128.Idx => V c main_v20 y := by
  funext y
  exact congrArg (V c main_v20) (emb2_12 t y)
theorem blk2_13 (c : Dev nD) (t : Fin cfg2.N) : iblk2 V c 13 t = fun y : S16x128.Idx => V c main_v22 y := by
  funext y
  exact congrArg (V c main_v22) (emb2_13 t y)
theorem blk2_14 (c : Dev nD) (t : Fin cfg2.N) : iblk2 V c 14 t = fun y : S1x128.Idx => V c main_v23 y := by
  funext y
  exact congrArg (V c main_v23) (emb2_14 t y)
theorem blk2_15 (c : Dev nD) (t : Fin cfg2.N) : iblk2 V c 15 t = fun y : S128x64.Idx => V c main_v24 y := by
  funext y
  exact congrArg (V c main_v24) (emb2_15 t y)
theorem blk2_16 (c : Dev nD) (t : Fin cfg2.N) : iblk2 V c 16 t = fun y : S1x64.Idx => V c main_v25 y := by
  funext y
  exact congrArg (V c main_v25) (emb2_16 t y)
theorem blk2_17 (c : Dev nD) (t : Fin cfg2.N) : iblk2 V c 17 t = fun y : S16x128.Idx => V c main_v27 y := by
  funext y
  exact congrArg (V c main_v27) (emb2_17 t y)
theorem blk2_18 (c : Dev nD) (t : Fin cfg2.N) : iblk2 V c 18 t = fun y : S1x128.Idx => V c main_v29 y := by
  funext y
  exact congrArg (V c main_v29) (emb2_18 t y)
theorem blk2_19 (c : Dev nD) (t : Fin cfg2.N) : iblk2 V c 19 t = fun y : S128x2.Idx => V c main_v34 y := by
  funext y
  exact congrArg (V c main_v34) (emb2_19 t y)
theorem blk2_20 (c : Dev nD) (t : Fin cfg2.N) : iblk2 V c 20 t = fun y : S1x2.Idx => V c main_v36 y := by
  funext y
  exact congrArg (V c main_v36) (emb2_20 t y)

/-- What point `t` writes there. -/
def wrote21 (c : Dev nD) (t : Fin cfg2.N) := out2_21 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t)

theorem wrote21_eq (c : Dev nD) (t : Fin cfg2.N) : wrote21 V c t = out2_21 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) := rfl

theorem arr2_21 (c : Dev nD) : (dat2 V O B c).arrAt 21 cfg2.N = fun i : S16x256x64.Idx => wrote21 V c (pt2 (i 0)) (ix3 0 (i 1) (i 2)) := by
  refine (dat2 V O B c).arrAt_eq_of_covers 21 _ (by decide +kernel) fun t hf y => ?_
  refine ((congrFun (after2_21 V O B c t) y).trans (congrFun (wrote21_eq V c t) y).symm).trans ?_
  rw [emb2_21]
  obtain ⟨y0, y1, y2, rfl⟩ : ∃ a b d, y = ix3 a b d := ⟨y 0, y 1, y 2, by funext a; fin_cases a <;> rfl⟩
  obtain rfl : y0 = 0 := Subsingleton.elim _ _
  rfl

/-- What point `t` writes there. -/
def wrote22 (c : Dev nD) (t : Fin cfg2.N) := out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t)

theorem wrote22_eq (c : Dev nD) (t : Fin cfg2.N) : wrote22 V c t = out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) := rfl

theorem arr2_22 (c : Dev nD) : (dat2 V O B c).arrAt 22 cfg2.N = fun i : S16x256x3.Idx => wrote22 V c (pt2 (i 0)) (ix3 0 (i 1) (i 2)) := by
  refine (dat2 V O B c).arrAt_eq_of_covers 22 _ (by decide +kernel) fun t hf y => ?_
  refine ((congrFun (after2_22 V O B c t) y).trans (congrFun (wrote22_eq V c t) y).symm).trans ?_
  rw [emb2_22]
  obtain ⟨y0, y1, y2, rfl⟩ : ∃ a b d, y = ix3 a b d := ⟨y 0, y 1, y 2, by funext a; fin_cases a <;> rfl⟩
  obtain rfl : y0 = 0 := Subsingleton.elim _ _
  rfl

end Cert.Own
-- ==== Proof.Rounds.lean ====
/-
  The first pallas_call's block, in words: 32 rounds over the 1024 x 256 table of squared distances, each of which takes, in every column, the least distance
  among the rows not yet taken and the first row where it stands. What the block writes is stated here through the recursion `free` over the rounds, and the run's
  pieces are shown to be exactly that.
-/
module

public import proofs.«01_k».proof.Proof.Region0
public import Idealize.ShloMosaic.Lib.VecWindow

@[expose] public section
set_option maxRecDepth 100000

namespace Cert.Own

open Cert.KernelIdeal Cert.KernelIdeal.Gen
open Idealize Idealize.ShloMosaic Idealize.ShloMosaic.TcCoe

variable {F : FTy → Type} [FloatOps F]

/-- The least distance per column among the rows whose entry of `fr` is still a row number. -/
noncomputable def least (D : FVec F S1024x256 .f32) (fr : IVec S1024x256 32) : FVec F S1x256 .f32 :=
  shapeCast S1x256 (multiReduction .minimumf [0] S256 (select (cmpi .slt fr (broadcast S1024x256 1024#32)) D
    (broadcast S1024x256 (Scalar.ofBits .f32 0x7F800000#32 : F .f32))) 0x7F800000#32 reduces_S1024x256_S256 (.inl rfl) rfl) shapeCasts_S256_S1x256

/-- The first row per column, of those not taken, whose distance is that least one. -/
noncomputable def pick (D : FVec F S1024x256 .f32) (fr : IVec S1024x256 32) : IVec S1x256 32 :=
  shapeCast S1x256 (multiReductionI .minsi [0] S256 (select (cmpf .oeq D (broadcastTo S1024x256 (least D fr) broadcasts_S1x256_S1024x256)) fr
    (broadcast S1024x256 1024#32)) 2147483647#32 reduces_S1024x256_S256 rfl) shapeCasts_S256_S1x256

/-- The rows left after a round: the one just picked is marked by 1024. -/
noncomputable def left (D : FVec F S1024x256 .f32) (fr : IVec S1024x256 32) : IVec S1024x256 32 :=
  select (cmpi .eq fr (broadcastTo S1024x256 (pick D fr) broadcasts_S1x256_S1024x256)) (broadcast S1024x256 1024#32) fr

/-- The rows left before round `n`. -/
noncomputable def free (D : FVec F S1024x256 .f32) : ℕ → IVec S1024x256 32
  | 0 => iota .tc S1024x256 32 [0] iota_S1024x256_d0_w32
  | n + 1 => left D (free D n)

/-- Thirty-two rows one below another fill a 32 x 256 table. -/
theorem rows_fill {α : Type} (f : Fin 32 → S1x256.Idx → α) :
    Shape.Concatenates ((List.ofFn fun k : Fin 32 => (⟨S1x256, f k⟩ : (s : Shape) × (s.Idx → α))).map (·.1)) S32x256 0 := by
  have h : (List.ofFn fun k : Fin 32 => (⟨S1x256, f k⟩ : (s : Shape) × (s.Idx → α))).map (·.1) = List.replicate 32 S1x256 := by
    rw [List.map_ofFn]; exact List.ofFn_const 32 S1x256
  rw [h]; decide +kernel

/-- The table of row numbers the block writes. -/
noncomputable def rowsJ (D : FVec F S1024x256 .f32) (p : BitVec 32) : IVec S1x32x256 32 :=
  shapeCast S1x32x256 (addi (andi (concatenate S32x256 0 (List.ofFn fun k : Fin 32 => (⟨S1x256, pick D (free D k)⟩ : (s : Shape) × (s.Idx → BitVec 32)))
    (rows_fill fun k => pick D (free D k))) (broadcast S32x256 1023#32)) (broadcast S32x256 (Scalar.muli p 1024#32))) shapeCasts_S32x256_S1x32x256

/-- The table of distances the block writes. -/
noncomputable def rowsM (D : FVec F S1024x256 .f32) : FVec F S1x32x256 .f32 :=
  shapeCast S1x32x256 (concatenate S32x256 0 (List.ofFn fun k : Fin 32 => (⟨S1x256, least D (free D k)⟩ : (s : Shape) × (s.Idx → F .f32)))
    (rows_fill fun k => least D (free D k))) shapeCasts_S32x256_S1x32x256

/-- The block's table of squared distances, from its points and its columns' points. -/
noncomputable def tableD (i : grid0.Coords) (x1 : Vec F S1x1024x3 .f32) (x2 : Vec F S1x3x1024 .f32) : FVec F S1024x256 .f32 :=
  k0_pay5 x1 (VecWindow.window x2 (k0_off3 i) S1x1x256.size (k0_off3_inb i)) (VecWindow.window x2 (k0_off4 i) S1x1x256.size (k0_off4_inb i))
    (VecWindow.window x2 (k0_off5 i) S1x1x256.size (k0_off5_inb i))

/-- The block's table of augmented rows. -/
noncomputable def rowsA (i : grid0.Coords) (x0 : Vec F S1x1024x64 .f32) (x1 : Vec F S1x1024x3 .f32) : FVec F S1x256x128 .f32 :=
  k0_pay1 (k0_pay3 (VecWindow.window x0 (k0_off1 i) S1x256x64.size (k0_off1_inb i))) (k0_pay4 (VecWindow.window x1 (k0_off2 i) S1x256x3.size (k0_off2_inb i)))
    (k0_pay113 (k0_pay2 x1))

theorem run_pieces5 (c : Dev nD) (i : grid0.Coords) (arg2 : Memref sig .tc .vmem S1x1024x64 .f32) (harg2 : arg2.IsWhole) (arg3 : Memref sig .tc .vmem S1x1024x3 .f32) (harg3 : arg3.IsWhole)
    (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole)
    (arg7 : Memref sig .tc .vmem S1x32x256 .f32) (harg7 : arg7.IsWhole) (x0 : Vec F S1x1024x64 .f32) (x1 : Vec F S1x1024x3 .f32) (x2 : Vec F S1x3x1024 .f32) :
    (kernelRun0_A c i arg2 harg2 arg3 harg3 arg4 harg4 arg5 harg5 arg6 harg6 arg7 harg7 x0 x1 x2).2.2.1 =
      [⟨Rect.unit ![0, 0, 0] S1x32x256.size inb_S1x32x256_S1x32x256_0_0_0, rowsM (kernelRun0_A.sl.r_3 c i arg3 harg3 arg4 harg4 x1 x2)⟩] := by
  sl_kernel_rfl

theorem run_pieces4 (c : Dev nD) (i : grid0.Coords) (arg2 : Memref sig .tc .vmem S1x1024x64 .f32) (harg2 : arg2.IsWhole) (arg3 : Memref sig .tc .vmem S1x1024x3 .f32) (harg3 : arg3.IsWhole)
    (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole)
    (arg7 : Memref sig .tc .vmem S1x32x256 .f32) (harg7 : arg7.IsWhole) (x0 : Vec F S1x1024x64 .f32) (x1 : Vec F S1x1024x3 .f32) (x2 : Vec F S1x3x1024 .f32) :
    (kernelRun0_A c i arg2 harg2 arg3 harg3 arg4 harg4 arg5 harg5 arg6 harg6 arg7 harg7 x0 x1 x2).2.1 =
      [⟨Rect.unit ![0, 0, 0] S1x32x256.size inb_S1x32x256_S1x32x256_0_0_0, rowsJ (kernelRun0_A.sl.r_3 c i arg3 harg3 arg4 harg4 x1 x2) (BitVec.ofNat 32 (i 0).val)⟩] := by
  sl_kernel_rfl

theorem run_table (c : Dev nD) (i : grid0.Coords) (arg2 : Memref sig .tc .vmem S1x1024x64 .f32) (harg2 : arg2.IsWhole) (arg3 : Memref sig .tc .vmem S1x1024x3 .f32) (harg3 : arg3.IsWhole)
    (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole)
    (arg7 : Memref sig .tc .vmem S1x32x256 .f32) (harg7 : arg7.IsWhole) (x0 : Vec F S1x1024x64 .f32) (x1 : Vec F S1x1024x3 .f32) (x2 : Vec F S1x3x1024 .f32) :
    kernelRun0_A.sl.r_3 c i arg3 harg3 arg4 harg4 x1 x2 = tableD i x1 x2 := by
  unfold kernelRun0_A.sl.r_3 tableD
  rw [View.readAt_full, harg3.read_unread, View.readAt_unit _ _ _ rfl (k0_off3_inb i), View.readAt_unit _ _ _ rfl (k0_off4_inb i), View.readAt_unit _ _ _ rfl (k0_off5_inb i), harg4.read_unread]

theorem out3_eq (c : Dev nD) (i : grid0.Coords) (arg2 : Memref sig .tc .vmem S1x1024x64 .f32) (harg2 : arg2.IsWhole) (arg3 : Memref sig .tc .vmem S1x1024x3 .f32) (harg3 : arg3.IsWhole)
    (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole)
    (arg7 : Memref sig .tc .vmem S1x32x256 .f32) (harg7 : arg7.IsWhole) (x0 : Vec F S1x1024x64 .f32) (x1 : Vec F S1x1024x3 .f32) (x2 : Vec F S1x3x1024 .f32) :
    out0_A_3 c i arg2 harg2 arg3 harg3 arg4 harg4 arg5 harg5 arg6 harg6 arg7 harg7 x0 x1 x2 = rowsA i x0 x1 := by
  unfold out0_A_3
  refine (View.read_writes_full _ _ _ _ []).trans ?_
  show k0_pay1 (kernelRun0_A.sl.r_1 c i arg2 harg2 x0) (kernelRun0_A.sl.r_2 c i arg3 harg3 x1) (kernelRun0_A.sl.r_85 c arg3 harg3 x1) = _
  unfold rowsA kernelRun0_A.sl.r_1 kernelRun0_A.sl.r_2 kernelRun0_A.sl.r_85 kernelRun0_A.sl.r
  rw [View.readAt_unit _ _ _ rfl (k0_off1_inb i), View.readAt_unit _ _ _ rfl (k0_off2_inb i), View.readAt_full, harg3.read_unread, harg2.read_unread]

theorem out4_eq (c : Dev nD) (i : grid0.Coords) (arg2 : Memref sig .tc .vmem S1x1024x64 .f32) (harg2 : arg2.IsWhole) (arg3 : Memref sig .tc .vmem S1x1024x3 .f32) (harg3 : arg3.IsWhole)
    (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole)
    (arg7 : Memref sig .tc .vmem S1x32x256 .f32) (harg7 : arg7.IsWhole) (x0 : Vec F S1x1024x64 .f32) (x1 : Vec F S1x1024x3 .f32) (x2 : Vec F S1x3x1024 .f32) :
    out0_A_4 c i arg2 harg2 arg3 harg3 arg4 harg4 arg5 harg5 arg6 harg6 arg7 harg7 x0 x1 x2 = rowsJ (tableD i x1 x2) (BitVec.ofNat 32 (i 0).val) := by
  unfold out0_A_4
  rw [run_pieces4, View.read_writes_full, run_table c i arg2 harg2 arg3 harg3 arg4 harg4 arg5 harg5 arg6 harg6 arg7 harg7 x0 x1 x2]

theorem out5_eq (c : Dev nD) (i : grid0.Coords) (arg2 : Memref sig .tc .vmem S1x1024x64 .f32) (harg2 : arg2.IsWhole) (arg3 : Memref sig .tc .vmem S1x1024x3 .f32) (harg3 : arg3.IsWhole)
    (arg4 : Memref sig .tc .vmem S1x3x1024 .f32) (harg4 : arg4.IsWhole) (arg5 : Memref sig .tc .vmem S1x256x128 .f32) (harg5 : arg5.IsWhole) (arg6 : Memref sig .tc .vmem S1x32x256 .i32) (harg6 : arg6.IsWhole)
    (arg7 : Memref sig .tc .vmem S1x32x256 .f32) (harg7 : arg7.IsWhole) (x0 : Vec F S1x1024x64 .f32) (x1 : Vec F S1x1024x3 .f32) (x2 : Vec F S1x3x1024 .f32) :
    out0_A_5 c i arg2 harg2 arg3 harg3 arg4 harg4 arg5 harg5 arg6 harg6 arg7 harg7 x0 x1 x2 = rowsM (tableD i x1 x2) := by
  unfold out0_A_5
  rw [run_pieces5, View.read_writes_full, run_table c i arg2 harg2 arg3 harg3 arg4 harg4 arg5 harg5 arg6 harg6 arg7 harg7 x0 x1 x2]

end Cert.Own
-- ==== Proof.Blocks0.lean ====
/-
  What the first pallas_call leaves in its three arrays, entry by entry: block `t` of each holds what point `t` writes.
-/
module

public import proofs.«01_k».proof.Proof.Rounds
public import proofs.«01_k».proof.Proof.Fold
public import Idealize.ShloMosaic.Lib.Pipeline.ValueKit.Geometry

@[expose] public section
set_option maxRecDepth 100000

namespace Cert.Own

open Cert.KernelIdeal Cert.KernelIdeal.Gen
open Idealize Idealize.ShloMosaic Idealize.ShloMosaic.TcCoe
open Idealize.ShloMosaic.Pipeline Idealize.ShloMosaic.ValueIdx

variable {F : FTy → Type} [FloatOps F]
variable (V : (c : Dev nD) → (b : Ref sig .tc) → Buf (Elt F) ((c : Thread nD τ).loc b))
variable (O : Dev nD → CellTallies nD τ sig (SparseCore.Cfg.HIx 1)) (B : Dev nD → Set (SemLoc sig × SparseCore.Cfg.HIx 1))

/-- The grid point of number `n`. -/
def pt0 (n : Fin 16) : Fin cfg0.N := ⟨n.val, by decide +revert +kernel⟩

theorem coord0_0 : ∀ t : Fin cfg0.N, (grid0.coords t 0).val = t.val / 4 := (by decide +kernel : ∀ t : Fin grid0.N, (grid0.coords t 0).val = t.val / 4)
theorem coord0_1 : ∀ t : Fin cfg0.N, (grid0.coords t 1).val = t.val % 4 := (by decide +kernel : ∀ t : Fin grid0.N, (grid0.coords t 1).val = t.val % 4)
theorem at0_0 : ∀ t : Fin cfg0.N, win0_0.index t = ![t.val / 4, 0, 0] := (by decide +kernel : ∀ t : Fin grid0.N, win0_0.index t = ![t.val / 4, 0, 0])
theorem at0_1 : ∀ t : Fin cfg0.N, win0_1.index t = ![t.val / 4, 0, 0] := (by decide +kernel : ∀ t : Fin grid0.N, win0_1.index t = ![t.val / 4, 0, 0])
theorem at0_2 : ∀ t : Fin cfg0.N, win0_2.index t = ![t.val / 4, 0, 0] := (by decide +kernel : ∀ t : Fin grid0.N, win0_2.index t = ![t.val / 4, 0, 0])
theorem at0_3 : ∀ t : Fin cfg0.N, win0_3.index t = ![t.val, 0, 0] := (by decide +kernel : ∀ t : Fin grid0.N, win0_3.index t = ![t.val, 0, 0])
theorem at0_4 : ∀ t : Fin cfg0.N, win0_4.index t = ![t.val, 0, 0] := (by decide +kernel : ∀ t : Fin grid0.N, win0_4.index t = ![t.val, 0, 0])
theorem at0_5 : ∀ t : Fin cfg0.N, win0_5.index t = ![t.val, 0, 0] := (by decide +kernel : ∀ t : Fin grid0.N, win0_5.index t = ![t.val, 0, 0])

theorem lt16 (t : Fin cfg0.N) : t.val < 16 := lt_of_lt_of_eq t.isLt (by decide +kernel)
/-- The batch of point `t`, and its number. -/
def bat (t : Fin cfg0.N) : Fin 4 := ⟨t.val / 4, by have := lt16 t; omega⟩
def num (t : Fin cfg0.N) : Fin 16 := ⟨t.val, lt16 t⟩
theorem pt0_num (t : Fin cfg0.N) : pt0 (num t) = t := rfl

theorem emb0_0 (t : Fin cfg0.N) (y : S1x1024x64.Idx) : ((cfg0.win 0).blk t).view.emb y = ix3 (bat t) (y 1) (y 2) := by
  blk_ext [at0_0, bat]
theorem emb0_1 (t : Fin cfg0.N) (y : S1x1024x3.Idx) : ((cfg0.win 1).blk t).view.emb y = ix3 (bat t) (y 1) (y 2) := by
  blk_ext [at0_1, bat]
theorem emb0_2 (t : Fin cfg0.N) (y : S1x3x1024.Idx) : ((cfg0.win 2).blk t).view.emb y = ix3 (bat t) (y 1) (y 2) := by
  blk_ext [at0_2, bat]
theorem emb0_3 (t : Fin cfg0.N) (y : S1x256x128.Idx) : ((cfg0.win 3).blk t).view.emb y = ix3 (num t) (y 1) (y 2) := by
  blk_ext [at0_3, num]
theorem emb0_4 (t : Fin cfg0.N) (y : S1x32x256.Idx) : ((cfg0.win 4).blk t).view.emb y = ix3 (num t) (y 1) (y 2) := by
  blk_ext [at0_4, num]
theorem emb0_5 (t : Fin cfg0.N) (y : S1x32x256.Idx) : ((cfg0.win 5).blk t).view.emb y = ix3 (num t) (y 1) (y 2) := by
  blk_ext [at0_5, num]

theorem arr0_3 (c : Dev nD) : (dat0 V O B c).arrAt 3 cfg0.N = fun i : S16x256x128.Idx => rowsA (grid0.coords (pt0 (i 0))) (iblk0 V c 0 (pt0 (i 0))) (iblk0 V c 1 (pt0 (i 0))) (ix3 0 (i 1) (i 2)) := by
  refine (dat0 V O B c).arrAt_eq_of_covers 3 _ (by decide +kernel) fun t hf y => ?_
  rw [emb0_3, after0_3]
  show (outsAt0 V c t).1 y = _
  unfold outsAt0
  dsimp only
  rw [out3_eq]
  obtain ⟨y0, y1, y2, rfl⟩ : ∃ a b d, y = ix3 a b d := ⟨y 0, y 1, y 2, by funext a; fin_cases a <;> rfl⟩
  obtain rfl : y0 = 0 := Subsingleton.elim _ _
  rfl

theorem arr0_4 (c : Dev nD) : (dat0 V O B c).arrAt 4 cfg0.N = fun i : S16x32x256.Idx => rowsJ (tableD (grid0.coords (pt0 (i 0))) (iblk0 V c 1 (pt0 (i 0))) (iblk0 V c 2 (pt0 (i 0)))) (BitVec.ofNat 32 (grid0.coords (pt0 (i 0)) 0).val) (ix3 0 (i 1) (i 2)) := by
  refine (dat0 V O B c).arrAt_eq_of_covers 4 _ (by decide +kernel) fun t hf y => ?_
  rw [emb0_4, after0_4]
  show (outsAt0 V c t).2.1 y = _
  unfold outsAt0
  dsimp only
  rw [out4_eq]
  obtain ⟨y0, y1, y2, rfl⟩ : ∃ a b d, y = ix3 a b d := ⟨y 0, y 1, y 2, by funext a; fin_cases a <;> rfl⟩
  obtain rfl : y0 = 0 := Subsingleton.elim _ _
  rfl

theorem arr0_5 (c : Dev nD) : (dat0 V O B c).arrAt 5 cfg0.N = fun i : S16x32x256.Idx => rowsM (tableD (grid0.coords (pt0 (i 0))) (iblk0 V c 1 (pt0 (i 0))) (iblk0 V c 2 (pt0 (i 0)))) (ix3 0 (i 1) (i 2)) := by
  refine (dat0 V O B c).arrAt_eq_of_covers 5 _ (by decide +kernel) fun t hf y => ?_
  rw [emb0_5, after0_5]
  show (outsAt0 V c t).2.2 y = _
  unfold outsAt0
  dsimp only
  rw [out5_eq]
  obtain ⟨y0, y1, y2, rfl⟩ : ∃ a b d, y = ix3 a b d := ⟨y 0, y 1, y 2, by funext a; fin_cases a <;> rfl⟩
  obtain rfl : y0 = 0 := Subsingleton.elim _ _
  rfl

theorem blk0_0 (c : Dev nD) (t : Fin cfg0.N) : iblk0 V c 0 t = fun y : S1x1024x64.Idx => V c main_arg0 (ix3 (bat t) (y 1) (y 2)) := by
  funext y
  exact congrArg (V c main_arg0) (emb0_0 t y)

theorem blk0_1 (c : Dev nD) (t : Fin cfg0.N) : iblk0 V c 1 t = fun y : S1x1024x3.Idx => V c main_arg1 (ix3 (bat t) (y 1) (y 2)) := by
  funext y
  exact congrArg (V c main_arg1) (emb0_1 t y)

theorem blk0_2 (c : Dev nD) (t : Fin cfg0.N) : iblk0 V c 2 t = fun y : S1x3x1024.Idx => V c main_v0 (ix3 (bat t) (y 1) (y 2)) := by
  funext y
  exact congrArg (V c main_v0) (emb0_2 t y)

end Cert.Own
-- ==== Proof.Spec.lean ====
module

public import proofs.«01_k».proof.Proof.Region1
public import Idealize.ShloMosaic.Lib.Pointwise

/-! The mathematics of one layer, at the extended reals: an edge's message, its two coordinate weights, and a node's update. -/

@[expose] public section

set_option maxRecDepth 16384

noncomputable section

namespace Cert.Own

open Idealize.ShloMosaic Cert.KernelIdeal

/-- `x · 1/(1 + e^(-x))`. -/
def silu (x : EReal) : EReal := x * Ideal.div 1 (1 + Ideal.exp (-x))

theorem half_val : Ideal.ofBits .bf16 16128#16 = ((1 / 2 : ℝ) : EReal) := by
  simp [Ideal.ofBits, Ideal.ieee]
  rw [← EReal.coe_mul]; norm_num

theorem tanh_half (x : ℝ) : 1 + Real.tanh (x / 2) = 2 * (1 + Real.exp (-x))⁻¹ := by
  rw [Real.tanh_eq_sinh_div_cosh, Real.sinh_eq, Real.cosh_eq]
  have e : Real.exp (-x) = Real.exp (-(x / 2)) * Real.exp (-(x / 2)) := by rw [← Real.exp_add]; congr 1; ring
  have i : Real.exp (x / 2) * Real.exp (-(x / 2)) = 1 := by rw [← Real.exp_add]; simp
  have p := Real.exp_pos (x / 2)
  have n := Real.exp_pos (-(x / 2))
  rw [e]
  field_simp
  nlinarith

/-- Half of `x` times `1 + tanh (x/2)` is the same function, at the infinities too. -/
theorem silu_tanh (x : EReal) :
    Ideal.ofBits .bf16 16128#16 * x * (1 + Ideal.tanh (Ideal.ofBits .bf16 16128#16 * x)) = silu x := by
  rw [half_val, silu]
  induction x with
  | bot =>
    rw [EReal.coe_mul_bot_of_pos (by norm_num)]
    have e : (1 : EReal) + -1 = 0 := by rw [← EReal.coe_one, ← EReal.coe_neg, ← EReal.coe_add]; norm_num
    have e' : (1 : EReal) + ⊤ = ⊤ := EReal.add_top_of_ne_bot (EReal.coe_ne_bot 1)
    simp [Ideal.div, e, e']
  | top =>
    rw [EReal.coe_mul_top_of_pos (by norm_num)]
    simp [Ideal.div]
    exact EReal.top_mul_of_pos (by norm_num)
  | coe r =>
    rw [← EReal.coe_mul, Ideal.tanh_coe]
    have h := tanh_half r
    have p := Real.exp_pos (-r)
    have z : ¬ (((1 + Real.exp (-r) : ℝ) : EReal) = 0) := by
      rw [EReal.coe_eq_zero]; positivity
    rw [← EReal.coe_neg, Ideal.exp_coe, ← EReal.coe_one, ← EReal.coe_add, ← EReal.coe_add, Ideal.div, if_neg z, ← EReal.coe_inv,
      ← EReal.coe_mul, ← EReal.coe_mul, ← EReal.coe_mul, show 1 / 2 * r = r / 2 by ring, h]
    congr 1; ring

/-- The weights and biases of the layer. -/
structure Layer where
  W1 : S129x258.Idx → EReal
  b1 : S258.Idx → EReal
  W2 : S258x16.Idx → EReal
  b2 : S16.Idx → EReal
  N1 : S80x128.Idx → EReal
  d1 : S128.Idx → EReal
  N2 : S128x64.Idx → EReal
  d2 : S64.Idx → EReal
  A1 : S16x64.Idx → EReal
  a1 : S64.Idx → EReal
  A2 : S64x1.Idx → EReal
  a2 : S1.Idx → EReal
  X1 : S16x64.Idx → EReal
  x1 : S64.Idx → EReal
  X2 : S64x1.Idx → EReal
  x2 : S1.Idx → EReal

namespace Layer

/-- The edge network before its first activation: the two nodes' features and the squared distance through `W1`. -/
def hid (L : Layer) (fi fj : Fin 64 → EReal) (d : EReal) (o : Fin 258) : EReal :=
  ∑ a : Fin 64, fi a * L.W1 (ix2 ⟨a.val, by omega⟩ o) + L.b1 (ix1 o) + ∑ a : Fin 64, fj a * L.W1 (ix2 ⟨64 + a.val, by omega⟩ o)
    + d * L.W1 (ix2 128 o)

/-- The message of an edge. -/
def msg (L : Layer) (fi fj : Fin 64 → EReal) (d : EReal) (o : Fin 16) : EReal :=
  silu (∑ a : Fin 258, silu (L.hid fi fj d a) * L.W2 (ix2 a o) + L.b2 (ix1 o))

/-- A message's weight on the difference of the coordinates. -/
def wc (L : Layer) (m : Fin 16 → EReal) : EReal :=
  ∑ a : Fin 64, silu (∑ c : Fin 16, m c * L.A1 (ix2 c a) + L.a1 (ix1 a)) * L.A2 (ix2 a 0) + L.a2 (ix1 0)

/-- A message's weight on the cross product. -/
def wx (L : Layer) (m : Fin 16 → EReal) : EReal :=
  ∑ a : Fin 64, silu (∑ c : Fin 16, m c * L.X1 (ix2 c a) + L.x1 (ix1 a)) * L.X2 (ix2 a 0) + L.x2 (ix1 0)

/-- A node's new features, from its old ones and the sum of its messages. -/
def node (L : Layer) (f : Fin 64 → EReal) (s : Fin 16 → EReal) (o : Fin 64) : EReal :=
  ∑ a : Fin 128, silu (∑ c : Fin 64, f c * L.N1 (ix2 ⟨c.val, by omega⟩ a) + ∑ c : Fin 16, s c * L.N1 (ix2 ⟨64 + c.val, by omega⟩ a) + L.d1 (ix1 a))
    * L.N2 (ix2 a o) + L.d2 (ix1 o) + f o

end Layer

/-- A cross product's component. -/
def cross (u v : Fin 3 → EReal) (c : Fin 3) : EReal := u (c + 1) * v (c + 2) - u (c + 2) * v (c + 1)

end Cert.Own
-- ==== Proof.Nearest.lean ====
module

public import proofs.«01_k».proof.Proof.Rounds
public import Idealize.ShloMosaic.Lib.Pointwise
public import Idealize.ShloMosaic.Lib.SortFacts

/-!
  The nearest points in order. `near d k` is the place of the `k`-th least entry of a column `d` of distances, entries that are equal counted in the order of their places: what a stable
  sort of the column gives. The 32 rounds of the first pallas_call take exactly these places, one a round.
-/

@[expose] public section
set_option maxRecDepth 16384

noncomputable section
namespace Cert.Own

open Cert.KernelIdeal Cert.KernelIdeal.Gen
open Idealize.ShloMosaic Idealize.ShloMosaic.TcCoe

/-- Strictly less. -/
def less {n : ℕ} (d : Fin n → EReal) (a b : Fin n) : Bool := decide (d a < d b)

/-- Less, or equal and earlier. -/
def lexLess {n : ℕ} (d : Fin n → EReal) (a b : Fin n) : Bool := decide (d a < d b ∨ d a = d b ∧ a < b)

variable {N : ℕ}

/-- The place of the `k`-th least entry. -/
def near (d : Fin N → EReal) (k : Fin N) : Fin N := sortedFrom (less d) k

theorem stable_lex {n : ℕ} (d : Fin n → EReal) (l : List (Fin n)) (hl : l.Pairwise (· < ·)) : stableSort (less d) l = stableSort (lexLess d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp only [less, lexLess, decide_eq_decide]
    constructor
    · exact Or.inl
    · rintro (h | ⟨_, h⟩)
      · exact h
      · exact absurd h (lt_asymm hab)

theorem near_eq (d : Fin N → EReal) : near d = sortedFrom (lexLess d) := by
  have h : sortPositions N (less d) = sortPositions N (lexLess d) := stable_lex d _ (List.pairwise_lt_finRange _)
  funext k
  unfold near sortedFrom
  rw [List.get_of_eq h]
  rfl

theorem near_inj (d : Fin N → EReal) : Function.Injective (near d) := sortedFrom_injective _
theorem near_surj (d : Fin N → EReal) : Function.Surjective (near d) := sortedFrom_surjective _
theorem near_def (d : Fin N → EReal) (k : Fin N) : near d k = sortedFrom (less d) k := rfl

/-- An earlier place's entry is less, or equal and earlier. -/
theorem near_lex (d : Fin N → EReal) (i j : Fin N) (h : i < j) : d (near d i) < d (near d j) ∨ d (near d i) = d (near d j) ∧ near d i < near d j := by
  have e := sortedFrom_noInversion (lexLess d) (lexLess d) (fun a b hab => ?_) (fun _ _ => id) (fun a b c hab hbc => ?_) i j h
  · rw [← near_eq] at e
    simp only [lexLess, decide_eq_false_iff_not, not_or, not_lt, not_and] at e
    rcases lt_or_eq_of_le e.1 with h1 | h1
    · exact .inl h1
    · exact .inr ⟨h1, lt_of_le_of_ne (e.2 h1.symm) fun x => absurd (near_inj d x) (ne_of_lt h)⟩
  · simp only [lexLess, decide_eq_true_eq, decide_eq_false_iff_not, not_or, not_lt, not_and] at hab ⊢
    rcases hab with h1 | ⟨h1, h2⟩
    · exact ⟨h1.le, fun x => absurd x.symm (ne_of_lt h1)⟩
    · exact ⟨h1.le, fun _ => h2.le⟩
  · simp only [lexLess, decide_eq_false_iff_not, not_or, not_lt, not_and] at hab hbc ⊢
    refine ⟨hbc.1.trans hab.1, fun x => ?_⟩
    have h1 : d a = d b := le_antisymm (x ▸ hbc.1) hab.1
    exact (hbc.2 (h1 ▸ x)).trans (hab.2 h1)

theorem near_le (d : Fin N → EReal) (i j : Fin N) (h : i ≤ j) : d (near d i) ≤ d (near d j) := by
  rcases lt_or_eq_of_le h with h | rfl
  · rcases near_lex d i j h with h1 | h1
    · exact h1.le
    · exact h1.1.le
  · exact le_rfl

/-- The entry was taken before round `n`. -/
def Taken (d : Fin N → EReal) (n : ℕ) (j : Fin N) : Prop := ∃ m : Fin N, m.val < n ∧ near d m = j

theorem taken_succ (d : Fin N → EReal) (n : ℕ) (hn : n < N) (j : Fin N) : Taken d (n + 1) j ↔ j = near d ⟨n, hn⟩ ∨ Taken d n j := by
  constructor
  · rintro ⟨m, h, rfl⟩
    rcases Nat.lt_succ_iff_lt_or_eq.mp h with h | h
    · exact .inr ⟨m, h, rfl⟩
    · exact .inl (congrArg (near d) (Fin.ext h))
  · rintro (rfl | ⟨m, h, rfl⟩)
    · exact ⟨⟨n, hn⟩, Nat.lt_succ_self n, rfl⟩
    · exact ⟨m, Nat.lt_succ_of_lt h, rfl⟩

theorem not_taken (d : Fin N → EReal) (n : ℕ) (hn : n < N) : ¬ Taken d n (near d ⟨n, hn⟩) := by
  rintro ⟨m, h, e⟩
  have := near_inj d e
  subst this
  exact absurd h (lt_irrefl _)

/-- An entry not taken stands at round `n` or later. -/
theorem later (d : Fin N → EReal) (n : ℕ) (hn : n < N) (j : Fin N) (h : ¬ Taken d n j) : ∃ m : Fin N, ⟨n, hn⟩ ≤ m ∧ near d m = j := by
  obtain ⟨m, rfl⟩ := near_surj d j
  exact ⟨m, le_of_not_gt fun x => h ⟨m, x, rfl⟩, rfl⟩

attribute [irreducible] near

theorem top_val : Ideal.ofBits .f32 2139095040#32 = (⊤ : EReal) := by
  simp [Ideal.ofBits, Ideal.ieee]

theorem word_slt : ∀ j : Fin 1024, IntOp.cmpi .slt (BitVec.ofNat 32 j.val) 1024#32 = 1#1 := by decide +kernel
theorem word_slt' : IntOp.cmpi .slt (1024#32) 1024#32 = 0#1 := by decide +kernel
theorem word_int : ∀ j : Fin 1024, (BitVec.ofNat 32 j.val).toInt = (j.val : ℤ) := by decide +kernel

theorem sel_one {α : Type} (x y : α) : Scalar.select 1#1 x y = x := rfl
theorem sel_zero {α : Type} (x y : α) : Scalar.select 0#1 x y = y := rfl

theorem minsi_toInt (a b : BitVec 32) : min a.toInt b.toInt = (IntOp.minsi a b).toInt := by
  unfold IntOp.minsi
  rw [BitVec.slt_eq_decide]
  by_cases h : a.toInt < b.toInt
  · rw [if_pos (decide_eq_true h), min_eq_left h.le]
  · rw [if_neg (by simpa using h), min_eq_right (not_lt.mp h)]

theorem fold_minsi {ι : Type} (s : Finset ι) (b : BitVec 32) (f : ι → BitVec 32) :
    (s.fold IntOp.minsi b f).toInt = s.fold min b.toInt fun x => (f x).toInt :=
  (Finset.fold_hom (op := IntOp.minsi) (op' := min) (m := BitVec.toInt) fun x y => (minsi_toInt x y).symm).symm

/-- A round's two results, from which rows are taken. -/
theorem round_at (D : FVec Ideal S1024x256 .f32) (fr : IVec S1024x256 32) (q : Fin 256) (d : Fin 1024 → EReal) (hd : d = fun j => D (ix2 j q)) (n : ℕ) (hn : n < 1024)
    (h1 : ∀ j, Taken d n j → fr (ix2 j q) = 1024#32) (h2 : ∀ j, ¬ Taken d n j → fr (ix2 j q) = BitVec.ofNat 32 j.val) :
    least (F := Ideal) D fr (ix2 0 q) = d (near d ⟨n, hn⟩) ∧ pick (F := Ideal) D fr (ix2 0 q) = BitVec.ofNat 32 (near d ⟨n, hn⟩).val := by
  have nt := not_taken d n hn
  have e1 : least (F := Ideal) D fr (ix2 0 q) = d (near d ⟨n, hn⟩) := by
    unfold least
    pointwise
    rw [top_val]
    refine le_antisymm ((Finset.fold_min_le _).mpr (.inr ⟨near d ⟨n, hn⟩, Finset.mem_univ _, ?_⟩)) ((Finset.le_fold_min _).mpr ⟨le_top, fun j _ => ?_⟩)
    · rw [h2 _ nt, word_slt, sel_one, hd]
    · by_cases t : Taken d n j
      · rw [h1 j t, word_slt', sel_zero]; exact le_top
      · rw [h2 j t, word_slt, sel_one]
        obtain ⟨m, hm, rfl⟩ := later d n hn j t
        have := near_le d _ m hm
        rw [hd] at this ⊢
        exact this
  refine ⟨e1, BitVec.eq_of_toInt_eq ?_⟩
  unfold pick
  pointwise
  rw [e1, fold_minsi, word_int]
  refine le_antisymm ((Finset.fold_min_le _).mpr (.inr ⟨near d ⟨n, hn⟩, Finset.mem_univ _, ?_⟩)) ((Finset.le_fold_min _).mpr ⟨?_, fun j _ => ?_⟩)
  · rw [if_pos (by rw [hd]), h2 _ nt, word_int]
  · have := (near d ⟨n, hn⟩).isLt
    have e : (2147483647#32 : BitVec 32).toInt = 2147483647 := by decide
    rw [e]; omega
  · have e : (1024#32 : BitVec 32).toInt = 1024 := by decide
    have l := (near d ⟨n, hn⟩).isLt
    split
    · rename_i c
      by_cases t : Taken d n j
      · rw [h1 j t, e]; omega
      · rw [h2 j t, word_int]
        obtain ⟨m, hm, rfl⟩ := later d n hn j t
        rcases lt_or_eq_of_le hm with hm | rfl
        · rcases near_lex d _ m hm with x | x
          · have c' : d (near d m) = d (near d ⟨n, hn⟩) := by rw [hd] at c ⊢; exact c
            exact absurd c'.symm (ne_of_lt x)
          · exact_mod_cast x.2.le
        · exact le_rfl
    · rw [e]; omega

theorem free_at (D : FVec Ideal S1024x256 .f32) (q : Fin 256) (d : Fin 1024 → EReal) (hd : d = fun j => D (ix2 j q)) (n : ℕ) (hn : n ≤ 1024) (j : Fin 1024) :
    (Taken d n j → free (F := Ideal) D n (ix2 j q) = 1024#32) ∧ (¬ Taken d n j → free (F := Ideal) D n (ix2 j q) = BitVec.ofNat 32 j.val) := by
  induction n generalizing j with
  | zero =>
    refine ⟨fun ⟨m, h, _⟩ => absurd h (Nat.not_lt_zero _), fun _ => ?_⟩
    unfold free
    pointwise
  | succ n ih =>
    have r := round_at D (free D n) q d hd n hn (fun j => (ih (by omega) j).1) (fun j => (ih (by omega) j).2)
    have e : free (F := Ideal) D (n + 1) (ix2 j q)
        = Scalar.select (IntOp.cmpi .eq (free (F := Ideal) D n (ix2 j q)) (pick (F := Ideal) D (free D n) (ix2 0 q))) 1024#32 (free (F := Ideal) D n (ix2 j q)) := by
      show left (F := Ideal) D (free D n) (ix2 j q) = _
      unfold left
      pointwise
    rw [e, r.2, taken_succ d n hn j]
    have l := (near d ⟨n, hn⟩).isLt
    by_cases t : Taken d n j
    · rw [(ih (by omega) j).1 t]
      refine ⟨fun _ => ?_, fun h => absurd (Or.inr t) h⟩
      unfold Scalar.select; split <;> rfl
    · rw [(ih (by omega) j).2 t]
      by_cases u : j = near d ⟨n, hn⟩
      · subst u
        refine ⟨fun _ => ?_, fun h => absurd (Or.inl rfl) h⟩
        simp [IntOp.cmpi, Scalar.select]
      · refine ⟨fun h => (h.elim u t).elim, fun _ => ?_⟩
        have ne : ¬ (BitVec.ofNat 32 j.val = BitVec.ofNat 32 (near d ⟨n, hn⟩).val) := fun x => u (Fin.ext (by
          have := congrArg BitVec.toInt x
          rw [word_int, word_int] at this
          exact_mod_cast this))
        simp only [IntOp.cmpi, Scalar.select, beq_eq_false_iff_ne.mpr ne]
        rfl

/-- Round `n` takes the `n`-th nearest point, and its distance. -/
theorem rounds_at (D : FVec Ideal S1024x256 .f32) (q : Fin 256) (d : Fin 1024 → EReal) (hd : d = fun j => D (ix2 j q)) (n : ℕ) (hn : n < 1024) :
    least (F := Ideal) D (free D n) (ix2 0 q) = d (near d ⟨n, hn⟩) ∧ pick (F := Ideal) D (free D n) (ix2 0 q) = BitVec.ofNat 32 (near d ⟨n, hn⟩).val :=
  round_at D (free D n) q d hd n hn (fun j => (free_at D q d hd n hn.le j).1) (fun j => (free_at D q d hd n hn.le j).2)

end Cert.Own
-- ==== Proof.Net.lean ====
module

public import proofs.«01_k».proof.Proof.Spec
public import proofs.«01_k».proof.Proof.Nearest

/-! The layer over the whole arrays: what both programs compute, stated once. -/

@[expose] public section

set_option maxRecDepth 16384

noncomputable section

namespace Cert.Own

open Cert.KernelIdeal
open Idealize.ShloMosaic

/-- The squared distance of two points of a cloud. -/
def dist (co : S4x1024x3.Idx → EReal) (b : Fin 4) (i j : Fin 1024) : EReal :=
  ∑ c : Fin 3, (co (ix3 b i c) - co (ix3 b j c)) * (co (ix3 b i c) - co (ix3 b j c))

/-- The `k`-th nearest point of point `i`. -/
def nb (co : S4x1024x3.Idx → EReal) (b : Fin 4) (i : Fin 1024) (k : Fin 32) : Fin 1024 := near (dist co b i) ⟨k.val, by omega⟩

/-- A point less the mean of its cloud. -/
def cen (co : S4x1024x3.Idx → EReal) (b : Fin 4) (i : Fin 1024) (c : Fin 3) : EReal :=
  co (ix3 b i c) - Ideal.div (∑ j : Fin 1024, co (ix3 b j c)) (Ideal.ofBits .f32 0x44800000#32)

/-- The message from the `k`-th nearest point. -/
def emsg (L : Layer) (f : S4x1024x64.Idx → EReal) (co : S4x1024x3.Idx → EReal) (b : Fin 4) (i : Fin 1024) (k : Fin 32) : Fin 16 → EReal :=
  L.msg (fun a => f (ix3 b i a)) (fun a => f (ix3 b (nb co b i k) a)) (dist co b i (nb co b i k))

/-- The new features. -/
def newF (L : Layer) (f : S4x1024x64.Idx → EReal) (co : S4x1024x3.Idx → EReal) (x : S4x1024x64.Idx) : EReal :=
  L.node (fun a => f (ix3 (x 0) (x 1) a)) (fun c => ∑ k : Fin 32, emsg L f co (x 0) (x 1) k c) (x 2)

/-- The new coordinates. -/
def newC (L : Layer) (f : S4x1024x64.Idx → EReal) (co : S4x1024x3.Idx → EReal) (x : S4x1024x3.Idx) : EReal :=
  ∑ k : Fin 32, (L.wc (emsg L f co (x 0) (x 1) k) * (co (ix3 (x 0) (x 1) (x 2)) - co (ix3 (x 0) (nb co (x 0) (x 1) k) (x 2)))
    + L.wx (emsg L f co (x 0) (x 1) k) * cross (cen co (x 0) (x 1)) (cen co (x 0) (nb co (x 0) (x 1) k)) (x 2)) + co (ix3 (x 0) (x 1) (x 2))

end Cert.Own
-- ==== Proof.Table.lean ====
/-
  What the first pallas_call's three arrays hold, read as numbers: the rows of features and points, the row numbers of the nearest, and their distances.
-/
module

public import proofs.«01_k».proof.Proof.Blocks0
public import proofs.«01_k».proof.Proof.Net

@[expose] public section
set_option maxRecDepth 100000

noncomputable section

namespace Cert.Own

open Cert.KernelIdeal Cert.KernelIdeal.Gen
open Idealize Idealize.ShloMosaic Idealize.ShloMosaic.TcCoe
open Idealize.ShloMosaic.Pipeline

/-- The row of its cloud that column `q` of point `t` is. -/
def row (t : Fin cfg0.N) (q : Fin 256) : Fin 1024 := ⟨t.val % 4 * 256 + q.val, by omega⟩

theorem word_off : ∀ n : Fin 4, (Scalar.indexCast (Scalar.muli (BitVec.ofNat 32 n.val) 256#32) : Index).toNat = n.val * 256 := by decide +kernel

theorem off_val (t : Fin cfg0.N) : (Scalar.indexCast (Scalar.muli (BitVec.ofNat 32 (grid0.coords t 1).val) 256#32) : Index).toNat = t.val % 4 * 256 := by
  rw [← coord0_1 t]; exact word_off (grid0.coords t 1)

section
variable {α : Type} (t : Fin cfg0.N)

theorem win1 (x : S1x1024x64.Idx → α) (q : Fin 256) (a : Fin 64) :
    VecWindow.window x (k0_off1 (grid0.coords t)) S1x256x64.size (k0_off1_inb _) (ix3 0 q a) = x (ix3 0 (row t q) a) := by
  refine congrArg x ?_
  funext b
  match b with
  | ⟨0, _⟩ => rfl
  | ⟨1, _⟩ => exact Fin.ext (by show (Scalar.indexCast _ : Index).toNat + 1 * q.val = t.val % 4 * 256 + q.val; rw [off_val t, Nat.one_mul])
  | ⟨2, _⟩ => exact Fin.ext (by show 0 + 1 * a.val = a.val; omega)

theorem win2 (x : S1x1024x3.Idx → α) (q : Fin 256) (a : Fin 3) :
    VecWindow.window x (k0_off2 (grid0.coords t)) S1x256x3.size (k0_off2_inb _) (ix3 0 q a) = x (ix3 0 (row t q) a) := by
  refine congrArg x ?_
  funext b
  match b with
  | ⟨0, _⟩ => rfl
  | ⟨1, _⟩ => exact Fin.ext (by show (Scalar.indexCast _ : Index).toNat + 1 * q.val = t.val % 4 * 256 + q.val; rw [off_val t, Nat.one_mul])
  | ⟨2, _⟩ => exact Fin.ext (by show 0 + 1 * a.val = a.val; omega)

theorem win3 (x : S1x3x1024.Idx → α) (q : Fin 256) :
    VecWindow.window x (k0_off3 (grid0.coords t)) S1x1x256.size (k0_off3_inb _) (ix3 0 0 q) = x (ix3 0 0 (row t q)) := by
  refine congrArg x ?_
  funext b
  match b with
  | ⟨0, _⟩ => rfl
  | ⟨1, _⟩ => rfl
  | ⟨2, _⟩ => exact Fin.ext (by show (Scalar.indexCast _ : Index).toNat + 1 * q.val = t.val % 4 * 256 + q.val; rw [off_val t, Nat.one_mul])

theorem win4 (x : S1x3x1024.Idx → α) (q : Fin 256) :
    VecWindow.window x (k0_off4 (grid0.coords t)) S1x1x256.size (k0_off4_inb _) (ix3 0 0 q) = x (ix3 0 1 (row t q)) := by
  refine congrArg x ?_
  funext b
  match b with
  | ⟨0, _⟩ => rfl
  | ⟨1, _⟩ => rfl
  | ⟨2, _⟩ => exact Fin.ext (by show (Scalar.indexCast _ : Index).toNat + 1 * q.val = t.val % 4 * 256 + q.val; rw [off_val t, Nat.one_mul])

theorem win5 (x : S1x3x1024.Idx → α) (q : Fin 256) :
    VecWindow.window x (k0_off5 (grid0.coords t)) S1x1x256.size (k0_off5_inb _) (ix3 0 0 q) = x (ix3 0 2 (row t q)) := by
  refine congrArg x ?_
  funext b
  match b with
  | ⟨0, _⟩ => rfl
  | ⟨1, _⟩ => rfl
  | ⟨2, _⟩ => exact Fin.ext (by show (Scalar.indexCast _ : Index).toNat + 1 * q.val = t.val % 4 * 256 + q.val; rw [off_val t, Nat.one_mul])

end

theorem sq_swap (a b : EReal) : (a - b) * (a - b) = (b - a) * (b - a) := by
  have h : ∀ x y : ℝ, ((x : EReal) - y) * (x - y) = ((y : EReal) - x) * (y - x) := fun x y => by
    rw [← EReal.coe_sub, ← EReal.coe_sub, ← EReal.coe_mul, ← EReal.coe_mul]; congr 1; ring
  induction a <;> induction b <;> first | rfl | exact h _ _ | simp

/-- The table's entry: the squared distance of row `j` and the column's row. -/
theorem tableD_at (t : Fin cfg0.N) (x1 : Vec Ideal S1x1024x3 .f32) (x2 : Vec Ideal S1x3x1024 .f32) (co : S4x1024x3.Idx → EReal)
    (h1 : ∀ j c, x1 (ix3 0 j c) = co (ix3 (bat t) j c)) (h2 : ∀ j c, x2 (ix3 0 c j) = co (ix3 (bat t) j c)) (j : Fin 1024) (q : Fin 256) :
    tableD (grid0.coords t) x1 x2 (ix2 j q) = dist co (bat t) (row t q) j := by
  unfold tableD k0_pay5 k0_pay2
  pointwise
  rw [win3, win4, win5]
  simp only [h1, h2]
  rw [dist, Fin.sum_univ_three, sq_swap (co (ix3 (bat t) j 0)), sq_swap (co (ix3 (bat t) j 1)), sq_swap (co (ix3 (bat t) j 2))]

/-- The table of row numbers, entry by entry. -/
theorem rowsJ_eq {F : FTy → Type} [FloatOps F] (D : FVec F S1024x256 .f32) (p : BitVec 32) (k : Fin 32) (q : Fin 256) :
    rowsJ D p (ix3 0 k q) = IntOp.addi (IntOp.andi (pick D (free D k.val) (ix2 0 q)) 1023#32) (IntOp.muli p 1024#32) := by
  unfold rowsJ
  pointwise
  rfl

theorem rowsM_eq {F : FTy → Type} [FloatOps F] (D : FVec F S1024x256 .f32) (k : Fin 32) (q : Fin 256) :
    rowsM D (ix3 0 k q) = least D (free D k.val) (ix2 0 q) := by
  unfold rowsM
  pointwise

theorem rowsA_feat (t : Fin cfg0.N) (x0 : Vec Ideal S1x1024x64 .f32) (x1 : Vec Ideal S1x1024x3 .f32) (q : Fin 256) (a : Fin 64) :
    rowsA (grid0.coords t) x0 x1 (ix3 0 q ⟨a.val, by omega⟩) = x0 (ix3 0 (row t q) a) := by
  unfold rowsA k0_pay1 k0_pay3 k0_pay4
  pointwise
  exact win1 t x0 q a

theorem rowsA_co (t : Fin cfg0.N) (x0 : Vec Ideal S1x1024x64 .f32) (x1 : Vec Ideal S1x1024x3 .f32) (q : Fin 256) (a : Fin 3) :
    rowsA (grid0.coords t) x0 x1 (ix3 0 q ⟨64 + a.val, by omega⟩) = x1 (ix3 0 (row t q) a) := by
  unfold rowsA k0_pay1 k0_pay3 k0_pay4
  pointwise
  exact win2 t x1 q a

theorem rowsA_cen (t : Fin cfg0.N) (x0 : Vec Ideal S1x1024x64 .f32) (x1 : Vec Ideal S1x1024x3 .f32) (q : Fin 256) (a : Fin 3) :
    rowsA (grid0.coords t) x0 x1 (ix3 0 q ⟨67 + a.val, by omega⟩)
      = x1 (ix3 0 (row t q) a) - Ideal.div (∑ j : Fin 1024, x1 (ix3 0 j a)) (Ideal.ofBits .f32 0x44800000#32) := by
  unfold rowsA k0_pay1 k0_pay3 k0_pay4 k0_pay113 k0_pay2
  pointwise
  have e : ∀ h : 67 + a.val - 64 - 3 < 3, (⟨67 + a.val - 64 - 3, h⟩ : Fin 3) = a := fun h => Fin.ext (by show 67 + a.val - 64 - 3 = a.val; omega)
  rw [dif_neg (by omega), dif_neg (by omega), dif_pos (by omega)]
  refine congrArg₂ (· - ·) ((congrArg (fun z => VecWindow.window x1 _ _ _ (ix3 0 q z)) (e _)).trans (win2 t x1 q a)) ?_
  simp only [e]

end Cert.Own
-- ==== Proof.Vals4.lean ====
/-
  What the kernel's buffers hold up to the SparseCore call, read as numbers of the arguments.
-/
module

public import proofs.«01_k».proof.Proof.Table
public import Idealize.ShloMosaic.Lib.Claim

@[expose] public section
set_option maxRecDepth 100000

noncomputable section

namespace Cert.Own

open Cert.KernelIdeal Cert.KernelIdeal.Gen
open Idealize Idealize.ShloMosaic Idealize.ShloMosaic.TcCoe
open Idealize.ShloMosaic.Pipeline

section
variable {F : FTy → Type} [FloatOps F] (m : (ℓ : Loc nD τ sig) → Buf (Elt F) ℓ) (c : Dev nD)

/-- The first call's third operand is the points with the axes exchanged. -/
theorem W3_v0 : W3 m c (Proc.devRef .tc main_v0) = transpose S4x3x1024 [0, 2, 1] (W0 m c (Proc.devRef .tc main_arg1)) transposes_S4x1024x3_S4x3x1024_0_2_1 := by
  rw [W3_of m c main_v0 (by decide +kernel), W2_of m c main_v0 (by decide +kernel)]
  show StableHlo.after hostOps0 _ _ = _
  entry_read
  rfl

theorem W5_v38 : W5 m c (Proc.devRef .tc main_v38) = shapeCast S4096x128 (W4 m c (Proc.devRef .tc main_v37_0)) shapeCasts_S16x256x128_S4096x128 := by
  show StableHlo.after hostOps1 _ _ = _
  entry_read
  rfl
theorem W5_v39 : W5 m c (Proc.devRef .tc main_v39) = shapeCast S1x131072 (W4 m c (Proc.devRef .tc main_v37_1)) shapeCasts_S16x32x256_S1x131072 := by
  show StableHlo.after hostOps1 _ _ = _
  entry_read
  rfl
theorem W5_v40 : W5 m c (Proc.devRef .tc main_v40) = shapeCast S16x8192x1 (W4 m c (Proc.devRef .tc main_v37_2)) shapeCasts_S16x32x256_S16x8192x1 := by
  show StableHlo.after hostOps1 _ _ = _
  entry_read
  rfl

end

theorem v38_at {α : Type} (x : S16x256x128.Idx → α) (t : Fin 16) (q : Fin 256) (o : Fin 128) :
    shapeCast S4096x128 x shapeCasts_S16x256x128_S4096x128 (ix2 ⟨t.val * 256 + q.val, by omega⟩ o) = x (ix3 t q o) := by
  pointwise

theorem v39_at {α : Type} (x : S16x32x256.Idx → α) (t : Fin 16) (k : Fin 32) (q : Fin 256) :
    shapeCast S1x131072 x shapeCasts_S16x32x256_S1x131072 (ix2 0 ⟨t.val * 8192 + k.val * 256 + q.val, by omega⟩) = x (ix3 t k q) := by
  pointwise

theorem v40_at {α : Type} (x : S16x32x256.Idx → α) (t : Fin 16) (k : Fin 32) (q : Fin 256) :
    shapeCast S16x8192x1 x shapeCasts_S16x32x256_S16x8192x1 (ix3 t ⟨k.val * 256 + q.val, by omega⟩ 0) = x (ix3 t k q) := by
  pointwise

section
variable {F : FTy → Type} [FloatOps F] (m : (ℓ : Loc nD τ sig) → Buf (Elt F) ℓ) (c : Dev nD)

/-- The points and the features the kernel is handed. -/
abbrev co0 : S4x1024x3.Idx → F .f32 := W0 m c (Proc.devRef .tc main_arg1)
abbrev fe0 : S4x1024x64.Idx → F .f32 := W0 m c (Proc.devRef .tc main_arg0)

theorem iblk_fe (t : Fin cfg0.N) (j : Fin 1024) (a : Fin 64) : iblk0 (V3 m) c 0 t (ix3 0 j a) = fe0 m c (ix3 (bat t) j a) := by
  rw [blk0_0]
  exact congrFun (W3_args m c main_arg0 (by decide +kernel)) _
theorem iblk_co (t : Fin cfg0.N) (j : Fin 1024) (a : Fin 3) : iblk0 (V3 m) c 1 t (ix3 0 j a) = co0 m c (ix3 (bat t) j a) := by
  rw [blk0_1]
  exact congrFun (W3_args m c main_arg1 (by decide +kernel)) _
theorem iblk_co' (t : Fin cfg0.N) (j : Fin 1024) (a : Fin 3) : iblk0 (V3 m) c 2 t (ix3 0 a j) = co0 m c (ix3 (bat t) j a) := by
  rw [blk0_2]
  refine (congrFun (W3_v0 m c) _).trans ?_
  show transpose S4x3x1024 [0, 2, 1] (W0 m c (Proc.devRef .tc main_arg1)) _ (ix3 (bat t) a j) = _
  pointwise

/-- The table of distances of point `t`. -/
abbrev tab (t : Fin cfg0.N) : FVec F S1024x256 .f32 := tableD (grid0.coords t) (iblk0 (V3 m) c 1 t) (iblk0 (V3 m) c 2 t)

theorem W4_v37_0 (t : Fin 16) (q : Fin 256) (o : Fin 128) :
    W4 m c (Proc.devRef .tc main_v37_0) (ix3 t q o) = rowsA (grid0.coords (pt0 t)) (iblk0 (V3 m) c 0 (pt0 t)) (iblk0 (V3 m) c 1 (pt0 t)) (ix3 0 q o) :=
  congrFun ((W4_arr m c 3).trans (arr0_3 (V3 m) _ _ c)) (ix3 t q o)
theorem W4_v37_1 (t : Fin 16) (k : Fin 32) (q : Fin 256) :
    W4 m c (Proc.devRef .tc main_v37_1) (ix3 t k q) = rowsJ (tab m c (pt0 t)) (BitVec.ofNat 32 (grid0.coords (pt0 t) 0).val) (ix3 0 k q) :=
  congrFun ((W4_arr m c 4).trans (arr0_4 (V3 m) _ _ c)) (ix3 t k q)
theorem W4_v37_2 (t : Fin 16) (k : Fin 32) (q : Fin 256) :
    W4 m c (Proc.devRef .tc main_v37_2) (ix3 t k q) = rowsM (tab m c (pt0 t)) (ix3 0 k q) :=
  congrFun ((W4_arr m c 5).trans (arr0_5 (V3 m) _ _ c)) (ix3 t k q)

theorem word_and : ∀ a : BitVec 32, (IntOp.andi a 1023#32).toNat < 1024 := fun a => by
  show (a &&& 1023#32).toNat < 1024
  rw [BitVec.toNat_and]
  exact lt_of_le_of_lt Nat.and_le_right (by decide)

theorem word_row (a : BitVec 32) (p : ℕ) (hp : p < 4) :
    (IntOp.addi (IntOp.andi a 1023#32) (IntOp.muli (BitVec.ofNat 32 p) 1024#32)).toNat = (IntOp.andi a 1023#32).toNat + p * 1024 := by
  have h := word_and a
  show ((IntOp.andi a 1023#32) + (BitVec.ofNat 32 p * 1024#32)).toNat = _
  simp only [BitVec.toNat_add, BitVec.toNat_mul, BitVec.toNat_ofNat]
  omega

/-- A position in the list of indices: the grid point, the round and the column. -/
theorem pos_split (n : Fin 131072) : ∃ (t : Fin 16) (k : Fin 32) (q : Fin 256), n = ⟨t.val * 8192 + k.val * 256 + q.val, by omega⟩ :=
  ⟨⟨n.val / 8192, by omega⟩, ⟨n.val / 256 % 32, by omega⟩, ⟨n.val % 256, by omega⟩, Fin.ext (by show n.val = n.val / 8192 * 8192 + n.val / 256 % 32 * 256 + n.val % 256; omega)⟩

theorem W5_idx (t : Fin 16) (k : Fin 32) (q : Fin 256) :
    W5 m c (Proc.devRef .tc main_v39) (ix2 0 ⟨t.val * 8192 + k.val * 256 + q.val, by omega⟩)
      = IntOp.addi (IntOp.andi (pick (tab m c (pt0 t)) (free (tab m c (pt0 t)) k.val) (ix2 0 q)) 1023#32) (IntOp.muli (BitVec.ofNat 32 (grid0.coords (pt0 t) 0).val) 1024#32) := by
  rw [W5_v39]
  exact (v39_at _ t k q).trans ((W4_v37_1 m c t k q).trans (rowsJ_eq _ _ k q))

/-- The indices the SparseCore call is handed are row numbers of its table. -/
theorem xC_ok : PreOK (xC m) := fun d x => by
  obtain ⟨a, n, rfl⟩ : ∃ a n, x = ix2 a n := ⟨x 0, x 1, by funext b; fin_cases b <;> rfl⟩
  obtain rfl : a = 0 := Subsingleton.elim _ _
  obtain ⟨t, k, q, rfl⟩ := pos_split n
  show (show BitVec 32 from W5 m d (Proc.devRef .tc main_v39) (ix2 0 _)).toNat < 4096
  rw [W5_idx m d t k q]
  have hp : (grid0.coords (pt0 t) 0).val < 4 := (grid0.coords (pt0 t) 0).isLt
  refine (word_row _ _ hp).trans_lt ?_
  have := word_and (pick (tab m d (pt0 t)) (free (tab m d (pt0 t)) k.val) (ix2 0 q))
  omega

end

end Cert.Own
-- ==== Proof.Vals7.lean ====
/-
  What the kernel's buffers hold from the SparseCore call to the last pallas_call, read as numbers of the arguments.
-/
module

public import proofs.«01_k».proof.Proof.Vals4

@[expose] public section
set_option maxRecDepth 100000

noncomputable section

namespace Cert.Own

open Cert.KernelIdeal Cert.KernelIdeal.Gen
open Idealize Idealize.ShloMosaic Idealize.ShloMosaic.TcCoe
open Idealize.ShloMosaic.Pipeline

theorem v42_at {α : Type} (x : S131072x128.Idx → α) (t : Fin 16) (k : Fin 32) (q : Fin 256) (o : Fin 128) :
    shapeCast S16x8192x128 x shapeCasts_S131072x128_S16x8192x128 (ix3 t ⟨k.val * 256 + q.val, by omega⟩ o) = x (ix2 ⟨t.val * 8192 + k.val * 256 + q.val, by omega⟩ o) := by
  pointwise
  congr 2
  exact Fin.ext (by show t.val * 8192 + (k.val * 256 + q.val) = t.val * 8192 + k.val * 256 + q.val; omega)

/-- The cloud and the row of it that column `q` of block `t` is. -/
abbrev cloud (t : Fin 16) : Fin 4 := bat (pt0 t)
abbrev prow (t : Fin 16) (q : Fin 256) : Fin 1024 := row (pt0 t) q

theorem v43_at {α : Type} (x : S4x1024x64.Idx → α) (t : Fin 16) (q : Fin 256) (o : Fin 64) :
    shapeCast S16x256x64 x shapeCasts_S4x1024x64_S16x256x64 (ix3 t q o) = x (ix3 (cloud t) (prow t q) o) := by
  pointwise
  rfl

theorem v44_at {α : Type} (x : S4x1024x3.Idx → α) (t : Fin 16) (q : Fin 256) (o : Fin 3) :
    shapeCast S16x256x3 x shapeCasts_S4x1024x3_S16x256x3 (ix3 t q o) = x (ix3 (cloud t) (prow t q) o) := by
  pointwise
  rfl

/-- The block and the column of point `j` of cloud `b`. -/
def blk (b : Fin 4) (j : Fin 1024) : Fin 16 := ⟨b.val * 4 + j.val / 256, by omega⟩
def col (j : Fin 1024) : Fin 256 := ⟨j.val % 256, by omega⟩
theorem cloud_blk (b : Fin 4) (j : Fin 1024) : cloud (blk b j) = b := Fin.ext (by show (b.val * 4 + j.val / 256) / 4 = b.val; omega)
theorem prow_blk (b : Fin 4) (j : Fin 1024) : prow (blk b j) (col j) = j := Fin.ext (by show (b.val * 4 + j.val / 256) % 4 * 256 + j.val % 256 = j.val; omega)

theorem v46_at {α : Type} (x : S16x256x64.Idx → α) (b : Fin 4) (j : Fin 1024) (o : Fin 64) :
    shapeCast S4x1024x64 x shapeCasts_S16x256x64_S4x1024x64 (ix3 b j o) = x (ix3 (blk b j) (col j) o) := by
  pointwise
  rfl

theorem v47_at {α : Type} (x : S16x256x3.Idx → α) (b : Fin 4) (j : Fin 1024) (o : Fin 3) :
    shapeCast S4x1024x3 x shapeCasts_S16x256x3_S4x1024x3 (ix3 b j o) = x (ix3 (blk b j) (col j) o) := by
  pointwise
  rfl

section
variable {F : FTy → Type} [FloatOps F] (m : (ℓ : Loc nD τ sig) → Buf (Elt F) ℓ) (c : Dev nD)

theorem W7_v42 : W7 m c (Proc.devRef .tc main_v42) = shapeCast S16x8192x128 (OUT (tC m c) (xC m c)) shapeCasts_S131072x128_S16x8192x128 := by
  show StableHlo.after hostOps2 _ _ = _
  entry_read
  rw [W6_out]
  rfl
theorem W7_v43 : W7 m c (Proc.devRef .tc main_v43) = shapeCast S16x256x64 (fe0 m c) shapeCasts_S4x1024x64_S16x256x64 := by
  show StableHlo.after hostOps2 _ _ = _
  entry_read
  rw [W6_args m c main_arg0 (by decide +kernel)]
  rfl
theorem W7_v44 : W7 m c (Proc.devRef .tc main_v44) = shapeCast S16x256x3 (co0 m c) shapeCasts_S4x1024x3_S16x256x3 := by
  show StableHlo.after hostOps2 _ _ = _
  entry_read
  rw [W6_args m c main_arg1 (by decide +kernel)]
  rfl
theorem W9_v46 : W9 m c (Proc.devRef .tc main_v46) = shapeCast S4x1024x64 (W8 m c (Proc.devRef .tc main_v45_0)) shapeCasts_S16x256x64_S4x1024x64 := by
  show StableHlo.after hostOps3 _ _ = _
  entry_read
  rfl
theorem W9_v47 : W9 m c (Proc.devRef .tc main_v47) = shapeCast S4x1024x3 (W8 m c (Proc.devRef .tc main_v45_1)) shapeCasts_S16x256x3_S4x1024x3 := by
  show StableHlo.after hostOps3 _ _ = _
  entry_read
  rfl
theorem W7_v37_0 : W7 m c (Proc.devRef .tc main_v37_0) = W4 m c (Proc.devRef .tc main_v37_0) := by
  rw [W7_of m c _ (by decide +kernel), W6_of m c _ (by decide +kernel), W5_of m c _ (by decide +kernel)]
theorem W7_v40 : W7 m c (Proc.devRef .tc main_v40) = shapeCast S16x8192x1 (W4 m c (Proc.devRef .tc main_v37_2)) shapeCasts_S16x32x256_S16x8192x1 := by
  rw [W7_of m c _ (by decide +kernel), W6_of m c _ (by decide +kernel), W5_v40]

/-- The rows the SparseCore call gathers, in terms of the first call's. -/
theorem v42_row (t : Fin 16) (k : Fin 32) (q : Fin 256) (o : Fin 128) (b : Fin 4) (j : Fin 1024)
    (h : (show BitVec 32 from W5 m c (Proc.devRef .tc main_v39) (ix2 0 ⟨t.val * 8192 + k.val * 256 + q.val, by omega⟩)).toNat = j.val + b.val * 1024) :
    W7 m c (Proc.devRef .tc main_v42) (ix3 t ⟨k.val * 256 + q.val, by omega⟩ o) = W4 m c (Proc.devRef .tc main_v37_0) (ix3 (blk b j) (col j) o) := by
  rw [W7_v42]
  refine (v42_at _ t k q o).trans ?_
  show W5 m c (Proc.devRef .tc main_v38) (ix2 ⟨_, _⟩ o) = _
  rw [W5_v38]
  refine Eq.trans (congrArg (fun z => shapeCast S4096x128 _ _ (ix2 z o)) (Fin.ext ?_)) (v38_at _ (blk b j) (col j) o)
  show (show BitVec 32 from W5 m c (Proc.devRef .tc main_v39) (ix2 0 _)).toNat % 4096 = (b.val * 4 + j.val / 256) * 256 + j.val % 256
  refine (congrArg (· % 4096) h).trans ?_
  show (j.val + b.val * 1024) % 4096 = _
  omega

end

section
variable (m : (ℓ : Loc nD τ sig) → Buf (Elt Ideal) ℓ) (c : Dev nD)

/-- The neighbour of round `k`. -/
abbrev nb0 (t : Fin 16) (k : Fin 32) (q : Fin 256) : Fin 1024 := nb (co0 m c) (cloud t) (prow t q) k

theorem tab_at (t : Fin 16) (j : Fin 1024) (q : Fin 256) : tab m c (pt0 t) (ix2 j q) = dist (co0 m c) (cloud t) (prow t q) j :=
  tableD_at (pt0 t) _ _ (co0 m c) (fun j a => iblk_co m c (pt0 t) j a) (fun j a => iblk_co' m c (pt0 t) j a) j q

theorem picks (t : Fin 16) (k : Fin 32) (q : Fin 256) :
    least (tab m c (pt0 t)) (free (tab m c (pt0 t)) k.val) (ix2 0 q) = dist (co0 m c) (cloud t) (prow t q) (nb0 m c t k q)
      ∧ pick (tab m c (pt0 t)) (free (tab m c (pt0 t)) k.val) (ix2 0 q) = BitVec.ofNat 32 (nb0 m c t k q).val :=
  rounds_at (tab m c (pt0 t)) q (dist (co0 m c) (cloud t) (prow t q)) (funext fun j => (tab_at m c t j q).symm) k.val (by omega)

theorem word_and' : ∀ j : Fin 1024, (IntOp.andi (BitVec.ofNat 32 j.val) 1023#32).toNat = j.val := by decide +kernel

theorem idx_at (t : Fin 16) (k : Fin 32) (q : Fin 256) :
    (show BitVec 32 from W5 m c (Proc.devRef .tc main_v39) (ix2 0 ⟨t.val * 8192 + k.val * 256 + q.val, by omega⟩)).toNat = (nb0 m c t k q).val + (cloud t).val * 1024 := by
  rw [W5_idx m c t k q, (picks m c t k q).2]
  refine (word_row _ _ (grid0.coords (pt0 t) 0).isLt).trans ?_
  rw [word_and', coord0_0]
  rfl

theorem v40_val (t : Fin 16) (k : Fin 32) (q : Fin 256) :
    W7 m c (Proc.devRef .tc main_v40) (ix3 t ⟨k.val * 256 + q.val, by omega⟩ 0) = dist (co0 m c) (cloud t) (prow t q) (nb0 m c t k q) := by
  rw [W7_v40]
  exact (v40_at _ t k q).trans ((W4_v37_2 m c t k q).trans ((rowsM_eq _ k q).trans (picks m c t k q).1))

/-- The rows of the first call's table. -/
theorem aug_fe (t : Fin 16) (q : Fin 256) (a : Fin 64) : W4 m c (Proc.devRef .tc main_v37_0) (ix3 t q ⟨a.val, by omega⟩) = fe0 m c (ix3 (cloud t) (prow t q) a) := by
  rw [W4_v37_0, rowsA_feat]
  exact iblk_fe m c (pt0 t) _ a
theorem aug_co (t : Fin 16) (q : Fin 256) (a : Fin 3) : W4 m c (Proc.devRef .tc main_v37_0) (ix3 t q ⟨64 + a.val, by omega⟩) = co0 m c (ix3 (cloud t) (prow t q) a) := by
  rw [W4_v37_0, rowsA_co]
  exact iblk_co m c (pt0 t) _ a
theorem aug_cen (t : Fin 16) (q : Fin 256) (a : Fin 3) : W4 m c (Proc.devRef .tc main_v37_0) (ix3 t q ⟨67 + a.val, by omega⟩) = cen (co0 m c) (cloud t) (prow t q) a := by
  rw [W4_v37_0, rowsA_cen]
  unfold cen
  simp only [iblk_co]

/-- The gathered row of round `k`: the neighbour's. -/
theorem got (t : Fin 16) (k : Fin 32) (q : Fin 256) (o : Fin 128) :
    W7 m c (Proc.devRef .tc main_v42) (ix3 t ⟨k.val * 256 + q.val, by omega⟩ o)
      = W4 m c (Proc.devRef .tc main_v37_0) (ix3 (blk (cloud t) (nb0 m c t k q)) (col (nb0 m c t k q)) o) :=
  v42_row m c t k q o _ _ (idx_at m c t k q)

theorem got_fe (t : Fin 16) (k : Fin 32) (q : Fin 256) (a : Fin 64) :
    W7 m c (Proc.devRef .tc main_v42) (ix3 t ⟨k.val * 256 + q.val, by omega⟩ ⟨a.val, by omega⟩) = fe0 m c (ix3 (cloud t) (nb0 m c t k q) a) := by
  rw [got, aug_fe, cloud_blk, prow_blk]
theorem got_co (t : Fin 16) (k : Fin 32) (q : Fin 256) (a : Fin 3) :
    W7 m c (Proc.devRef .tc main_v42) (ix3 t ⟨k.val * 256 + q.val, by omega⟩ ⟨64 + a.val, by omega⟩) = co0 m c (ix3 (cloud t) (nb0 m c t k q) a) := by
  rw [got, aug_co, cloud_blk, prow_blk]
theorem got_cen (t : Fin 16) (k : Fin 32) (q : Fin 256) (a : Fin 3) :
    W7 m c (Proc.devRef .tc main_v42) (ix3 t ⟨k.val * 256 + q.val, by omega⟩ ⟨67 + a.val, by omega⟩) = cen (co0 m c) (cloud t) (nb0 m c t k q) a := by
  rw [got, aug_cen, cloud_blk, prow_blk]

end

end Cert.Own
-- ==== Proof.Mlp.lean ====
module

public import proofs.«01_k».proof.Proof.Spec
public import Idealize.ShloMosaic.Lib.Pointwise

/-! The network block read at an entry, at the extended reals. -/

@[expose] public section

set_option maxRecDepth 16384

noncomputable section

namespace Cert.Own

open Cert.KernelIdeal Cert.KernelIdeal.Gen
open Idealize.ShloMosaic Idealize.ShloMosaic.TcCoe

variable {F : FTy → Type} [FloatOps F]

/-- A row of the long stack, as a row of the 256 it repeats. -/
abbrev q256 (r : Fin 8192) : Fin 256 := ⟨r.val % 256, Nat.mod_lt _ (by decide)⟩

/-- Thirty-two copies of the same 256 rows, one under the other. -/
def stack258 {α : Type} (x : S256x258.Idx → α) : S8192x258.Idx → α :=
  fun i => x (ix2 (q256 (i 0)) (i 1))
def stack3 {α : Type} (x : S256x3.Idx → α) : S8192x3.Idx → α :=
  fun i => x (ix2 (q256 (i 0)) (i 1))

theorem stack258_eq {α : Type} (x : S256x258.Idx → α) (h) :
    concatenate S8192x258 0 [⟨S256x258, x⟩, ⟨S256x258, x⟩, ⟨S256x258, x⟩, ⟨S256x258, x⟩, ⟨S256x258, x⟩, ⟨S256x258, x⟩, ⟨S256x258, x⟩, ⟨S256x258, x⟩,
      ⟨S256x258, x⟩, ⟨S256x258, x⟩, ⟨S256x258, x⟩, ⟨S256x258, x⟩, ⟨S256x258, x⟩, ⟨S256x258, x⟩, ⟨S256x258, x⟩, ⟨S256x258, x⟩,
      ⟨S256x258, x⟩, ⟨S256x258, x⟩, ⟨S256x258, x⟩, ⟨S256x258, x⟩, ⟨S256x258, x⟩, ⟨S256x258, x⟩, ⟨S256x258, x⟩, ⟨S256x258, x⟩,
      ⟨S256x258, x⟩, ⟨S256x258, x⟩, ⟨S256x258, x⟩, ⟨S256x258, x⟩, ⟨S256x258, x⟩, ⟨S256x258, x⟩, ⟨S256x258, x⟩, ⟨S256x258, x⟩] h = stack258 x := by
  funext i
  refine concatenate_ofFn_apply (s₁ := S256x258) (t := S8192x258) 0 (fun _ : Fin 32 => x) h rfl 256 rfl i ⟨(i 0).val / 256, ?_⟩ rfl (ix2 (q256 (i 0)) (i 1)) rfl ?_
  · have := (i 0).isLt; have e : S8192x258.size 0 = 8192 := rfl; omega
  · intro b hb; fin_cases b
    · exact absurd rfl hb
    · rfl

theorem stack3_eq {α : Type} (x : S256x3.Idx → α) (h) :
    concatenate S8192x3 0 [⟨S256x3, x⟩, ⟨S256x3, x⟩, ⟨S256x3, x⟩, ⟨S256x3, x⟩, ⟨S256x3, x⟩, ⟨S256x3, x⟩, ⟨S256x3, x⟩, ⟨S256x3, x⟩,
      ⟨S256x3, x⟩, ⟨S256x3, x⟩, ⟨S256x3, x⟩, ⟨S256x3, x⟩, ⟨S256x3, x⟩, ⟨S256x3, x⟩, ⟨S256x3, x⟩, ⟨S256x3, x⟩,
      ⟨S256x3, x⟩, ⟨S256x3, x⟩, ⟨S256x3, x⟩, ⟨S256x3, x⟩, ⟨S256x3, x⟩, ⟨S256x3, x⟩, ⟨S256x3, x⟩, ⟨S256x3, x⟩,
      ⟨S256x3, x⟩, ⟨S256x3, x⟩, ⟨S256x3, x⟩, ⟨S256x3, x⟩, ⟨S256x3, x⟩, ⟨S256x3, x⟩, ⟨S256x3, x⟩, ⟨S256x3, x⟩] h = stack3 x := by
  funext i
  refine concatenate_ofFn_apply (s₁ := S256x3) (t := S8192x3) 0 (fun _ : Fin 32 => x) h rfl 256 rfl i ⟨(i 0).val / 256, ?_⟩ rfl (ix2 (q256 (i 0)) (i 1)) rfl ?_
  · have := (i 0).isLt; have e : S8192x3.size 0 = 8192 := rfl; omega
  · intro b hb; fin_cases b
    · exact absurd rfl hb
    · rfl

/-- The blocks of the weights hold the layer's. -/
structure Holds (L : Layer) (x5 : Vec Ideal S256x8192 .bf16) (x6 x7 : Vec Ideal S64x258 .bf16) (x8 : Vec Ideal S1x258 .bf16) (x9 : Vec Ideal S1x258 .f32) (x10 : Vec Ideal S258x16 .bf16) (x11 : Vec Ideal S1x16 .f32)
    (x12 : Vec Ideal S64x128 .bf16) (x13 : Vec Ideal S16x128 .bf16) (x14 : Vec Ideal S1x128 .f32) (x15 : Vec Ideal S128x64 .bf16) (x16 : Vec Ideal S1x64 .f32) (x17 : Vec Ideal S16x128 .bf16) (x18 : Vec Ideal S1x128 .f32)
    (x19 : Vec Ideal S128x2 .bf16) (x20 : Vec Ideal S1x2 .f32) : Prop where
  h5 : ∀ q r, x5 (ix2 q r) = if q256 r = q then (1 : EReal) else 0
  h6 : ∀ (a : Fin 64) o, x6 (ix2 a o) = L.W1 (ix2 ⟨a.val, by omega⟩ o)
  h7 : ∀ (a : Fin 64) o, x7 (ix2 a o) = L.W1 (ix2 ⟨64 + a.val, by omega⟩ o)
  h8 : ∀ o, x8 (ix2 0 o) = L.W1 (ix2 128 o)
  h9 : ∀ o, x9 (ix2 0 o) = L.b1 (ix1 o)
  h10 : ∀ a o, x10 (ix2 a o) = L.W2 (ix2 a o)
  h11 : ∀ o, x11 (ix2 0 o) = L.b2 (ix1 o)
  h12 : ∀ (a : Fin 64) o, x12 (ix2 a o) = L.N1 (ix2 ⟨a.val, by omega⟩ o)
  h13 : ∀ (a : Fin 16) o, x13 (ix2 a o) = L.N1 (ix2 ⟨64 + a.val, by omega⟩ o)
  h14 : ∀ o, x14 (ix2 0 o) = L.d1 (ix1 o)
  h15 : ∀ a o, x15 (ix2 a o) = L.N2 (ix2 a o)
  h16 : ∀ o, x16 (ix2 0 o) = L.d2 (ix1 o)
  h17 : ∀ a (o : Fin 64), x17 (ix2 a ⟨o.val, by omega⟩) = L.A1 (ix2 a o)
  h17' : ∀ a (o : Fin 64), x17 (ix2 a ⟨64 + o.val, by omega⟩) = L.X1 (ix2 a o)
  h18 : ∀ (o : Fin 64), x18 (ix2 0 ⟨o.val, by omega⟩) = L.a1 (ix1 o)
  h18' : ∀ (o : Fin 64), x18 (ix2 0 ⟨64 + o.val, by omega⟩) = L.x1 (ix1 o)
  h19 : ∀ (o : Fin 64), x19 (ix2 ⟨o.val, by omega⟩ 0) = L.A2 (ix2 o 0)
  h19z : ∀ (o : Fin 64), x19 (ix2 ⟨64 + o.val, by omega⟩ 0) = (0 : EReal)
  h19z' : ∀ (o : Fin 64), x19 (ix2 ⟨o.val, by omega⟩ 1) = (0 : EReal)
  h19' : ∀ (o : Fin 64), x19 (ix2 ⟨64 + o.val, by omega⟩ 1) = L.X2 (ix2 o 0)
  h20 : x20 (ix2 0 0) = L.a2 (ix1 0)
  h20' : x20 (ix2 0 1) = L.x2 (ix1 0)

/-- Row `k` of the 32 of query `q`. -/
abbrev row32 (k : Fin 32) (q : Fin 256) : Fin 8192 := ⟨k.val * 256 + q.val, by omega⟩

theorem row32_mod (k : Fin 32) (q : Fin 256) : (k.val * 256 + q.val) % 256 = q.val := by omega

theorem row32_q (k : Fin 32) (q : Fin 256) : q256 (row32 k q) = q := Fin.ext (row32_mod k q)

theorem pay13_at (x0 x1 x2 x3 x4 x5 x6 x7 x8 x9 x10 x11 x12 x13 x14 x15 x16 x17 x18 x19 x20) (q : Fin 256) (o : Fin 3) :
    k2_pay13 (F := Ideal) x0 x1 x2 x3 x4 x5 x6 x7 x8 x9 x10 x11 x12 x13 x14 x15 x16 x17 x18 x19 x20 (ix2 q o) = x4 (ix3 0 q o) := by
  unfold k2_pay13 k2_pay4
  pointwise

section
variable {L : Layer} {x0 : Vec Ideal S1x8192x128 .f32} {x1 : Vec Ideal S1x8192x1 .f32} {x2 : Vec Ideal S1x256x128 .f32} {x3 : Vec Ideal S1x256x64 .f32} {x4 : Vec Ideal S1x256x3 .f32}
  {x5 : Vec Ideal S256x8192 .bf16} {x6 x7 : Vec Ideal S64x258 .bf16} {x8 : Vec Ideal S1x258 .bf16} {x9 : Vec Ideal S1x258 .f32} {x10 : Vec Ideal S258x16 .bf16} {x11 : Vec Ideal S1x16 .f32}
  {x12 : Vec Ideal S64x128 .bf16} {x13 : Vec Ideal S16x128 .bf16} {x14 : Vec Ideal S1x128 .f32} {x15 : Vec Ideal S128x64 .bf16} {x16 : Vec Ideal S1x64 .f32} {x17 : Vec Ideal S16x128 .bf16} {x18 : Vec Ideal S1x128 .f32}
  {x19 : Vec Ideal S128x2 .bf16} {x20 : Vec Ideal S1x2 .f32}

/-- The message of row `r` of a block. -/
abbrev msgB (L : Layer) (x0 : Vec Ideal S1x8192x128 .f32) (x1 : Vec Ideal S1x8192x1 .f32) (x3 : Vec Ideal S1x256x64 .f32) (r : Fin 8192) : Fin 16 → EReal :=
  L.msg (fun a => x3 (ix3 0 (q256 r) a)) (fun a => x0 (ix3 0 r ⟨a.val, by omega⟩)) (x1 (ix3 0 r 0))

variable (H : Holds L x5 x6 x7 x8 x9 x10 x11 x12 x13 x14 x15 x16 x17 x18 x19 x20)
include H

theorem pay5_at (r : Fin 8192) (o : Fin 258) :
    k2_pay5 (F := Ideal) (View.ld x3 r2_0) (View.ld x1 r2_2) (View.ld x6 r2_3) (View.ld x9 r2_4) (View.ld x0 r2_5) (View.ld x7 r2_3) (View.ld x8 r2_4) (ix2 r o)
      = L.hid (fun a => x3 (ix3 0 (q256 r) a)) (fun a => x0 (ix3 0 r ⟨a.val, by omega⟩)) (x1 (ix3 0 r 0)) o := by
  unfold k2_pay5 k2_pay3
  simp only [stack258_eq]
  pointwise [stack258]
  simp only [H.h6, H.h7, H.h8, H.h9]
  rfl

theorem pay14_at (r : Fin 8192) (o : Fin 258) :
    k2_pay14 (F := Ideal) x0 x1 x2 x3 x4 x5 x6 x7 x8 x9 x10 x11 x12 x13 x14 x15 x16 x17 x18 x19 x20 (ix2 r o)
      = Ideal.ofBits .bf16 16128#16 * L.hid (fun a => x3 (ix3 0 (q256 r) a)) (fun a => x0 (ix3 0 r ⟨a.val, by omega⟩)) (x1 (ix3 0 r 0)) o := by
  unfold k2_pay14 k2_pay6
  pointwise
  rw [pay5_at H]

theorem pay15_at (r : Fin 8192) (o : Fin 258) :
    k2_pay15 (F := Ideal) x0 x1 x2 x3 x4 x5 x6 x7 x8 x9 x10 x11 x12 x13 x14 x15 x16 x17 x18 x19 x20 (ix2 r o)
      = Ideal.ofBits .bf16 16128#16 * L.hid (fun a => x3 (ix3 0 (q256 r) a)) (fun a => x0 (ix3 0 r ⟨a.val, by omega⟩)) (x1 (ix3 0 r 0)) o := by
  unfold k2_pay15 k2_pay7
  pointwise
  rw [pay5_at H]

theorem pay16_at (r : Fin 8192) (o : Fin 16) :
    k2_pay16 (F := Ideal) x0 x1 x2 x3 x4 x5 x6 x7 x8 x9 x10 x11 x12 x13 x14 x15 x16 x17 x18 x19 x20 (ix2 r o) = msgB L x0 x1 x3 r o := by
  unfold k2_pay16 k2_pay8
  pointwise
  simp only [pay14_at H, pay15_at H, silu_tanh, H.h10, H.h11]
  rfl

theorem pay17_at (r : Fin 8192) (o : Fin 2) :
    k2_pay17 (F := Ideal) x0 x1 x2 x3 x4 x5 x6 x7 x8 x9 x10 x11 x12 x13 x14 x15 x16 x17 x18 x19 x20 (ix2 r o)
      = ∑ a : Fin 128, silu (∑ c : Fin 16, msgB L x0 x1 x3 r c * x17 (ix2 c a) + x18 (ix2 0 a)) * x19 (ix2 a o) := by
  have e := pay16_at (x0 := x0) (x1 := x1) (x2 := x2) (x3 := x3) (x4 := x4) H
  unfold k2_pay16 at e
  unfold k2_pay17 k2_pay9
  pointwise
  simp only [e, silu_tanh]

theorem pay17_0 (r : Fin 8192) :
    k2_pay17 (F := Ideal) x0 x1 x2 x3 x4 x5 x6 x7 x8 x9 x10 x11 x12 x13 x14 x15 x16 x17 x18 x19 x20 (ix2 r 0) + x20 (ix2 0 0) = L.wc (msgB L x0 x1 x3 r) := by
  rw [pay17_at H, Fin.sum_univ_two_halves 64 64 rfl]
  simp only [H.h19, H.h19z, H.h17, H.h18, H.h20, mul_zero, Finset.sum_const_zero, add_zero]
  rfl

theorem pay17_1 (r : Fin 8192) :
    k2_pay17 (F := Ideal) x0 x1 x2 x3 x4 x5 x6 x7 x8 x9 x10 x11 x12 x13 x14 x15 x16 x17 x18 x19 x20 (ix2 r 1) + x20 (ix2 0 1) = L.wx (msgB L x0 x1 x3 r) := by
  rw [pay17_at H, Fin.sum_univ_two_halves 64 64 rfl]
  simp only [H.h19', H.h19z', H.h17', H.h18', H.h20', mul_zero, Finset.sum_const_zero, zero_add]
  rfl

theorem pool_sum (v : Fin 8192 → EReal) (q : Fin 256) : ∑ r : Fin 8192, x5 (ix2 q r) * v r = ∑ k : Fin 32, v (row32 k q) := by
  simp only [H.h5, ite_mul, one_mul, zero_mul]
  rw [← Finset.sum_filter]
  symm
  refine Finset.sum_bij (fun k _ => row32 k q) ?_ ?_ ?_ ?_
  · intro k _
    simp only [Finset.mem_filter, Finset.mem_univ, true_and, q256, row32, Fin.ext_iff]
    omega
  · intro a _ b _ h
    simp only [row32, Fin.ext_iff] at h ⊢
    omega
  · intro r hr
    simp only [Finset.mem_filter, Finset.mem_univ, true_and, q256, Fin.ext_iff] at hr
    refine ⟨⟨r.val / 256, by omega⟩, Finset.mem_univ _, ?_⟩
    simp only [row32, Fin.ext_iff]
    omega
  · intro a _; rfl

theorem pay11_at (q : Fin 256) (o : Fin 16) :
    k2_pay11 (F := Ideal) (k2_pay13 x0 x1 x2 x3 x4 x5 x6 x7 x8 x9 x10 x11 x12 x13 x14 x15 x16 x17 x18 x19 x20) (k2_pay16 x0 x1 x2 x3 x4 x5 x6 x7 x8 x9 x10 x11 x12 x13 x14 x15 x16 x17 x18 x19 x20) (k2_pay17 x0 x1 x2 x3 x4 x5 x6 x7 x8 x9 x10 x11 x12 x13 x14 x15 x16 x17 x18 x19 x20) (View.ld x20 r2_11) (View.ld x0 r2_12) (View.ld x2 r2_13) (View.ld x0 r2_14) (View.ld x5 r2_15) (ix2 q o)
      = ∑ k : Fin 32, msgB L x0 x1 x3 (row32 k q) o := by
  unfold k2_pay11 k2_pay10
  dsimp only
  rw [stack3_eq, stack3_eq]
  pointwise [stack3]
  simp only [pay16_at H, pool_sum H]

theorem pay12_at (q : Fin 256) (o : Fin 3) :
    k2_pay12 (F := Ideal) (k2_pay13 x0 x1 x2 x3 x4 x5 x6 x7 x8 x9 x10 x11 x12 x13 x14 x15 x16 x17 x18 x19 x20) (k2_pay16 x0 x1 x2 x3 x4 x5 x6 x7 x8 x9 x10 x11 x12 x13 x14 x15 x16 x17 x18 x19 x20) (k2_pay17 x0 x1 x2 x3 x4 x5 x6 x7 x8 x9 x10 x11 x12 x13 x14 x15 x16 x17 x18 x19 x20) (View.ld x20 r2_11) (View.ld x0 r2_12) (View.ld x2 r2_13) (View.ld x0 r2_14) (View.ld x5 r2_15) (ix2 q o)
      = ∑ k : Fin 32, (L.wc (msgB L x0 x1 x3 (row32 k q)) * (x4 (ix3 0 q o) - x0 (ix3 0 (row32 k q) ⟨64 + o.val, by omega⟩))
          + L.wx (msgB L x0 x1 x3 (row32 k q)) * cross (fun c => x2 (ix3 0 q ⟨67 + c.val, by omega⟩)) (fun c => x0 (ix3 0 (row32 k q) ⟨67 + c.val, by omega⟩)) o) + x4 (ix3 0 q o) := by
  unfold k2_pay12 k2_pay10
  dsimp only
  rw [stack3_eq, stack3_eq]
  pointwise [stack3]
  rcases (by omega : o = 0 ∨ o = 1 ∨ o = 2) with rfl | rfl | rfl
  all_goals
    simp only [pay17_0 H, pay17_1 H, pool_sum H, pay13_at, row32_mod, Fin.eta, row32_q]
    rfl

theorem out21_at (q : Fin 256) (o : Fin 64) :
    out2_21 (F := Ideal) x0 x1 x2 x3 x4 x5 x6 x7 x8 x9 x10 x11 x12 x13 x14 x15 x16 x17 x18 x19 x20 (ix3 0 q o)
      = L.node (fun a => x3 (ix3 0 q a)) (fun c => ∑ k : Fin 32, msgB L x0 x1 x3 (row32 k q) c) o := by
  have e : r2_0.emb (ix3 0 q o) = ix3 0 q o := by idx_ext
  unfold out2_21
  refine (congrArg _ e.symm).trans ((View.canon_cons_emb r2_0 _ [] (ix3 0 q o)).trans ?_)
  unfold k2_pay2 k2_pay3
  pointwise
  simp only [pay11_at H, silu_tanh, H.h12, H.h13, H.h14, H.h15, H.h16]
  rfl

theorem out22_at (q : Fin 256) (o : Fin 3) :
    out2_22 (F := Ideal) x0 x1 x2 x3 x4 x5 x6 x7 x8 x9 x10 x11 x12 x13 x14 x15 x16 x17 x18 x19 x20 (ix3 0 q o)
      = ∑ k : Fin 32, (L.wc (msgB L x0 x1 x3 (row32 k q)) * (x4 (ix3 0 q o) - x0 (ix3 0 (row32 k q) ⟨64 + o.val, by omega⟩))
          + L.wx (msgB L x0 x1 x3 (row32 k q)) * cross (fun c => x2 (ix3 0 q ⟨67 + c.val, by omega⟩)) (fun c => x0 (ix3 0 (row32 k q) ⟨67 + c.val, by omega⟩)) o) + x4 (ix3 0 q o) := by
  have e : r2_1.emb (ix3 0 q o) = ix3 0 q o := by idx_ext
  unfold out2_22
  refine (congrArg _ e.symm).trans ((View.canon_cons_emb r2_1 _ [] (ix3 0 q o)).trans ?_)
  unfold k2_pay1
  pointwise
  exact pay12_at H q o

end
end Cert.Own
-- ==== Proof.Weights.lean ====
/-
  The weight arrays the last pallas_call is handed, and the array of ones and zeroes by which it sums over the rounds.
-/
module

public import proofs.«01_k».proof.Proof.Vals7
public import proofs.«01_k».proof.Proof.Mlp

@[expose] public section
set_option maxRecDepth 100000

noncomputable section

namespace Cert.Own

open Cert.KernelIdeal Cert.KernelIdeal.Gen
open Idealize Idealize.ShloMosaic Idealize.ShloMosaic.TcCoe
open Idealize.ShloMosaic.Pipeline

variable (m : (ℓ : Loc nD τ sig) → Buf (Elt Ideal) ℓ) (c : Dev nD)

/-- The weights the kernel is handed. -/
abbrev layer0 : Layer where
  W1 := W0 m c (Proc.devRef .tc main_arg2)
  b1 := W0 m c (Proc.devRef .tc main_arg3)
  W2 := W0 m c (Proc.devRef .tc main_arg4)
  b2 := W0 m c (Proc.devRef .tc main_arg5)
  N1 := W0 m c (Proc.devRef .tc main_arg6)
  d1 := W0 m c (Proc.devRef .tc main_arg7)
  N2 := W0 m c (Proc.devRef .tc main_arg8)
  d2 := W0 m c (Proc.devRef .tc main_arg9)
  A1 := W0 m c (Proc.devRef .tc main_arg10)
  a1 := W0 m c (Proc.devRef .tc main_arg11)
  A2 := W0 m c (Proc.devRef .tc main_arg12)
  a2 := W0 m c (Proc.devRef .tc main_arg13)
  X1 := W0 m c (Proc.devRef .tc main_arg14)
  x1 := W0 m c (Proc.devRef .tc main_arg15)
  X2 := W0 m c (Proc.devRef .tc main_arg16)
  x2 := W0 m c (Proc.devRef .tc main_arg17)

/-- The remainder by 256, as the host takes it of one word. -/
def rem256 (x : BitVec 32) : BitVec 32 :=
  let d : BitVec 32 := Scalar.select (IntOp.cmpi .eq 256#32 0#32) 1#32 256#32
  let y : BitVec 32 := IntOp.remsi .host x d
  Scalar.select (IntOp.andi (IntOp.cmpi .ne (IntOp.cmpi .slt y 0#32) (IntOp.cmpi .slt d 0#32)) (IntOp.cmpi .ne y 0#32)) (IntOp.addi y d) y

theorem rem256_eq : ∀ r : Fin 8192, rem256 (BitVec.ofNat 32 r.val) = BitVec.ofNat 32 (r.val % 256) := by decide +kernel

theorem v3_at (r : Fin 8192) : W2 m c (Proc.devRef .tc main_v3) (ix2 0 r) = BitVec.ofNat 32 (r.val % 256) := by
  show StableHlo.after hostOps0_1 _ _ _ = _
  entry_read
  exact (show _ = rem256 (BitVec.ofNat 32 r.val) from rfl).trans (rem256_eq r)

theorem word_ne : ∀ r q : Fin 256, IntOp.cmpi .eq (BitVec.ofNat 32 r.val) (BitVec.ofNat 32 q.val) = if r = q then 1#1 else 0#1 := fun r q => by
  by_cases h : r = q
  · rw [if_pos h, h]; simp [IntOp.cmpi]
  · rw [if_neg h]
    have e : BitVec.ofNat 32 r.val ≠ BitVec.ofNat 32 q.val := fun e => h (Fin.ext (by
      have := congrArg BitVec.toNat e
      simp only [BitVec.toNat_ofNat] at this
      omega))
    show BitVec.ofBool (BitVec.ofNat 32 r.val == BitVec.ofNat 32 q.val) = 0#1
    rw [beq_eq_false_iff_ne.mpr e]; rfl

theorem v9_of (V : Valuation τ sig (Elt Ideal)) : StableHlo.after hostOps0_2 V (Proc.devRef .tc main_v9)
    = uitofp (F := Ideal) .bf16 (cmpi .eq (broadcastInDim S256x8192 ![0, 1] bcast_S1x8192_S256x8192_0_1 (V (Proc.devRef .tc main_v3)))
      (broadcastInDim S256x8192 ![0, 1] bcast_S256x1_S256x8192_0_1 (broadcastInDim S256x1 ![0] bcast_S256_S256x1_0 (iotaInDim S256 32 0)))) := by
  entry_read
  rfl

theorem w9_at (q : Fin 256) (r : Fin 8192) : (W3 m c (Proc.devRef .tc main_v9) (ix2 q r) : EReal) = if q256 r = q then (1 : EReal) else 0 := by
  refine (congrFun (v9_of (W2 m c)) _).trans ?_
  pointwise
  rw [v3_at, show BitVec.ofNat 32 (r.val % 256) = BitVec.ofNat 32 (q256 r).val from rfl, word_ne]
  by_cases h : q256 r = q
  · rw [if_pos h, if_pos h]
    show ((((1#1 : BitVec 1).toNat : ℕ) : ℝ) : EReal) = 1
    simp
  · rw [if_neg h, if_neg h]
    show ((((0#1 : BitVec 1).toNat : ℕ) : ℝ) : EReal) = 0
    simp

theorem w11 (a : Fin 64) (o : Fin 258) : W3 m c (Proc.devRef .tc main_v11) (ix2 a o) = (layer0 m c).W1 (ix2 ⟨a.val, by omega⟩ o) := by
  show StableHlo.after hostOps0_2 _ _ _ = _
  entry_read
  pointwise

theorem w13 (a : Fin 64) (o : Fin 258) : W3 m c (Proc.devRef .tc main_v13) (ix2 a o) = (layer0 m c).W1 (ix2 ⟨64 + a.val, by omega⟩ o) := by
  show StableHlo.after hostOps0_2 _ _ _ = _
  entry_read
  pointwise

theorem w15 (o : Fin 258) : W3 m c (Proc.devRef .tc main_v15) (ix2 0 o) = (layer0 m c).W1 (ix2 128 o) := by
  show StableHlo.after hostOps0_2 _ _ _ = _
  entry_read
  pointwise

theorem w16 (o : Fin 258) : W3 m c (Proc.devRef .tc main_v16) (ix2 0 o) = (layer0 m c).b1 (ix1 o) := by
  show StableHlo.after hostOps0_2 _ _ _ = _
  entry_read
  pointwise

theorem w17 (a : Fin 258) (o : Fin 16) : W3 m c (Proc.devRef .tc main_v17) (ix2 a o) = (layer0 m c).W2 (ix2 a o) := by
  show StableHlo.after hostOps0_2 _ _ _ = _
  entry_read
  pointwise

theorem w18 (o : Fin 16) : W3 m c (Proc.devRef .tc main_v18) (ix2 0 o) = (layer0 m c).b2 (ix1 o) := by
  show StableHlo.after hostOps0_2 _ _ _ = _
  entry_read
  pointwise

theorem w20 (a : Fin 64) (o : Fin 128) : W3 m c (Proc.devRef .tc main_v20) (ix2 a o) = (layer0 m c).N1 (ix2 ⟨a.val, by omega⟩ o) := by
  show StableHlo.after hostOps0_2 _ _ _ = _
  entry_read
  pointwise

theorem w22 (a : Fin 16) (o : Fin 128) : W3 m c (Proc.devRef .tc main_v22) (ix2 a o) = (layer0 m c).N1 (ix2 ⟨64 + a.val, by omega⟩ o) := by
  show StableHlo.after hostOps0_2 _ _ _ = _
  entry_read
  pointwise

theorem w23 (o : Fin 128) : W3 m c (Proc.devRef .tc main_v23) (ix2 0 o) = (layer0 m c).d1 (ix1 o) := by
  show StableHlo.after hostOps0_2 _ _ _ = _
  entry_read
  pointwise

theorem w24 (a : Fin 128) (o : Fin 64) : W3 m c (Proc.devRef .tc main_v24) (ix2 a o) = (layer0 m c).N2 (ix2 a o) := by
  show StableHlo.after hostOps0_2 _ _ _ = _
  entry_read
  pointwise

theorem w25 (o : Fin 64) : W3 m c (Proc.devRef .tc main_v25) (ix2 0 o) = (layer0 m c).d2 (ix1 o) := by
  show StableHlo.after hostOps0_2 _ _ _ = _
  entry_read
  pointwise

theorem w27_lo (a : Fin 16) (o : Fin 64) : W3 m c (Proc.devRef .tc main_v27) (ix2 a ⟨o.val, by omega⟩) = (layer0 m c).A1 (ix2 a o) := by
  show StableHlo.after hostOps0_2 _ _ _ = _
  entry_read
  pointwise

theorem w27_hi (a : Fin 16) (o : Fin 64) : W3 m c (Proc.devRef .tc main_v27) (ix2 a ⟨64 + o.val, by omega⟩) = (layer0 m c).X1 (ix2 a o) := by
  show StableHlo.after hostOps0_2 _ _ _ = _
  entry_read
  pointwise

theorem w29_lo (o : Fin 64) : W3 m c (Proc.devRef .tc main_v29) (ix2 0 ⟨o.val, by omega⟩) = (layer0 m c).a1 (ix1 o) := by
  show StableHlo.after hostOps0_2 _ _ _ = _
  entry_read
  pointwise

theorem w29_hi (o : Fin 64) : W3 m c (Proc.devRef .tc main_v29) (ix2 0 ⟨64 + o.val, by omega⟩) = (layer0 m c).x1 (ix1 o) := by
  show StableHlo.after hostOps0_2 _ _ _ = _
  entry_read
  pointwise

theorem w34_a (o : Fin 64) : W3 m c (Proc.devRef .tc main_v34) (ix2 ⟨o.val, by omega⟩ 0) = (layer0 m c).A2 (ix2 o 0) := by
  show StableHlo.after hostOps0_2 _ _ _ = _
  entry_read
  pointwise

theorem w34_b (o : Fin 64) : W3 m c (Proc.devRef .tc main_v34) (ix2 ⟨64 + o.val, by omega⟩ 0) = (0 : EReal) := by
  show StableHlo.after hostOps0_2 _ _ _ = _
  entry_read
  pointwise

theorem w34_c (o : Fin 64) : W3 m c (Proc.devRef .tc main_v34) (ix2 ⟨o.val, by omega⟩ 1) = (0 : EReal) := by
  show StableHlo.after hostOps0_2 _ _ _ = _
  entry_read
  pointwise

theorem w34_d (o : Fin 64) : W3 m c (Proc.devRef .tc main_v34) (ix2 ⟨64 + o.val, by omega⟩ 1) = (layer0 m c).X2 (ix2 o 0) := by
  show StableHlo.after hostOps0_2 _ _ _ = _
  entry_read
  pointwise

theorem w36_a  : W3 m c (Proc.devRef .tc main_v36) (ix2 0 0) = (layer0 m c).a2 (ix1 0) := by
  show StableHlo.after hostOps0_2 _ _ _ = _
  entry_read
  pointwise

theorem w36_b  : W3 m c (Proc.devRef .tc main_v36) (ix2 0 1) = (layer0 m c).x2 (ix1 0) := by
  show StableHlo.after hostOps0_2 _ _ _ = _
  entry_read
  pointwise

end Cert.Own
-- ==== Proof.End.lean ====
/-
  The kernel's two results are the layer's.
-/
module

public import proofs.«01_k».proof.Proof.Blocks2
public import proofs.«01_k».proof.Proof.Weights

@[expose] public section
set_option maxRecDepth 100000

noncomputable section

namespace Cert.Own

open Cert.KernelIdeal Cert.KernelIdeal.Gen
open Idealize Idealize.ShloMosaic Idealize.ShloMosaic.TcCoe
open Idealize.ShloMosaic.Pipeline

variable (m : (ℓ : Loc nD τ sig) → Buf (Elt Ideal) ℓ) (c : Dev nD)

/-- What the host wrote before the first call and no call writes is there when the last is made. -/
theorem W7_keep (r : Ref sig .tc) (h7 : r ∉ hostOps2_W) (h6 : r ≠ main_v41) (h5 : r ∉ hostOps1_W)
    (h4 : ∀ w : Fin cfg0.W, Pipeline.arrRef spec0 w = r → (cfg0.win w).isOut = false) :
    W7 m c (Proc.devRef .tc r) = W3 m c (Proc.devRef .tc r) := by
  rw [W7_of m c r h7, W6_of m c r h6, W5_of m c r h5, W4_of m c r h4]

theorem wt_5 (t : Fin cfg2.N) : iblk2 (V7 m) c 5 t = W3 m c (Proc.devRef .tc main_v9) :=
  (blk2_5 (V7 m) c t).trans (W7_keep m c main_v9 (by decide +kernel) (by decide +kernel) (by decide +kernel) (by decide +kernel))
theorem wt_6 (t : Fin cfg2.N) : iblk2 (V7 m) c 6 t = W3 m c (Proc.devRef .tc main_v11) :=
  (blk2_6 (V7 m) c t).trans (W7_keep m c main_v11 (by decide +kernel) (by decide +kernel) (by decide +kernel) (by decide +kernel))
theorem wt_7 (t : Fin cfg2.N) : iblk2 (V7 m) c 7 t = W3 m c (Proc.devRef .tc main_v13) :=
  (blk2_7 (V7 m) c t).trans (W7_keep m c main_v13 (by decide +kernel) (by decide +kernel) (by decide +kernel) (by decide +kernel))
theorem wt_8 (t : Fin cfg2.N) : iblk2 (V7 m) c 8 t = W3 m c (Proc.devRef .tc main_v15) :=
  (blk2_8 (V7 m) c t).trans (W7_keep m c main_v15 (by decide +kernel) (by decide +kernel) (by decide +kernel) (by decide +kernel))
theorem wt_9 (t : Fin cfg2.N) : iblk2 (V7 m) c 9 t = W3 m c (Proc.devRef .tc main_v16) :=
  (blk2_9 (V7 m) c t).trans (W7_keep m c main_v16 (by decide +kernel) (by decide +kernel) (by decide +kernel) (by decide +kernel))
theorem wt_10 (t : Fin cfg2.N) : iblk2 (V7 m) c 10 t = W3 m c (Proc.devRef .tc main_v17) :=
  (blk2_10 (V7 m) c t).trans (W7_keep m c main_v17 (by decide +kernel) (by decide +kernel) (by decide +kernel) (by decide +kernel))
theorem wt_11 (t : Fin cfg2.N) : iblk2 (V7 m) c 11 t = W3 m c (Proc.devRef .tc main_v18) :=
  (blk2_11 (V7 m) c t).trans (W7_keep m c main_v18 (by decide +kernel) (by decide +kernel) (by decide +kernel) (by decide +kernel))
theorem wt_12 (t : Fin cfg2.N) : iblk2 (V7 m) c 12 t = W3 m c (Proc.devRef .tc main_v20) :=
  (blk2_12 (V7 m) c t).trans (W7_keep m c main_v20 (by decide +kernel) (by decide +kernel) (by decide +kernel) (by decide +kernel))
theorem wt_13 (t : Fin cfg2.N) : iblk2 (V7 m) c 13 t = W3 m c (Proc.devRef .tc main_v22) :=
  (blk2_13 (V7 m) c t).trans (W7_keep m c main_v22 (by decide +kernel) (by decide +kernel) (by decide +kernel) (by decide +kernel))
theorem wt_14 (t : Fin cfg2.N) : iblk2 (V7 m) c 14 t = W3 m c (Proc.devRef .tc main_v23) :=
  (blk2_14 (V7 m) c t).trans (W7_keep m c main_v23 (by decide +kernel) (by decide +kernel) (by decide +kernel) (by decide +kernel))
theorem wt_15 (t : Fin cfg2.N) : iblk2 (V7 m) c 15 t = W3 m c (Proc.devRef .tc main_v24) :=
  (blk2_15 (V7 m) c t).trans (W7_keep m c main_v24 (by decide +kernel) (by decide +kernel) (by decide +kernel) (by decide +kernel))
theorem wt_16 (t : Fin cfg2.N) : iblk2 (V7 m) c 16 t = W3 m c (Proc.devRef .tc main_v25) :=
  (blk2_16 (V7 m) c t).trans (W7_keep m c main_v25 (by decide +kernel) (by decide +kernel) (by decide +kernel) (by decide +kernel))
theorem wt_17 (t : Fin cfg2.N) : iblk2 (V7 m) c 17 t = W3 m c (Proc.devRef .tc main_v27) :=
  (blk2_17 (V7 m) c t).trans (W7_keep m c main_v27 (by decide +kernel) (by decide +kernel) (by decide +kernel) (by decide +kernel))
theorem wt_18 (t : Fin cfg2.N) : iblk2 (V7 m) c 18 t = W3 m c (Proc.devRef .tc main_v29) :=
  (blk2_18 (V7 m) c t).trans (W7_keep m c main_v29 (by decide +kernel) (by decide +kernel) (by decide +kernel) (by decide +kernel))
theorem wt_19 (t : Fin cfg2.N) : iblk2 (V7 m) c 19 t = W3 m c (Proc.devRef .tc main_v34) :=
  (blk2_19 (V7 m) c t).trans (W7_keep m c main_v34 (by decide +kernel) (by decide +kernel) (by decide +kernel) (by decide +kernel))
theorem wt_20 (t : Fin cfg2.N) : iblk2 (V7 m) c 20 t = W3 m c (Proc.devRef .tc main_v36) :=
  (blk2_20 (V7 m) c t).trans (W7_keep m c main_v36 (by decide +kernel) (by decide +kernel) (by decide +kernel) (by decide +kernel))

theorem holds0 (t : Fin cfg2.N) : Holds (layer0 m c) (iblk2 (V7 m) c 5 t) (iblk2 (V7 m) c 6 t) (iblk2 (V7 m) c 7 t) (iblk2 (V7 m) c 8 t) (iblk2 (V7 m) c 9 t) (iblk2 (V7 m) c 10 t) (iblk2 (V7 m) c 11 t) (iblk2 (V7 m) c 12 t) (iblk2 (V7 m) c 13 t) (iblk2 (V7 m) c 14 t) (iblk2 (V7 m) c 15 t) (iblk2 (V7 m) c 16 t) (iblk2 (V7 m) c 17 t) (iblk2 (V7 m) c 18 t) (iblk2 (V7 m) c 19 t) (iblk2 (V7 m) c 20 t) where
  h5 := fun q r => (congrFun (wt_5 m c t) _).trans (w9_at m c q r)
  h6 := fun a o => (congrFun (wt_6 m c t) _).trans (w11 m c a o)
  h7 := fun a o => (congrFun (wt_7 m c t) _).trans (w13 m c a o)
  h8 := fun o => (congrFun (wt_8 m c t) _).trans (w15 m c o)
  h9 := fun o => (congrFun (wt_9 m c t) _).trans (w16 m c o)
  h10 := fun a o => (congrFun (wt_10 m c t) _).trans (w17 m c a o)
  h11 := fun o => (congrFun (wt_11 m c t) _).trans (w18 m c o)
  h12 := fun a o => (congrFun (wt_12 m c t) _).trans (w20 m c a o)
  h13 := fun a o => (congrFun (wt_13 m c t) _).trans (w22 m c a o)
  h14 := fun o => (congrFun (wt_14 m c t) _).trans (w23 m c o)
  h15 := fun a o => (congrFun (wt_15 m c t) _).trans (w24 m c a o)
  h16 := fun o => (congrFun (wt_16 m c t) _).trans (w25 m c o)
  h17 := fun a o => (congrFun (wt_17 m c t) _).trans (w27_lo m c a o)
  h17' := fun a o => (congrFun (wt_17 m c t) _).trans (w27_hi m c a o)
  h18 := fun o => (congrFun (wt_18 m c t) _).trans (w29_lo m c o)
  h18' := fun o => (congrFun (wt_18 m c t) _).trans (w29_hi m c o)
  h19 := fun o => (congrFun (wt_19 m c t) _).trans (w34_a m c o)
  h19z := fun o => (congrFun (wt_19 m c t) _).trans (w34_b m c o)
  h19z' := fun o => (congrFun (wt_19 m c t) _).trans (w34_c m c o)
  h19' := fun o => (congrFun (wt_19 m c t) _).trans (w34_d m c o)
  h20 := (congrFun (wt_20 m c t) _).trans (w36_a m c)
  h20' := (congrFun (wt_20 m c t) _).trans (w36_b m c)

section
variable (t : Fin 16) (k : Fin 32) (q : Fin 256)

theorem in3 (a : Fin 64) : iblk2 (V7 m) c 3 (pt2 t) (ix3 0 q a) = fe0 m c (ix3 (cloud t) (prow t q) a) :=
  (congrFun (blk2_3 (V7 m) c (pt2 t)) _).trans ((congrFun (W7_v43 m c) _).trans (v43_at (fe0 m c) t q a))
theorem in4 (a : Fin 3) : iblk2 (V7 m) c 4 (pt2 t) (ix3 0 q a) = co0 m c (ix3 (cloud t) (prow t q) a) :=
  (congrFun (blk2_4 (V7 m) c (pt2 t)) _).trans ((congrFun (W7_v44 m c) _).trans (v44_at (co0 m c) t q a))
theorem in2 (a : Fin 3) : iblk2 (V7 m) c 2 (pt2 t) (ix3 0 q ⟨67 + a.val, by omega⟩) = cen (co0 m c) (cloud t) (prow t q) a :=
  (congrFun (blk2_2 (V7 m) c (pt2 t)) _).trans ((congrFun (W7_v37_0 m c) _).trans (aug_cen m c t q a))
theorem in1 : iblk2 (V7 m) c 1 (pt2 t) (ix3 0 (row32 k q) 0) = dist (co0 m c) (cloud t) (prow t q) (nb0 m c t k q) :=
  (congrFun (blk2_1 (V7 m) c (pt2 t)) _).trans (v40_val m c t k q)
theorem in0_fe (a : Fin 64) : iblk2 (V7 m) c 0 (pt2 t) (ix3 0 (row32 k q) ⟨a.val, by omega⟩) = fe0 m c (ix3 (cloud t) (nb0 m c t k q) a) :=
  (congrFun (blk2_0 (V7 m) c (pt2 t)) _).trans (got_fe m c t k q a)
theorem in0_co (a : Fin 3) : iblk2 (V7 m) c 0 (pt2 t) (ix3 0 (row32 k q) ⟨64 + a.val, by omega⟩) = co0 m c (ix3 (cloud t) (nb0 m c t k q) a) :=
  (congrFun (blk2_0 (V7 m) c (pt2 t)) _).trans (got_co m c t k q a)
theorem in0_cen (a : Fin 3) : iblk2 (V7 m) c 0 (pt2 t) (ix3 0 (row32 k q) ⟨67 + a.val, by omega⟩) = cen (co0 m c) (cloud t) (nb0 m c t k q) a :=
  (congrFun (blk2_0 (V7 m) c (pt2 t)) _).trans (got_cen m c t k q a)

theorem msg_at : msgB (layer0 m c) (iblk2 (V7 m) c 0 (pt2 t)) (iblk2 (V7 m) c 1 (pt2 t)) (iblk2 (V7 m) c 3 (pt2 t)) (row32 k q)
    = emsg (layer0 m c) (fe0 m c) (co0 m c) (cloud t) (prow t q) k := by
  unfold msgB emsg
  rw [row32_q, in1]
  congr 1
  · funext a; exact in3 m c t q a
  · funext a; exact in0_fe m c t k q a

end

theorem wrote21_at (t : Fin 16) (q : Fin 256) (o : Fin 64) :
    wrote21 (V7 m) c (pt2 t) (ix3 0 q o) = newF (layer0 m c) (fe0 m c) (co0 m c) (ix3 (cloud t) (prow t q) o) := by
  rw [wrote21_eq]
  refine (out21_at (holds0 m c (pt2 t)) q o).trans ?_
  simp only [msg_at, in3]
  rfl

theorem wrote22_at (t : Fin 16) (q : Fin 256) (o : Fin 3) :
    wrote22 (V7 m) c (pt2 t) (ix3 0 q o) = newC (layer0 m c) (fe0 m c) (co0 m c) (ix3 (cloud t) (prow t q) o) := by
  rw [wrote22_eq]
  refine (out22_at (holds0 m c (pt2 t)) q o).trans ?_
  simp only [msg_at, in4, in2, in0_co, in0_cen]
  rfl

/-- The kernel's new features. -/
theorem new_features (b : Fin 4) (i : Fin 1024) (o : Fin 64) :
    W9 m c (Proc.devRef .tc main_v46) (ix3 b i o) = newF (layer0 m c) (fe0 m c) (co0 m c) (ix3 b i o) := by
  rw [W9_v46]
  refine (v46_at _ b i o).trans ?_
  refine (congrFun ((W8_arr m c 21).trans (arr2_21 (V7 m) _ _ c)) (ix3 (blk b i) (col i) o)).trans ?_
  refine (wrote21_at m c (blk b i) (col i) o).trans ?_
  rw [cloud_blk, prow_blk]

/-- The kernel's new coordinates. -/
theorem new_coordinates (b : Fin 4) (i : Fin 1024) (o : Fin 3) :
    W9 m c (Proc.devRef .tc main_v47) (ix3 b i o) = newC (layer0 m c) (fe0 m c) (co0 m c) (ix3 b i o) := by
  rw [W9_v47]
  refine (v47_at _ b i o).trans ?_
  refine (congrFun ((W8_arr m c 22).trans (arr2_22 (V7 m) _ _ c)) (ix3 (blk b i) (col i) o)).trans ?_
  refine (wrote22_at m c (blk b i) (col i) o).trans ?_
  rw [cloud_blk, prow_blk]

end Cert.Own
-- ==== Proof.RefVals.lean ====
module

public import proofs.«01_k».proof.Proof.Net
public import proofs.«01_k».proof.Proof.Gen.ReferenceIdeal.Run

/-! The reference's results are the layer's. -/

@[expose] public section

set_option maxRecDepth 16384

noncomputable section

namespace Cert.Own.Ref

open Cert.ReferenceIdeal Cert.ReferenceIdeal.Gen Cert.ReferenceIdeal.Value Cert.Own
open Idealize.ShloMosaic Idealize.ShloMosaic.TcCoe

/-- The rows of points named by words that are row numbers. -/
theorem gather3 {α : Type} (x : S4x1024x3.Idx → α) (w : IVec S4x1024x32x1 32) (b : Fin 4) (i : Fin 1024) (k : Fin 32) (c : Fin 3) (n : Fin 1024)
    (h : w (ix4 b i k 0) = BitVec.ofNat 32 n.val) :
    Host.gather gather_S4x1024x3_S4x1024x32x1_S4x1024x32x3_3_1_0_0_1_3_113 x w (ix4 b i k c) = x (ix3 b n c) := by
  unfold Host.gather
  congr 1
  funext a
  refine Fin.ext ?_
  show (gather_S4x1024x3_S4x1024x32x1_S4x1024x32x3_3_1_0_0_1_3_113).start (ix4 b i k c) w a + (gather_S4x1024x3_S4x1024x32x1_S4x1024x32x3_3_1_0_0_1_3_113).batchCoord (ix4 b i k c) a + (gather_S4x1024x3_S4x1024x32x1_S4x1024x32x3_3_1_0_0_1_3_113).offCoord (ix4 b i k c) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ (gather_S4x1024x3_S4x1024x32x1_S4x1024x32x3_3_1_0_0_1_3_113).operandBatchingDims from List.mem_singleton.mpr rfl)]
    simp only [Nat.zero_add, Nat.add_zero]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S4x1024x3_S4x1024x32x1_S4x1024x32x3_3_1_0_0_1_3_113).startIndexMap from List.mem_singleton.mpr rfl)]
    have hsi : (gather_S4x1024x3_S4x1024x32x1_S4x1024x32x3_3_1_0_0_1_3_113).siIdx (ix4 b i k c) ⟨List.idxOf (1 : Fin 3) (gather_S4x1024x3_S4x1024x32x1_S4x1024x32x3_3_1_0_0_1_3_113).startIndexMap,
        List.idxOf_lt_length_iff.2 (List.mem_singleton.mpr rfl)⟩ = ix4 b i k 0 := by
      funext e; refine Fin.ext ?_
      match e with
      | ⟨0, _⟩ => rfl
      | ⟨1, _⟩ => rfl
      | ⟨2, _⟩ => rfl
      | ⟨3, _⟩ => rfl
    rw [hsi, h, word_int]
    show min n.val 1023 = n.val
    omega
  · rw [GatherDims.batchCoord_eq_zero _ _ _ (by decide)]
    unfold GatherDims.start GatherDims.offCoord
    rw [dif_neg (by decide), dif_pos (by decide)]
    simp only [Nat.zero_add]
    rfl

theorem gather64 {α : Type} (x : S4x1024x64.Idx → α) (w : IVec S4x1024x32x1 32) (b : Fin 4) (i : Fin 1024) (k : Fin 32) (c : Fin 64) (n : Fin 1024)
    (h : w (ix4 b i k 0) = BitVec.ofNat 32 n.val) :
    Host.gather gather_S4x1024x64_S4x1024x32x1_S4x1024x32x64_3_1_0_0_1_3_1164 x w (ix4 b i k c) = x (ix3 b n c) := by
  unfold Host.gather
  congr 1
  funext a
  refine Fin.ext ?_
  show (gather_S4x1024x64_S4x1024x32x1_S4x1024x32x64_3_1_0_0_1_3_1164).start (ix4 b i k c) w a + (gather_S4x1024x64_S4x1024x32x1_S4x1024x32x64_3_1_0_0_1_3_1164).batchCoord (ix4 b i k c) a + (gather_S4x1024x64_S4x1024x32x1_S4x1024x32x64_3_1_0_0_1_3_1164).offCoord (ix4 b i k c) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ (gather_S4x1024x64_S4x1024x32x1_S4x1024x32x64_3_1_0_0_1_3_1164).operandBatchingDims from List.mem_singleton.mpr rfl)]
    simp only [Nat.zero_add, Nat.add_zero]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S4x1024x64_S4x1024x32x1_S4x1024x32x64_3_1_0_0_1_3_1164).startIndexMap from List.mem_singleton.mpr rfl)]
    have hsi : (gather_S4x1024x64_S4x1024x32x1_S4x1024x32x64_3_1_0_0_1_3_1164).siIdx (ix4 b i k c) ⟨List.idxOf (1 : Fin 3) (gather_S4x1024x64_S4x1024x32x1_S4x1024x32x64_3_1_0_0_1_3_1164).startIndexMap,
        List.idxOf_lt_length_iff.2 (List.mem_singleton.mpr rfl)⟩ = ix4 b i k 0 := by
      funext e; refine Fin.ext ?_
      match e with
      | ⟨0, _⟩ => rfl
      | ⟨1, _⟩ => rfl
      | ⟨2, _⟩ => rfl
      | ⟨3, _⟩ => rfl
    rw [hsi, h, word_int]
    show min n.val 1023 = n.val
    omega
  · rw [GatherDims.batchCoord_eq_zero _ _ _ (by decide)]
    unfold GatherDims.start GatherDims.offCoord
    rw [dif_neg (by decide), dif_pos (by decide)]
    simp only [Nat.zero_add]
    rfl

variable (V : Valuation τ sig (Elt Ideal))

/-- The points, as the reference is handed them. -/
abbrev co : S4x1024x3.Idx → EReal := V (Proc.devRef .tc main_arg1)
abbrev fe : S4x1024x64.Idx → EReal := V (Proc.devRef .tc main_arg0)

/-- The weights, as the reference is handed them. -/
abbrev layer : Layer where
  W1 := V (Proc.devRef .tc main_arg2)
  b1 := V (Proc.devRef .tc main_arg3)
  W2 := V (Proc.devRef .tc main_arg4)
  b2 := V (Proc.devRef .tc main_arg5)
  N1 := V (Proc.devRef .tc main_arg6)
  d1 := V (Proc.devRef .tc main_arg7)
  N2 := V (Proc.devRef .tc main_arg8)
  d2 := V (Proc.devRef .tc main_arg9)
  A1 := V (Proc.devRef .tc main_arg10)
  a1 := V (Proc.devRef .tc main_arg11)
  A2 := V (Proc.devRef .tc main_arg12)
  a2 := V (Proc.devRef .tc main_arg13)
  X1 := V (Proc.devRef .tc main_arg14)
  x1 := V (Proc.devRef .tc main_arg15)
  X2 := V (Proc.devRef .tc main_arg16)
  x2 := V (Proc.devRef .tc main_arg17)

theorem v7_at (b : Fin 4) (i j : Fin 1024) : res_main_v7 V (ix3 b i j) = -(dist (co V) b i j) := by
  unfold res_main_v7 res_main_v4
  pointwise
  rfl

theorem along_last {B N M : ℕ} (b : Fin B) (i : Fin N) (j p : Fin M) (h : 2 < (⟨3, ![B, N, M]⟩ : Shape).rank) :
    Shape.Idx.along (s := ⟨3, ![B, N, M]⟩) (ix3 b i j) ⟨2, h⟩ p = ix3 b i p := by
  funext a
  match a with
  | ⟨0, _⟩ => rfl
  | ⟨1, _⟩ => rfl
  | ⟨2, _⟩ => rfl

/-- The positions of the greatest along the last axis. -/
theorem topK_at {B N M K : ℕ} (hK : K ≤ M) (x : FVec Ideal ⟨3, ![B, N, M]⟩ .f32) (h : (⟨3, ![B, N, M]⟩ : Shape).Slices (fun _ => 0) ⟨3, ![B, N, K]⟩)
    (b : Fin B) (i : Fin N) (k : Fin K) :
    (Host.topK ⟨3, ![B, N, K]⟩ 2 (FloatOps.cmpfTotal .gt) x h).2 (ix3 b i k)
      = BitVec.ofNat 32 (sortedFrom (fun p q : Fin M => decide (x (ix3 b i q) < x (ix3 b i p))) ⟨k.val, by omega⟩).val := by
  have hd : 2 < (⟨3, ![B, N, M]⟩ : Shape).rank := Nat.lt_succ_self 2
  have e : ∀ (u : ∀ a : Fin 3, 0 + (ix3 b i k (Fin.cast h.1.symm a)).val < (⟨3, ![B, N, M]⟩ : Shape).size a) (p : Fin M),
      Shape.Idx.along (s := ⟨3, ![B, N, M]⟩) (fun a => ⟨0 + (ix3 b i k (Fin.cast h.1.symm a)).val, u a⟩) ⟨2, hd⟩ p = ix3 b i p := by
    intro u p
    funext a
    match a with
    | ⟨0, _⟩ => exact Fin.ext (Nat.zero_add _)
    | ⟨1, _⟩ => exact Fin.ext (Nat.zero_add _)
    | ⟨2, _⟩ => rfl
  unfold Host.topK Host.sort2
  simp only [extractStridedSlice, hd, dite_true]
  show BitVec.ofNat 32 (sortedFrom _ _).val = _
  have q : (⟨0 + (ix3 b i k (Fin.cast h.1.symm ⟨2, hd⟩)).val, h.2 ⟨2, hd⟩ |> fun l => Nat.lt_of_lt_of_le (Nat.add_lt_add_left (Fin.isLt _) _) l⟩ : Fin M) = ⟨k.val, by omega⟩ := Fin.ext (Nat.zero_add _)
  have c : ∀ x y : EReal, (Ideal.cmpTotal .gt x y == 1#1) = decide (y < x) := fun x y => by
    unfold Ideal.cmpTotal Ideal.cmp
    by_cases l : y < x <;> simp [l, CmpDirection.ordered]
  refine congrArg (fun z : Fin M => BitVec.ofNat 32 z.val) (congrArg₂ (fun f z => sortedFrom (n := M) f z) ?_ q)
  funext k1 k2
  exact (c _ _).trans (congrArg₂ (fun u v => decide (x u < x v)) (e _ k2) (e _ k1))

theorem indices_at (b : Fin 4) (i : Fin 1024) (k : Fin 32) : res_main_indices V (ix3 b i k) = BitVec.ofNat 32 (nb (co V) b i k).val := by
  unfold res_main_indices nb
  refine (topK_at (by decide) _ _ b i k).trans ?_
  rw [near_def]
  have e : (fun p q : Fin 1024 => decide ((show EReal from res_main_v7 V (ix3 b i q)) < (show EReal from res_main_v7 V (ix3 b i p)))) = less (dist (co V) b i) := by
    funext p q
    rw [v7_at, v7_at, less]
    simp only [EReal.neg_lt_neg_iff]
  rw [e]

/-- The row numbers the reference gathers at. -/
abbrev starts : IVec S4x1024x32x1 32 :=
  broadcastInDim S4x1024x32x1 ![0, 1, 2] bcast_S4x1024x32_S4x1024x32x1_0_1_2 (select (cmpi .slt (res_main_indices V) (broadcastInDim S4x1024x32 ![] bcast_S_S4x1024x32 (constantI S_ 32 0#32))) (addi (res_main_indices V) (broadcastInDim S4x1024x32 ![] bcast_S_S4x1024x32 (constantI S_ 32 1024#32))) (res_main_indices V))

theorem word_pos : ∀ j : Fin 1024, IntOp.cmpi .slt (BitVec.ofNat 32 j.val) 0#32 = 0#1 := by decide +kernel

theorem starts_at (b : Fin 4) (i : Fin 1024) (k : Fin 32) : starts V (ix4 b i k 0) = BitVec.ofNat 32 (nb (co V) b i k).val := by
  unfold starts
  pointwise
  rw [indices_at, word_pos, sel_zero]

theorem v17_at (b : Fin 4) (i : Fin 1024) (k : Fin 32) (c : Fin 3) : res_main_v17 V (ix4 b i k c) = co V (ix3 b i c) - co V (ix3 b (nb (co V) b i k) c) := by
  unfold res_main_v17
  pointwise
  rw [gather3 _ _ b i k c _ (starts_at V b i k)]

theorem v26_at (b : Fin 4) (i : Fin 1024) (c : Fin 3) : res_main_v26 V (ix3 b i c) = cen (co V) b i c := by
  unfold res_main_v26
  pointwise
  rfl

theorem v34_at (b : Fin 4) (i : Fin 1024) (k : Fin 32) (c : Fin 3) : res_main_v34 V (ix4 b i k c) = cen (co V) b (nb (co V) b i k) c := by
  unfold res_main_v34
  rw [gather3 _ _ b i k c _ (starts_at V b i k), v26_at]

theorem sum129 (f : Fin 129 → EReal) :
    ∑ r : Fin 129, f r = ∑ a : Fin 64, f ⟨a.val, by omega⟩ + ∑ a : Fin 64, f ⟨64 + a.val, by omega⟩ + f 128 := by
  rw [Fin.sum_univ_castSucc (n := 128), Fin.sum_univ_add (a := 64) (b := 64)]
  rfl

theorem v70_at (b : Fin 4) (i : Fin 1024) (k : Fin 32) (o : Fin 258) :
    res_main_v70 V (ix4 b i k o) = (layer V).hid (fun a => fe V (ix3 b i a)) (fun a => fe V (ix3 b (nb (co V) b i k) a)) (dist (co V) b i (nb (co V) b i k)) o := by
  unfold res_main_v70
  pointwise
  rw [sum129]
  have e1 : ∀ a : Fin 64, a.val < 64 := fun a => a.isLt
  have e2 : ∀ a : Fin 64, ¬ 64 + a.val < 64 := fun a => by omega
  have e3 : ∀ a : Fin 64, 64 + a.val - 64 < 64 := fun a => by omega
  simp only [e1, e2, e3, dite_true, dite_false]
  have e4 : ¬ (128 : Fin 129).val < 64 := by decide
  have e5 : ¬ (128 : Fin 129).val - 64 < 64 := by decide
  simp only [e4, e5, dite_false]
  have g : ∀ a : Fin 64, Host.gather gather_S4x1024x64_S4x1024x32x1_S4x1024x32x64_3_1_0_0_1_3_1164 (fe V) (starts V) (ix4 b i k ⟨64 + a.val - 64, e3 a⟩)
      = fe V (ix3 b (nb (co V) b i k) a) := fun a => by
    rw [gather64 _ _ b i k _ _ (starts_at V b i k)]
    congr 2
    exact Fin.ext (by show 64 + a.val - 64 = a.val; omega)
  rw [Finset.sum_congr rfl fun a _ => congrArg (· * _) (g a)]
  simp only [v17_at]
  unfold Layer.hid dist
  show _ + _ + _ + _ = _ + _ + _ + _
  rw [add_right_comm _ (layer V |>.b1 (ix1 o)), add_right_comm _ (layer V |>.b1 (ix1 o))]

theorem v81_at (b : Fin 4) (i : Fin 1024) (k : Fin 32) (o : Fin 16) :
    res_main_v81 V (ix4 b i k o) = ∑ a : Fin 258, silu ((layer V).hid (fun a => fe V (ix3 b i a)) (fun a => fe V (ix3 b (nb (co V) b i k) a)) (dist (co V) b i (nb (co V) b i k)) a)
      * (layer V).W2 (ix2 a o) + (layer V).b2 (ix1 o) := by
  unfold res_main_v81
  pointwise
  simp only [v70_at]
  rfl

theorem v88_at (b : Fin 4) (i : Fin 1024) (k : Fin 32) (o : Fin 16) : res_main_v88 V (ix4 b i k o) = emsg (layer V) (fe V) (co V) b i k o := by
  unfold res_main_v88
  pointwise
  simp only [v81_at]
  rfl

theorem v92_at (b : Fin 4) (i : Fin 1024) (k : Fin 32) (o : Fin 64) :
    res_main_v92 V (ix4 b i k o) = ∑ c : Fin 16, emsg (layer V) (fe V) (co V) b i k c * (layer V).A1 (ix2 c o) + (layer V).a1 (ix1 o) := by
  unfold res_main_v92
  pointwise
  simp only [v88_at]

theorem v107_at (b : Fin 4) (i : Fin 1024) (k : Fin 32) (o : Fin 64) :
    res_main_v107 V (ix4 b i k o) = ∑ c : Fin 16, emsg (layer V) (fe V) (co V) b i k c * (layer V).X1 (ix2 c o) + (layer V).x1 (ix1 o) := by
  unfold res_main_v107
  pointwise
  simp only [v88_at]

theorem v132_at (b : Fin 4) (i : Fin 1024) (o : Fin 128) :
    res_main_v132 V (ix3 b i o) = ∑ c : Fin 64, fe V (ix3 b i c) * (layer V).N1 (ix2 ⟨c.val, by omega⟩ o)
      + ∑ c : Fin 16, (∑ k : Fin 32, emsg (layer V) (fe V) (co V) b i k c) * (layer V).N1 (ix2 ⟨64 + c.val, by omega⟩ o) + (layer V).d1 (ix1 o) := by
  unfold res_main_v132
  pointwise
  simp only [v88_at]

/-- The reference's new features, as its operations put them. -/
def resF {F : FTy → Type} [FloatOps F] (V : Valuation τ sig (Elt F)) : (Proc.devRef .tc main_v144 : DevRef τ sig).ty.Contents (Elt F) :=
  addf (addf (Host.dotGeneral dot_S4x1024x128_S128x64_S4x1024x64_2_0_01_1_n_n none (mulf (res_main_v132 V) (Host.divf (broadcastInDim S4x1024x128 ![] bcast_S_S4x1024x128 (constant S_ .f32 0x3F800000#32)) (addf (broadcastInDim S4x1024x128 ![] bcast_S_S4x1024x128 (constant S_ .f32 0x3F800000#32)) (Host.exp (Host.negf (res_main_v132 V)))))) (V (Proc.devRef .tc main_arg8))) (broadcastInDim S4x1024x64 ![0, 1, 2] bcast_S1x1x64_S4x1024x64_0_1_2 (broadcastInDim S1x1x64 ![2] bcast_S64_S1x1x64_2 (V (Proc.devRef .tc main_arg9))))) (V (Proc.devRef .tc main_arg0))

/-- The reference's new coordinates, as its operations put them. -/
def resC {F : FTy → Type} [FloatOps F] (V : Valuation τ sig (Elt F)) : (Proc.devRef .tc main_v126 : DevRef τ sig).ty.Contents (Elt F) :=
  addf (addf (Host.reduceAdd (mulf (broadcastInDim S4x1024x32x3 ![0, 1, 2, 3] bcast_S4x1024x32x1_S4x1024x32x3_0_1_2_3 (addf (Host.dotGeneral dot_S4x1024x32x64_S64x1_S4x1024x32x1_3_0_012_1_n_n none (mulf (res_main_v92 V) (Host.divf (broadcastInDim S4x1024x32x64 ![] bcast_S_S4x1024x32x64 (constant S_ .f32 0x3F800000#32)) (addf (broadcastInDim S4x1024x32x64 ![] bcast_S_S4x1024x32x64 (constant S_ .f32 0x3F800000#32)) (Host.exp (Host.negf (res_main_v92 V)))))) (V (Proc.devRef .tc main_arg12))) (broadcastInDim S4x1024x32x1 ![0, 1, 2, 3] bcast_S1x1x1x1_S4x1024x32x1_0_1_2_3 (broadcastInDim S1x1x1x1 ![3] bcast_S1_S1x1x1x1_3 (V (Proc.devRef .tc main_arg13)))))) (res_main_v17 V)) (constant S_ .f32 0x00000000#32) reducesTo_S4x1024x32x3_S4x1024x3_d2 h_S_) (Host.reduceAdd (mulf (broadcastInDim S4x1024x32x3 ![0, 1, 2, 3] bcast_S4x1024x32x1_S4x1024x32x3_0_1_2_3 (addf (Host.dotGeneral dot_S4x1024x32x64_S64x1_S4x1024x32x1_3_0_012_1_n_n none (mulf (res_main_v107 V) (Host.divf (broadcastInDim S4x1024x32x64 ![] bcast_S_S4x1024x32x64 (constant S_ .f32 0x3F800000#32)) (addf (broadcastInDim S4x1024x32x64 ![] bcast_S_S4x1024x32x64 (constant S_ .f32 0x3F800000#32)) (Host.exp (Host.negf (res_main_v107 V)))))) (V (Proc.devRef .tc main_arg16))) (broadcastInDim S4x1024x32x1 ![0, 1, 2, 3] bcast_S1x1x1x1_S4x1024x32x1_0_1_2_3 (broadcastInDim S1x1x1x1 ![3] bcast_S1_S1x1x1x1_3 (V (Proc.devRef .tc main_arg17)))))) ((concatenate S4x1024x32x3 3 [⟨S4x1024x32x1, ((subf (mulf (broadcastInDim S4x1024x32x1 ![0, 1, 2, 3] bcast_S4x1024x1x1_S4x1024x32x1_0_1_2_3 (res_main_v36 V)) (res_main_v40 V)) (mulf (broadcastInDim S4x1024x32x1 ![0, 1, 2, 3] bcast_S4x1024x1x1_S4x1024x32x1_0_1_2_3 (res_main_v37 V)) (res_main_v39 V))) : (⟨S4x1024x32x1, .f32⟩ : BufTy).Contents (Elt F))⟩, ⟨S4x1024x32x1, ((subf (mulf (broadcastInDim S4x1024x32x1 ![0, 1, 2, 3] bcast_S4x1024x1x1_S4x1024x32x1_0_1_2_3 (res_main_v37 V)) (res_main_v38 V)) (mulf (broadcastInDim S4x1024x32x1 ![0, 1, 2, 3] bcast_S4x1024x1x1_S4x1024x32x1_0_1_2_3 (res_main_v35 V)) (res_main_v40 V))) : (⟨S4x1024x32x1, .f32⟩ : BufTy).Contents (Elt F))⟩, ⟨S4x1024x32x1, ((subf (mulf (broadcastInDim S4x1024x32x1 ![0, 1, 2, 3] bcast_S4x1024x1x1_S4x1024x32x1_0_1_2_3 (res_main_v35 V)) (res_main_v39 V)) (mulf (broadcastInDim S4x1024x32x1 ![0, 1, 2, 3] bcast_S4x1024x1x1_S4x1024x32x1_0_1_2_3 (res_main_v36 V)) (res_main_v38 V))) : (⟨S4x1024x32x1, .f32⟩ : BufTy).Contents (Elt F))⟩] concatenates_S4x1024x32x1_S4x1024x32x1_S4x1024x32x1_S4x1024x32x3_d3 : (⟨S4x1024x32x3, .f32⟩ : BufTy).Contents (Elt F)))) (constant S_ .f32 0x00000000#32) reducesTo_S4x1024x32x3_S4x1024x3_d2 h_S_)) (V (Proc.devRef .tc main_arg1))

theorem resF_at (b : Fin 4) (i : Fin 1024) (o : Fin 64) : resF V (ix3 b i o) = newF (layer V) (fe V) (co V) (ix3 b i o) := by
  unfold resF
  pointwise
  simp only [v132_at]
  rfl

theorem v35_at (b : Fin 4) (i : Fin 1024) : res_main_v35 V (ix4 b i 0 0) = cen (co V) b i 0 := by
  unfold res_main_v35 res_main_v27
  pointwise
  exact v26_at V b i 0

theorem v36_at (b : Fin 4) (i : Fin 1024) : res_main_v36 V (ix4 b i 0 0) = cen (co V) b i 1 := by
  unfold res_main_v36 res_main_v27
  pointwise
  exact v26_at V b i 1

theorem v37_at (b : Fin 4) (i : Fin 1024) : res_main_v37 V (ix4 b i 0 0) = cen (co V) b i 2 := by
  unfold res_main_v37 res_main_v27
  pointwise
  exact v26_at V b i 2

theorem v38_at (b : Fin 4) (i : Fin 1024) (k : Fin 32) : res_main_v38 V (ix4 b i k 0) = cen (co V) b (nb (co V) b i k) 0 := by
  unfold res_main_v38
  pointwise
  exact v34_at V b i k 0

theorem v39_at (b : Fin 4) (i : Fin 1024) (k : Fin 32) : res_main_v39 V (ix4 b i k 0) = cen (co V) b (nb (co V) b i k) 1 := by
  unfold res_main_v39
  pointwise
  exact v34_at V b i k 1

theorem v40_at (b : Fin 4) (i : Fin 1024) (k : Fin 32) : res_main_v40 V (ix4 b i k 0) = cen (co V) b (nb (co V) b i k) 2 := by
  unfold res_main_v40
  pointwise
  exact v34_at V b i k 2

theorem resC_at (b : Fin 4) (i : Fin 1024) (o : Fin 3) : resC V (ix3 b i o) = newC (layer V) (fe V) (co V) (ix3 b i o) := by
  unfold resC
  pointwise
  simp only [v92_at, v107_at, v17_at]
  rw [← Finset.sum_add_distrib]
  refine congrArg (· + co V (ix3 b i o)) (Finset.sum_congr rfl fun k _ => congrArg (HAdd.hAdd _) (congrArg (HMul.hMul _) ?_))
  match o with
  | ⟨0, _⟩ => exact congrArg₂ (· - ·) (congrArg₂ (· * ·) (v36_at V b i) (v40_at V b i k)) (congrArg₂ (· * ·) (v37_at V b i) (v39_at V b i k))
  | ⟨1, _⟩ => exact congrArg₂ (· - ·) (congrArg₂ (· * ·) (v37_at V b i) (v38_at V b i k)) (congrArg₂ (· * ·) (v35_at V b i) (v40_at V b i k))
  | ⟨2, _⟩ => exact congrArg₂ (· - ·) (congrArg₂ (· * ·) (v35_at V b i) (v39_at V b i k)) (congrArg₂ (· * ·) (v36_at V b i) (v38_at V b i k))
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Main
public import proofs.«01_k».proof.Proof.Same
public import proofs.«01_k».proof.Proof.End
public import proofs.«01_k».proof.Proof.RefVals
public import Idealize.ShloMosaic.Adequacy
public import Idealize.ShloMosaic.Init

@[expose] public section

noncomputable section

namespace Cert.Proof

open Idealize.ShloMosaic Idealize.SL.Sem Cert.Kernel

/-- The run of the kernel leaves each argument as it was. -/
theorem args_kept {F : FTy → Type} [FloatOps F]
    {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (hr : Cert.Own.QC m r)
    (c : Dev Cert.KernelIdeal.nD) (a : Ref Cert.KernelIdeal.sig .tc) (ha : a ∈ Cert.Own.argRefs)
    (hs : ¬ (Proc.devRef .tc a : DevRef Cert.KernelIdeal.τ Cert.KernelIdeal.sig).isScoped) :
    r.2.mem ((c.tc : Thread Cert.KernelIdeal.nD Cert.KernelIdeal.τ).loc a) = m ((c.tc : Thread Cert.KernelIdeal.nD Cert.KernelIdeal.τ).loc a) :=
  (hr.1 c _ (Cert.Own.mem_uc a hs)).trans (Cert.Own.W9_args m c a ha)

/-- All eighteen of them. -/
abbrev Kept {F : FTy → Type} (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (c : Dev Cert.KernelIdeal.nD) : Prop :=
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
    ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
    ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
    ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
    ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
    ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
    ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
    ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
    ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
    ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
    ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)

theorem all_kept {F : FTy → Type} [FloatOps F]
    {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (hr : Cert.Own.QC m r)
    (c : Dev Cert.KernelIdeal.nD) : Kept m r c := by
  refine ⟨?_, ?_, ?_, ?_, ?_, ?_, ?_, ?_, ?_, ?_, ?_, ?_, ?_, ?_, ?_, ?_, ?_, ?_⟩ <;>
    exact args_kept hr c _ (by decide +kernel) (by decide +kernel)

/-- Over any float values, and with any table of bodies equal to the kernel's, the kernel runs, keeps its arguments and ends with every counter at zero. -/
theorem frame {F : FTy → Type} [FloatOps F] [∀ e, Nonempty (Elt F e)]
    (D : Defs Cert.KernelIdeal.nD Cert.KernelIdeal.τ Cert.KernelIdeal.sig (Elt F) _) (hD : D = Cert.KernelIdeal.defs (F := F))
    (m : (ℓ : Loc Cert.KernelIdeal.nD Cert.KernelIdeal.τ Cert.KernelIdeal.sig) → Buf (Elt F) ℓ) (ρ : Dev Cert.KernelIdeal.nD → PrngReg) :
    θ_run D (Cert.KernelIdeal.threads (F := F)) ⟨m, fun _ => 0, ρ⟩
      fun r => (∀ c : Dev Cert.KernelIdeal.nD, Kept m r c) ∧ r.2.sem = fun _ => 0 := by
  subst hD
  exact (θ_run Cert.KernelIdeal.defs _ _).mono (fun _ hr => ⟨fun c => all_kept hr c, hr.2⟩)
    (Cert.Own.run_main m ρ (Cert.Own.xC_ok m))

theorem frame_kernelIdeal : Cert.quiescent_KernelIdeal := fun m ρ _ => frame Cert.KernelIdeal.defs rfl m ρ

set_option maxRecDepth 100000 in
set_option maxHeartbeats 20000000 in
theorem frame_kernel : Cert.quiescent_Kernel := fun m ρ _ => frame (F := Bits) Cert.Kernel.defs Cert.Own.defs_same m ρ

theorem frame_referenceIdeal : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ)
  (V : Valuation Cert.ReferenceIdeal.τ Cert.ReferenceIdeal.sig (Elt Ideal)) (c : Dev Cert.KernelIdeal.nD)

/-- The reference's new features are the kernel's, when the two are handed the same arguments. -/
theorem features_eq (hl : Cert.Own.Ref.layer V = Cert.Own.layer0 m c) (hf : Cert.Own.Ref.fe V = Cert.Own.fe0 m c) (hc : Cert.Own.Ref.co V = Cert.Own.co0 m c) :
    Cert.Own.Ref.resF V = Cert.Own.W9 m c (Proc.devRef .tc Cert.KernelIdeal.main_v46) := by
  funext i
  refine (congrArg (Cert.Own.Ref.resF V) (ix3_eta i).symm).trans ?_
  refine ((Cert.Own.Ref.resF_at V _ _ _).trans ?_).trans ((Cert.Own.new_features m c _ _ _).symm.trans (congrArg _ (ix3_eta i)))
  rw [hl, hf, hc]

/-- And so are its new coordinates. -/
theorem coordinates_eq (hl : Cert.Own.Ref.layer V = Cert.Own.layer0 m c) (hf : Cert.Own.Ref.fe V = Cert.Own.fe0 m c) (hc : Cert.Own.Ref.co V = Cert.Own.co0 m c) :
    Cert.Own.Ref.resC V = Cert.Own.W9 m c (Proc.devRef .tc Cert.KernelIdeal.main_v47) := by
  funext i
  refine (congrArg (Cert.Own.Ref.resC V) (ix3_eta i).symm).trans ?_
  refine ((Cert.Own.Ref.resC_at V _ _ _).trans ?_).trans ((Cert.Own.new_coordinates m c _ _ _).symm.trans (congrArg _ (ix3_eta i)))
  rw [hl, hf, hc]

end

theorem algebraic : Cert.algebraic_KernelIdeal_ReferenceIdeal := fun m ρ m' ρ' _ hm => by
  have hl : ∀ c, Cert.Own.Ref.layer (StableHlo.launchContents m' c) = Cert.Own.layer0 m c := fun c => by
    obtain ⟨_, _, h2, h3, h4, h5, h6, h7, h8, h9, h10, h11, h12, h13, h14, h15, h16, h17⟩ := hm c
    exact Cert.Own.Layer.mk.injEq .. ▸ ⟨h2, h3, h4, h5, h6, h7, h8, h9, h10, h11, h12, h13, h14, h15, h16, h17⟩
  refine ⟨fun c => Cert.Own.W9 m c (Proc.devRef .tc Cert.KernelIdeal.main_v46), fun c => Cert.Own.W9 m c (Proc.devRef .tc Cert.KernelIdeal.main_v47), ?_, ?_⟩
  · refine (θ_run Cert.KernelIdeal.defs _ _).mono (fun _ hr c => ?_) (Cert.Own.run_main (F := Ideal) m ρ (Cert.Own.xC_ok m))
    exact ⟨hr.1 c _ (Cert.Own.mem_uc Cert.KernelIdeal.main_v46 (by decide +kernel)),
      hr.1 c _ (Cert.Own.mem_uc Cert.KernelIdeal.main_v47 (by decide +kernel)), all_kept hr c⟩
  · exact (θ_run Cert.ReferenceIdeal.defs _ _).mono (fun _ hr c =>
        ⟨(hr c).1.trans (features_eq m (StableHlo.launchContents m' c) c (hl c) (hm c).1 (hm c).2.1),
          (hr c).2.1.trans (coordinates_eq m (StableHlo.launchContents m' c) c (hl c) (hm c).1 (hm c).2.1), (hr c).2.2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
